-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)) (v2 : (c : Dev Cert.Kernel7Ideal.nD) → Buf (Elt Ideal) ((c.tc : Thread Cert.Kernel7Ideal.nD Cert.Kernel7Ideal.τ).loc Cert.Kernel7Ideal.main_v13_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_v13_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v35) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel9_Kernel9Ideal
    ∧ algebraic_Kernel9Ideal_Reference9Ideal (hKernel9Ideal := hKernel9Ideal) (hReference9Ideal := hReference9Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S16 : Shape := ⟨1, ![16]⟩
abbrev S8192x2048 : Shape := ⟨2, ![8192, 2048]⟩
abbrev S256x1024 : Shape := ⟨2, ![256, 1024]⟩
abbrev S2048x1024 : Shape := ⟨2, ![2048, 1024]⟩
abbrev S1 : Shape := ⟨1, ![1]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 10
  | .smem => 1
  | _ => 0

abbrev bufTy : (tb : Table) → Fin (tcTables nBuf tb) → BufTy
  | .hbm, ⟨0, _⟩ => ⟨S16, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 8], ![false, false, false]⟩

def k0_off1 (i : grid0.Coords) (c0_i32 : BitVec 32) : Fin 1 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let v2 : Index := Scalar.indexCast v1
  ![v2.toNat]
def k0_mult1 (i : grid0.Coords) : BitVec 32 :=
  let arg2 : BitVec 32 := BitVec.ofNat 32 (i 2).val
  let c256_i32 : BitVec 32 := 256#32
  let v82 : BitVec 32 := Scalar.muli arg2 c256_i32
  v82
def k0_off2 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v84 : Index := Scalar.indexCast v83
  let c0_32 : Index := 0#32
  ![v84.toNat, 0]
def k0_off3 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v89 : Index := Scalar.indexCast v83
  let c128_34 : Index := 128#32
  ![v89.toNat, 128]
def k0_off4 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v94 : Index := Scalar.indexCast v83
  let c256_36 : Index := 256#32
  ![v94.toNat, 256]
def k0_off5 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v99 : Index := Scalar.indexCast v83
  let c384_38 : Index := 384#32
  ![v99.toNat, 384]
def k0_off6 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v104 : Index := Scalar.indexCast v83
  let c512_40 : Index := 512#32
  ![v104.toNat, 512]
def k0_off7 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v109 : Index := Scalar.indexCast v83
  let c640_42 : Index := 640#32
  ![v109.toNat, 640]
def k0_off8 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v114 : Index := Scalar.indexCast v83
  let c768_44 : Index := 768#32
  ![v114.toNat, 768]
def k0_off9 (i : grid0.Coords) : Fin 2 → Nat :=
  let arg2 : BitVec 32 := BitVec.ofNat 32 (i 2).val
  let c256_i32 : BitVec 32 := 256#32
  let v82 : BitVec 32 := Scalar.muli arg2 c256_i32
  let v83 : BitVec 32 := v82
  let v119 : Index := Scalar.indexCast v83
  let c896_46 : Index := 896#32
  ![v119.toNat, 896]
@[reducible] def k0_t1_loop (i : grid0.Coords) : Scf.Loop 32 :=
  let c0_i32_136 : BitVec 32 := 0#32
  let arg2 : BitVec 32 := BitVec.ofNat 32 (i 2).val
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_138 : BitVec 32 := 1#32
  ⟨c0_i32_136, v360, c1_i32_138⟩
def k0_mult2 (i : grid0.Coords) (k0_t1 : Fin (k0_t1_loop i).trips) : BitVec 32 :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  v445
def k0_off10 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v447 : Index := Scalar.indexCast v446
  let c0_190 : Index := 0#32
  ![v447.toNat, 0]
def k0_off11 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v452 : Index := Scalar.indexCast v446
  let c128_192 : Index := 128#32
  ![v452.toNat, 128]
def k0_off12 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v457 : Index := Scalar.indexCast v446
  let c256_194 : Index := 256#32
  ![v457.toNat, 256]
def k0_off13 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v462 : Index := Scalar.indexCast v446
  let c384_196 : Index := 384#32
  ![v462.toNat, 384]
def k0_off14 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v467 : Index := Scalar.indexCast v446
  let c512_198 : Index := 512#32
  ![v467.toNat, 512]
def k0_off15 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v472 : Index := Scalar.indexCast v446
  let c640_200 : Index := 640#32
  ![v472.toNat, 640]
def k0_off16 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v477 : Index := Scalar.indexCast v446
  let c768_202 : Index := 768#32
  ![v477.toNat, 768]
def k0_off17 (i : grid0.Coords) (k0_t1 : Fin (k0_t1_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let c1_i32_138 : BitVec 32 := 1#32
  let arg9 : BitVec 32 := Scf.iv c0_i32_136 c1_i32_138 k0_t1
  let v444 : BitVec 32 := Scalar.subi v443 arg9
  let c256_i32_189 : BitVec 32 := 256#32
  let v445 : BitVec 32 := Scalar.muli v444 c256_i32_189
  let v446 : BitVec 32 := v445
  let v482 : Index := Scalar.indexCast v446
  let c896_204 : Index := 896#32
  ![v482.toNat, 896]
@[reducible] def k0_t2_loop (i : grid0.Coords) : Scf.Loop 32 :=
  let c0_i32_136 : BitVec 32 := 0#32
  let arg2 : BitVec 32 := BitVec.ofNat 32 (i 2).val
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let v357 : BitVec 32 := Scalar.addi c0_i32_136 v356
  let c1_i32_139 : BitVec 32 := 1#32
  ⟨v360, v357, c1_i32_139⟩
def k0_mult3 (i : grid0.Coords) (k0_t2 : Fin (k0_t2_loop i).trips) : BitVec 32 :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  v445
def k0_off18 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v447 : Index := Scalar.indexCast v446
  let c0_190 : Index := 0#32
  ![v447.toNat, 0]
def k0_off19 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v452 : Index := Scalar.indexCast v446
  let c128_192 : Index := 128#32
  ![v452.toNat, 128]
def k0_off20 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v457 : Index := Scalar.indexCast v446
  let c256_194 : Index := 256#32
  ![v457.toNat, 256]
def k0_off21 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v462 : Index := Scalar.indexCast v446
  let c384_196 : Index := 384#32
  ![v462.toNat, 384]
def k0_off22 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v467 : Index := Scalar.indexCast v446
  let c512_198 : Index := 512#32
  ![v467.toNat, 512]
def k0_off23 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v472 : Index := Scalar.indexCast v446
  let c640_200 : Index := 640#32
  ![v472.toNat, 640]
def k0_off24 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v477 : Index := Scalar.indexCast v446
  let c768_202 : Index := 768#32
  ![v477.toNat, 768]
def k0_off25 (i : grid0.Coords) (k0_t2 : Fin (k0_t2_loop i).trips) : Fin 2 → Nat :=
  let arg2 : BitVec 32 := BitVec.ofNat 32 (i 2).val
  let c1_i32_188 : BitVec 32 := 1#32
  let v443 : BitVec 32 := Scalar.subi arg2 c1_i32_188
  let c0_i32_136 : BitVec 32 := 0#32
  let v356 : BitVec 32 := Scalar.subi arg2 c0_i32_136
  let c1_i32_137 : BitVec 32 := 1#32
  let v358 : BitVec 32 := Scalar.divsi v356 c1_i32_137
  let v359 : BitVec 32 := Scalar.muli v358 c1_i32_137
  let v360 : BitVec 32 := Scalar.addi c0_i32_136 v359
  let c1_i32_139 : BitVec 32 := 1#32
  let arg9 : BitVec 32 := Scf.iv v360 c1_i32_139 k0_t2
  let v444 : BitVec 32 := Scalar.subi v443 arg9
  let c256_i32_189 : BitVec 32 := 256#32
  let v445 : BitVec 32 := Scalar.muli v444 c256_i32_189
  let v446 : BitVec 32 := v445
  let v482 : Index := Scalar.indexCast v446
  let c896_204 : Index := 896#32
  ![v482.toNat, 896]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S16 : Shape := ⟨1, ![16]⟩
abbrev S8192x2048 : Shape := ⟨2, ![8192, 2048]⟩
abbrev S4x2048x16x128 : Shape := ⟨4, ![4, 2048, 16, 128]⟩
abbrev S_ : Shape := ⟨0, ![]⟩
abbrev S2048 : Shape := ⟨1, ![2048]⟩
abbrev S4x16x2048x2048 : Shape := ⟨4, ![4, 16, 2048, 2048]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x16x128x2048 : Shape := ⟨4, ![4, 16, 128, 2048]⟩

abbrev nBuf : Space → Nat
  | .hbm => 90
  | .vmem => 0
  | .smem => 0
  | _ => 0

abbrev bufTy : (tb : Table) → Fin (tcTables nBuf tb) → BufTy
  | .hbm, ⟨0, _⟩ => ⟨S16, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x16x128, .f32⟩
  | .hbm, ⟨6, _⟩ => ⟨S8192x2048, .f32⟩
  | .hbm, ⟨7, _⟩ => ⟨S4x2048x16x128, .f32⟩
  | .hbm, ⟨8, _⟩ => ⟨S8192x2048, .f32⟩
  | .hbm, ⟨9, _⟩ => ⟨S4x2048x16x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048, .i32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S1x16x1x1, .f32⟩
  | .hbm, ⟨19, _⟩ => ⟨S4x16x2048x2048, .f32⟩
  | .hbm, ⟨20, _⟩ => ⟨S4x16x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x1x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .i1⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S_, .f32⟩
  | .hbm, ⟨46, _⟩ => ⟨S4x16x2048x2048, .i1⟩
  | .hbm, ⟨47, _⟩ => ⟨S4x16x2048x2048, .f32⟩
  | .hbm, ⟨48, _⟩ => ⟨S4x16x2048x2048, .f32⟩
  | .hbm, ⟨49, _⟩ => ⟨S_, .f32⟩
  | .hbm, ⟨50, _⟩ => ⟨S_, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S_, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .i1⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S4x16x2048x2048, .f32⟩
  | .hbm, ⟨65, _⟩ => ⟨S4x16x2048x2048, .f32⟩
  | .hbm, ⟨66, _⟩ => ⟨S4x16x2048x2048, .f32⟩
  | .hbm, ⟨67, _⟩ => ⟨S4x16x2048x2048, .f32⟩
  | .hbm, ⟨68, _⟩ => ⟨S4x16x2048x2048, .f32⟩
  | .hbm, ⟨69, _⟩ => ⟨S4x16x2048x2048, .f32⟩
  | .hbm, ⟨70, _⟩ => ⟨S4x16x2048x2048, .f32⟩
  | .hbm, ⟨71, _⟩ => ⟨S_, .f32⟩
  | .hbm, ⟨72, _⟩ => ⟨S_, .f32⟩
  | .hbm, ⟨73, _⟩ => ⟨S4x16x2048x2048, .i1⟩
  | .hbm, ⟨74, _⟩ => ⟨S4x16x2048x2048, .f32⟩
  | .hbm, ⟨75, _⟩ => ⟨S4x16x2048x2048, .f32⟩
  | .hbm, ⟨76, _⟩ => ⟨S4x16x128x2048, .f32⟩
  | .hbm, ⟨77, _⟩ => ⟨S4x2048x16x128, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_call2_cst : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_2 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_call5_v0 : Ref sig .tc := ⟨.hbm, 79, rfl⟩
abbrev main_call5_v1 : Ref sig .tc := ⟨.hbm, 80, rfl⟩
abbrev main_call5_cst : Ref sig .tc := ⟨.hbm, 81, rfl⟩
abbrev main_call5_v2 : Ref sig .tc := ⟨.hbm, 82, rfl⟩
abbrev main_call5_v3 : Ref sig .tc := ⟨.hbm, 83, rfl⟩
abbrev main_call5_cst_0 : Ref sig .tc := ⟨.hbm, 84, rfl⟩
abbrev main_call5_v4 : Ref sig .tc := ⟨.hbm, 85, rfl⟩
abbrev main_call5_v5 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S8192x2048 : Shape := ⟨2, ![8192, 2048]⟩
abbrev S6x2048 : Shape := ⟨2, ![6, 2048]⟩
abbrev S4x2048x2048 : Shape := ⟨3, ![4, 2048, 2048]⟩
abbrev S4x8192x2048 : Shape := ⟨3, ![4, 8192, 2048]⟩
abbrev S512x2048 : Shape := ⟨2, ![512, 2048]⟩
abbrev S1x512x2048 : Shape := ⟨3, ![1, 512, 2048]⟩
abbrev S2048x2048 : Shape := ⟨2, ![2048, 2048]⟩
abbrev S1 : Shape := ⟨1, ![1]⟩
abbrev S_ : Shape := ⟨0, ![]⟩
abbrev S1x2048x2048 : Shape := ⟨3, ![1, 2048, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S4x2048x2048, .f32⟩
  | .hbm, ⟨4, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S6x2048, .f32⟩
  | .local _ .vmem, ⟨5, _⟩ => ⟨S1x512x2048, .f32⟩
  | .local _ .vmem, ⟨6, _⟩ => ⟨S1x512x2048, .f32⟩
  | .local _ .vmem, ⟨7, _⟩ => ⟨S2048x2048, .bf16⟩
  | .local _ .vmem, ⟨8, _⟩ => ⟨S2048x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v16 : BitVec 1 := Scalar.cmpi .eq arg0 c0_i32_10
  let v17 : BitVec 32 := Scalar.extui v16
  let c0_i32_11 : BitVec 32 := 0#32
  let v18 : BitVec 1 := Scalar.cmpi .ne v17 c0_i32_11
  v18

def k0_off1 (i : grid0.Coords) : Fin 3 → Nat :=
  let arg0 : BitVec 32 := BitVec.ofNat 32 (i 0).val
  let c0_i32_21 : BitVec 32 := 0#32
  let c0_i32_22 : BitVec 32 := 0#32
  ![arg0.toNat, 0, 0]
def k0_off2 (i : grid0.Coords) : Fin 3 → Nat :=
  let arg0 : BitVec 32 := BitVec.ofNat 32 (i 0).val
  let c0_i32_13 : BitVec 32 := 0#32
  let c0_i32_14 : BitVec 32 := 0#32
  ![arg0.toNat, 0, 0]
def k0_cond3 (i : grid0.Coords) : BitVec 1 :=
  let arg0 : BitVec 32 := BitVec.ofNat 32 (i 0).val
  let c1_i32 : BitVec 32 := 1#32
  let v28 : BitVec 32 := Scalar.addi arg0 c1_i32
  let c4_i32 : BitVec 32 := 4#32
  let v29 : BitVec 1 := Scalar.cmpi .slt v28 c4_i32
  let v30 : BitVec 32 := Scalar.extui v29
  let c0_i32_19 : BitVec 32 := 0#32
  let v31 : BitVec 1 := Scalar.cmpi .ne v30 c0_i32_19
  v31

def k0_off3 (i : grid0.Coords) : Fin 3 → Nat :=
  let arg0 : BitVec 32 := BitVec.ofNat 32 (i 0).val
  let c1_i32_20 : BitVec 32 := 1#32
  let v32 : BitVec 32 := Scalar.addi arg0 c1_i32_20
  let c0_i32_22 : BitVec 32 := 0#32
  let c0_i32_23 : BitVec 32 := 0#32
  ![v32.toNat, 0, 0]
def k0_off4 (i : grid0.Coords) : Fin 2 → Nat :=
  let arg0 : BitVec 32 := BitVec.ofNat 32 (i 0).val
  let v6 : Index := Scalar.indexCast arg0
  let c0_6 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S6x2048 : Shape := ⟨2, ![6, 2048]⟩
abbrev S4x2048x2048 : Shape := ⟨3, ![4, 2048, 2048]⟩
abbrev S1x8192x2048 : Shape := ⟨3, ![1, 8192, 2048]⟩
abbrev S4x2048 : Shape := ⟨2, ![4, 2048]⟩
abbrev S4x1x2048 : Shape := ⟨3, ![4, 1, 2048]⟩
abbrev S4x8192x2048 : Shape := ⟨3, ![4, 8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S4x2048x2048, .f32⟩
  | .hbm, ⟨4, _⟩ => ⟨S1x8192x2048, .f32⟩
  | .hbm, ⟨5, _⟩ => ⟨S1x8192x2048, .f32⟩
  | .hbm, ⟨6, _⟩ => ⟨S4x2048, .f32⟩
  | .hbm, ⟨7, _⟩ => ⟨S4x1x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S4x8192x2048, .f32⟩
  | .hbm, ⟨13, _⟩ => ⟨S4x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S64x2048 : Shape := ⟨2, ![64, 2048]⟩
abbrev S2048 : Shape := ⟨1, ![2048]⟩
abbrev S2048x4096 : Shape := ⟨2, ![2048, 4096]⟩
abbrev S1x2048 : Shape := ⟨2, ![1, 2048]⟩
abbrev S2048x512 : Shape := ⟨2, ![2048, 512]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S64x512, .f32⟩
  | .local _ .vmem, ⟨5, _⟩ => ⟨S64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S64x2048 : Shape := ⟨2, ![64, 2048]⟩
abbrev S2048 : Shape := ⟨1, ![2048]⟩
abbrev S2048x4096 : Shape := ⟨2, ![2048, 4096]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x4096 : Shape := ⟨2, ![64, 4096]⟩

abbrev nBuf : Space → Nat
  | .hbm => 23
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x4096, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x4096, .f32⟩
  | .hbm, ⟨20, _⟩ => ⟨S64x2048, .f32⟩
  | .hbm, ⟨21, _⟩ => ⟨S64x2048, .f32⟩
  | .hbm, ⟨22, _⟩ => ⟨S64x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S64x2048 : Shape := ⟨2, ![64, 2048]⟩
abbrev S2048 : Shape := ⟨1, ![2048]⟩
abbrev S2048x4096 : Shape := ⟨2, ![2048, 4096]⟩
abbrev S1x2048 : Shape := ⟨2, ![1, 2048]⟩
abbrev S2048x512 : Shape := ⟨2, ![2048, 512]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S64x512, .f32⟩
  | .local _ .vmem, ⟨5, _⟩ => ⟨S64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S64x2048 : Shape := ⟨2, ![64, 2048]⟩
abbrev S2048 : Shape := ⟨1, ![2048]⟩
abbrev S2048x4096 : Shape := ⟨2, ![2048, 4096]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x4096 : Shape := ⟨2, ![64, 4096]⟩

abbrev nBuf : Space → Nat
  | .hbm => 23
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x4096, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x4096, .f32⟩
  | .hbm, ⟨20, _⟩ => ⟨S64x2048, .f32⟩
  | .hbm, ⟨21, _⟩ => ⟨S64x2048, .f32⟩
  | .hbm, ⟨22, _⟩ => ⟨S64x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S8192x2048 : Shape := ⟨2, ![8192, 2048]⟩
abbrev S4x2048 : Shape := ⟨2, ![4, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S_ : Shape := ⟨0, ![]⟩
abbrev S2048x128 : Shape := ⟨2, ![2048, 128]⟩
abbrev S128x2048 : Shape := ⟨2, ![128, 2048]⟩
abbrev S4x1x2048 : Shape := ⟨3, ![4, 1, 2048]⟩
abbrev S1024x8x2048 : Shape := ⟨3, ![1024, 8, 2048]⟩
abbrev S1x2048 : Shape := ⟨2, ![1, 2048]⟩
abbrev S512x2048 : Shape := ⟨2, ![512, 2048]⟩
abbrev S1x8x2048 : Shape := ⟨3, ![1, 8, 2048]⟩
abbrev S1x1x2048 : Shape := ⟨3, ![1, 1, 2048]⟩
abbrev S512 : Shape := ⟨1, ![512]⟩
abbrev S512x1 : Shape := ⟨2, ![512, 1]⟩
abbrev S8x2048 : Shape := ⟨2, ![8, 2048]⟩
abbrev S8 : Shape := ⟨1, ![8]⟩
abbrev S8x1 : Shape := ⟨2, ![8, 1]⟩
abbrev S512x128 : Shape := ⟨2, ![512, 128]⟩

abbrev nBuf : Space → Nat
  | .hbm => 35
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S6x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S_, .i32⟩
  | .hbm, ⟨15, _⟩ => ⟨S_, .f32⟩
  | .hbm, ⟨16, _⟩ => ⟨S128x2048, .f32⟩
  | .hbm, ⟨17, _⟩ => ⟨S128x2048, .bf16⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S2048x128, .bf16⟩
  | .hbm, ⟨22, _⟩ => ⟨S_, .i32⟩
  | .hbm, ⟨23, _⟩ => ⟨S_, .f32⟩
  | .hbm, ⟨24, _⟩ => ⟨S128x2048, .f32⟩
  | .hbm, ⟨25, _⟩ => ⟨S128x2048, .bf16⟩
  | .hbm, ⟨26, _⟩ => ⟨S4x1x2048, .f32⟩
  | .hbm, ⟨27, _⟩ => ⟨S1024x8x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S6x2048, .f32⟩
  | .local _ .vmem, ⟨8, _⟩ => ⟨S2048x128, .bf16⟩
  | .local _ .vmem, ⟨9, _⟩ => ⟨S128x2048, .bf16⟩
  | .local _ .vmem, ⟨10, _⟩ => ⟨S1x2048, .f32⟩
  | .local _ .vmem, ⟨11, _⟩ => ⟨S2048x128, .bf16⟩
  | .local _ .vmem, ⟨12, _⟩ => ⟨S128x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S8192x2048 : Shape := ⟨2, ![8192, 2048]⟩
abbrev S4x2048 : Shape := ⟨2, ![4, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x2048 : Shape := ⟨3, ![4, 2048, 2048]⟩
abbrev S4x1x2048 : Shape := ⟨3, ![4, 1, 2048]⟩
abbrev S4x2047x2048 : Shape := ⟨3, ![4, 2047, 2048]⟩
abbrev S8192x96 : Shape := ⟨2, ![8192, 96]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S6x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S4x2048x2048, .f32⟩
  | .hbm, ⟨27, _⟩ => ⟨S4x1x2048, .f32⟩
  | .hbm, ⟨28, _⟩ => ⟨S4x2047x2048, .f32⟩
  | .hbm, ⟨29, _⟩ => ⟨S4x2048x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x96, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel8.lean ====
abbrev S64x2048 : Shape := ⟨2, ![64, 2048]⟩
abbrev S8x2048 : Shape := ⟨2, ![8, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S_ : Shape := ⟨0, ![]⟩
abbrev S2048x128 : Shape := ⟨2, ![2048, 128]⟩
abbrev S128x2048 : Shape := ⟨2, ![128, 2048]⟩
abbrev S8x8x2048 : Shape := ⟨3, ![8, 8, 2048]⟩
abbrev S1x2048 : Shape := ⟨2, ![1, 2048]⟩
abbrev S1x8x2048 : Shape := ⟨3, ![1, 8, 2048]⟩
abbrev S64 : Shape := ⟨1, ![64]⟩
abbrev S64x1 : Shape := ⟨2, ![64, 1]⟩
abbrev S64x128 : Shape := ⟨2, ![64, 128]⟩

abbrev nBuf : Space → Nat
  | .hbm => 36
  | .vmem => 15
  | .smem => 0
  | _ => 0

abbrev bufTy : (tb : Table) → Fin (tcTables nBuf tb) → BufTy
  | .hbm, ⟨0, _⟩ => ⟨S64x2048, .f32⟩
  | .hbm, ⟨1, _⟩ => ⟨S8x2048, .f32⟩
  | .hbm, ⟨2, _⟩ => ⟨S2048, .f32⟩
  | .hbm, ⟨3, _⟩ => ⟨S6x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S_, .i32⟩
  | .hbm, ⟨15, _⟩ => ⟨S_, .f32⟩
  | .hbm, ⟨16, _⟩ => ⟨S128x2048, .f32⟩
  | .hbm, ⟨17, _⟩ => ⟨S128x2048, .bf16⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S2048x128, .bf16⟩
  | .hbm, ⟨22, _⟩ => ⟨S_, .i32⟩
  | .hbm, ⟨23, _⟩ => ⟨S_, .f32⟩
  | .hbm, ⟨24, _⟩ => ⟨S128x2048, .f32⟩
  | .hbm, ⟨25, _⟩ => ⟨S128x2048, .bf16⟩
  | .hbm, ⟨26, _⟩ => ⟨S8x8x2048, .f32⟩
  | .hbm, ⟨27, _⟩ => ⟨S64x2048, .f32⟩
  | .hbm, ⟨28, _⟩ => ⟨S8x8x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S64x2048, .f32⟩
  | .local _ .vmem, ⟨0, _⟩ => ⟨S64x2048, .f32⟩
  | .local _ .vmem, ⟨1, _⟩ => ⟨S1x8x2048, .f32⟩
  | .local _ .vmem, ⟨2, _⟩ => ⟨S64x2048, .f32⟩
  | .local _ .vmem, ⟨3, _⟩ => ⟨S1x2048, .f32⟩
  | .local _ .vmem, ⟨4, _⟩ => ⟨S6x2048, .f32⟩
  | .local _ .vmem, ⟨5, _⟩ => ⟨S2048x128, .bf16⟩
  | .local _ .vmem, ⟨6, _⟩ => ⟨S128x2048, .bf16⟩
  | .local _ .vmem, ⟨7, _⟩ => ⟨S1x2048, .f32⟩
  | .local _ .vmem, ⟨8, _⟩ => ⟨S2048x128, .bf16⟩
  | .local _ .vmem, ⟨9, _⟩ => ⟨S128x2048, .bf16⟩
  | .local _ .vmem, ⟨10, _⟩ => ⟨S1x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S64x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S64x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S64x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference8Ideal.lean ====
abbrev S64x2048 : Shape := ⟨2, ![64, 2048]⟩
abbrev S8x2048 : Shape := ⟨2, ![8, 2048]⟩
abbrev S2048 : Shape := ⟨1, ![2048]⟩
abbrev S6x2048 : Shape := ⟨2, ![6, 2048]⟩
abbrev S2048x96 : Shape := ⟨2, ![2048, 96]⟩
abbrev S96x2048 : Shape := ⟨2, ![96, 2048]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S8x8x2048 : Shape := ⟨3, ![8, 8, 2048]⟩
abbrev S8x1x2048 : Shape := ⟨3, ![8, 1, 2048]⟩
abbrev S8x7x2048 : Shape := ⟨3, ![8, 7, 2048]⟩
abbrev S64x96 : Shape := ⟨2, ![64, 96]⟩

abbrev nBuf : Space → Nat
  | .hbm => 51
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S8x2048, .f32⟩
  | .hbm, ⟨2, _⟩ => ⟨S2048, .f32⟩
  | .hbm, ⟨3, _⟩ => ⟨S6x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S64x2048, .f32⟩
  | .hbm, ⟨11, _⟩ => ⟨S_, .f32⟩
  | .hbm, ⟨12, _⟩ => ⟨S64, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S_, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S64x2048, .f32⟩
  | .hbm, ⟨22, _⟩ => ⟨S64x2048, .f32⟩
  | .hbm, ⟨23, _⟩ => ⟨S1x2048, .f32⟩
  | .hbm, ⟨24, _⟩ => ⟨S64x2048, .f32⟩
  | .hbm, ⟨25, _⟩ => ⟨S64x2048, .f32⟩
  | .hbm, ⟨26, _⟩ => ⟨S8x8x2048, .f32⟩
  | .hbm, ⟨27, _⟩ => ⟨S8x1x2048, .f32⟩
  | .hbm, ⟨28, _⟩ => ⟨S8x7x2048, .f32⟩
  | .hbm, ⟨29, _⟩ => ⟨S8x8x2048, .f32⟩
  | .hbm, ⟨30, _⟩ => ⟨S64x2048, .f32⟩
  | .hbm, ⟨31, _⟩ => ⟨S64x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S64x2048, .f32⟩
  | .hbm, ⟨36, _⟩ => ⟨S64x2048, .f32⟩
  | .hbm, ⟨37, _⟩ => ⟨S64x2048, .f32⟩
  | .hbm, ⟨38, _⟩ => ⟨S64x96, .f32⟩
  | .hbm, ⟨39, _⟩ => ⟨S64x2048, .f32⟩
  | .hbm, ⟨40, _⟩ => ⟨S1x2048, .f32⟩
  | .hbm, ⟨41, _⟩ => ⟨S64x2048, .f32⟩
  | .hbm, ⟨42, _⟩ => ⟨S64x2048, .f32⟩
  | .hbm, ⟨43, _⟩ => ⟨S64x2048, .f32⟩
  | .hbm, ⟨44, _⟩ => ⟨S64x2048, .f32⟩
  | .hbm, ⟨45, _⟩ => ⟨S_, .f32⟩
  | .hbm, ⟨46, _⟩ => ⟨S64x2048, .f32⟩
  | .hbm, ⟨47, _⟩ => ⟨S64x2048, .f32⟩
  | .hbm, ⟨48, _⟩ => ⟨S_, .f32⟩
  | .hbm, ⟨49, _⟩ => ⟨S64x2048, .f32⟩
  | .hbm, ⟨50, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel10.lean ====
abbrev S64x2048 : Shape := ⟨2, ![64, 2048]⟩
abbrev S2048x2048 : Shape := ⟨2, ![2048, 2048]⟩
abbrev S2048 : Shape := ⟨1, ![2048]⟩
abbrev S1x2048 : Shape := ⟨2, ![1, 2048]⟩
abbrev S2048x512 : Shape := ⟨2, ![2048, 512]⟩
abbrev S64x512 : Shape := ⟨2, ![64, 512]⟩
abbrev S64 : Shape := ⟨1, ![64]⟩
abbrev S64x1 : Shape := ⟨2, ![64, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S1x2048, .f32⟩
  | .hbm, ⟨5, _⟩ => ⟨S64x2048, .f32⟩
  | .local _ .vmem, ⟨0, _⟩ => ⟨S64x2048, .f32⟩
  | .local _ .vmem, ⟨1, _⟩ => ⟨S2048x512, .f32⟩
  | .local _ .vmem, ⟨2, _⟩ => ⟨S2048x512, .f32⟩
  | .local _ .vmem, ⟨3, _⟩ => ⟨S64x2048, .f32⟩
  | .local _ .vmem, ⟨4, _⟩ => ⟨S1x2048, .f32⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S64x2048 : Shape := ⟨2, ![64, 2048]⟩
abbrev S2048x2048 : Shape := ⟨2, ![2048, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x2048, .f32⟩
  | .hbm, ⟨5, _⟩ => ⟨S64x2048, .f32⟩
  | .hbm, ⟨6, _⟩ => ⟨S64x2048, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S1x2048, .f32⟩
  | .hbm, ⟨20, _⟩ => ⟨S64x2048, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Heads.lean ====
/- One head of the stick-breaking attention, as the kernel computes it on a query block: the scores against one block
   of keys, their softplus, the strict suffix sums by a product with a triangular matrix of ones, the weights, and the
   product with the values. The kernel writes these operations out eight times; here they are stated once. -/
module

public import proofs.«01_k».proof.Proof.Gen.KernelIdeal.Value

@[expose] public section

noncomputable section

namespace Cert.KernelIdeal.Sb

open Cert.KernelIdeal Cert.KernelIdeal.Gen Idealize.ShloMosaic Idealize.ShloMosaic.TcCoe Idealize.SL.Sem

/-- A query block against a key block. -/
abbrev Sc := FVec Ideal S256x256 .f32
/-- A number per query row: the carried sum of the log-complements of the keys already visited. -/
abbrev Cr := FVec Ideal S256x1 .f32
/-- The accumulated output of one head. -/
abbrev Ac := FVec Ideal S256x128 .f32

/-- The scores of a query block against a key block, in units of `log 2`. -/
def score (b : Ideal .f32) (q k : FVec Ideal S256x128 .bf16) : Sc :=
  addf (matmul dot_S256x128_S256x128_S256x256_1_1_0_0_n_n none q k (constant S256x256 .f32 0x00000000#32))
    (broadcast S256x256 b)

/-- The softplus of the scores, in units of `log 2`. -/
def soft (z : Sc) : Sc :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2e" 0x3FB8AA3B#32)))

/-- The log-complements of a block below the diagonal. -/
def keep (z : Sc) : Sc := subf (broadcast S256x256 (Scalar.ofBits .f32 0x00000000#32)) (soft z)

/-- The log-complements of the diagonal block: zero where the key is not before the query. -/
def keepD (z : Sc) : Sc := select k0_pay150 (keep z) (broadcast S256x256 (Scalar.ofBits .f32 0x00000000#32))

/-- A block's total, per query row. -/
def total (l : Sc) : Cr :=
  shapeCast S256x1 (multiReduction .add [1] S256 l 0x00000000#32 reduces_S256x256_S256 (.inl rfl) rfl)
    shapeCasts_S256_S256x1

/-- The strict suffix sums inside a block. -/
def rest (u : FVec Ideal S256x256 .bf16) (l : Sc) : Sc :=
  matmul dot_S256x256_S256x256_S256x256_1_0_0_1_n_n none (truncf .bf16 l bitsLt_bf16_f32) u
    (constant S256x256 .f32 0x00000000#32)

/-- The weights of a block below the diagonal, given the carried sum. -/
def att (u : FVec Ideal S256x256 .bf16) (z : Sc) (c : Cr) : Sc :=
  exp2 (addf (addf (subf z (soft z)) (rest u (keep z))) (broadcastTo S256x256 c broadcasts_S256x1_S256x256))

/-- The weights of the diagonal block. -/
def attD (u : FVec Ideal S256x256 .bf16) (z : Sc) : Sc :=
  select k0_pay150 (exp2 (addf (subf z (soft z)) (rest u (keepD z))))
    (broadcast S256x256 (Scalar.ofBits .f32 0x00000000#32))

/-- Weights times values. -/
def mix (a : Sc) (v : FVec Ideal S256x128 .bf16) : Ac :=
  matmul dot_S256x256_S256x128_S256x128_1_0_0_1_n_n none (truncf .bf16 a bitsLt_bf16_f32) v
    (constant S256x128 .f32 0x00000000#32)

/-- The SiLU gate and the last rounding. -/
def gated (a : Ac) (g : FVec Ideal S256x128 .f32) : FVec Ideal S256x128 .bf16 :=
  truncf .bf16 (mulf a (divf g (addf (broadcast S256x128 (Scalar.ofBits .f32 0x3F800000#32))
    (exp (subf (broadcast S256x128 (Scalar.ofBits .f32 0x00000000#32)) g))))) bitsLt_bf16_f32

/-- The scaled queries. -/
def scaled (q : FVec Ideal S256x128 .f32) : FVec Ideal S256x128 .bf16 :=
  truncf .bf16 (mulf q (broadcast S256x128 (Named.named κ "scale_log2e" 0x3E0293EE#32))) bitsLt_bf16_f32

/-! ## The eight heads' state -/

/-- What the loop carries, head by head. -/
abbrev State := Fin 8 → Cr × Ac

/-- The carried tuple of the printed loop. -/
abbrev Tup := Cr × Cr × Cr × Cr × Cr × Cr × Cr × Cr × Ac × Ac × Ac × Ac × Ac × Ac × Ac × Ac

def pack (s : State) : Tup :=
  ((s 0).1, (s 1).1, (s 2).1, (s 3).1, (s 4).1, (s 5).1, (s 6).1, (s 7).1,
    (s 0).2, (s 1).2, (s 2).2, (s 3).2, (s 4).2, (s 5).2, (s 6).2, (s 7).2)

/-- The rows and columns of a block of keys or values for head `h`. -/
abbrev blockOff (row : Nat) (h : Fin 8) : Fin 2 → Nat := ![row, 128 * h.val]

theorem blockOff_inb {row : Nat} (hr : row + 256 ≤ 2048) (h : Fin 8) (a : Fin 2) :
    blockOff row h a + S256x128.size a ≤ S2048x1024.size a := by
  have := h.isLt
  match a with
  | 0 => exact hr
  | 1 => show 128 * h.val + 128 ≤ 1024; omega

/-- One trip of the loop, for one head: the block's total joins the carried sum, the weighted values the output. -/
def step1 (u : FVec Ideal S256x256 .bf16) (z : Sc) (v : FVec Ideal S256x128 .bf16) (s : Cr × Ac) : Cr × Ac :=
  (addf s.1 (total (keep z)), addf s.2 (mix (att u z s.1) v))

/-- The row the keys of trip `k` begin at, as the kernel computes it. -/
def rowAt (i : grid0.Coords) (k : Nat) : Nat :=
  (Scalar.indexCast (Scalar.muli (Scalar.subi (Scalar.subi (BitVec.ofNat 32 (i 2).val) 1#32) (Scf.iv 0#32 1#32 k)) 256#32)).toNat

theorem rowAt_le (i : grid0.Coords) (k : Fin (k0_t1_loop i).trips) : rowAt i k + 256 ≤ 2048 :=
  Facts₀.k0_off10_inb i k 0

end Cert.KernelIdeal.Sb

end
-- ==== Proof.Loop.lean ====
/- The kernel's loop over the key blocks below the diagonal, as eight copies of one head's step. -/
module

public import proofs.«01_k».proof.Proof.Heads

@[expose] public section

noncomputable section

namespace Cert.KernelIdeal.Sb

open Cert.KernelIdeal Cert.KernelIdeal.Gen Idealize.ShloMosaic Idealize.ShloMosaic.TcCoe Idealize.SL.Sem

/-- Head `h`'s block of keys (or values) in trip `k`, read off the buffer's contents. -/
def blockAt (m : Memref sig .tc .vmem S2048x1024 .bf16) (X : BufTy.Contents (Elt Ideal) m.view.ty) (i : grid0.Coords)
    (k : Fin (k0_t1_loop i).trips) (h : Fin 8) : FVec Ideal S256x128 .bf16 :=
  View.readAt (Elt Ideal) m.view
    (Rect.unit (s := S2048x1024) (blockOff (rowAt i k) h) S256x128.size (blockOff_inb (rowAt_le i k) h)).toLoadRect X

/-- One trip, all heads. -/
def stepAll (B : Fin 8 → Ideal .f32) (Q : Fin 8 → FVec Ideal S256x128 .bf16) (u : FVec Ideal S256x256 .bf16)
    (m5 m6 : Memref sig .tc .vmem S2048x1024 .bf16) (X5 : BufTy.Contents (Elt Ideal) m5.view.ty)
    (X6 : BufTy.Contents (Elt Ideal) m6.view.ty) (i : grid0.Coords) (k : Fin (k0_t1_loop i).trips) (s : State) : State :=
  fun h => step1 u (score (B h) (Q h) (blockAt m5 X5 i k h)) (blockAt m6 X6 i k h) (s h)

/-- The state before trip `n`. -/
def iter (B : Fin 8 → Ideal .f32) (Q : Fin 8 → FVec Ideal S256x128 .bf16) (u : FVec Ideal S256x256 .bf16)
    (m5 m6 : Memref sig .tc .vmem S2048x1024 .bf16) (X5 : BufTy.Contents (Elt Ideal) m5.view.ty)
    (X6 : BufTy.Contents (Elt Ideal) m6.view.ty) (i : grid0.Coords) (s : State) : Nat → State
  | 0 => s
  | n + 1 => if h : n < (k0_t1_loop i).trips then stepAll B Q u m5 m6 X5 X6 i ⟨n, h⟩ (iter B Q u m5 m6 X5 X6 i s n)
    else iter B Q u m5 m6 X5 X6 i s n

theorem iter_succ (B : Fin 8 → Ideal .f32) (Q : Fin 8 → FVec Ideal S256x128 .bf16) (u : FVec Ideal S256x256 .bf16)
    (m5 m6 : Memref sig .tc .vmem S2048x1024 .bf16) (X5 : BufTy.Contents (Elt Ideal) m5.view.ty)
    (X6 : BufTy.Contents (Elt Ideal) m6.view.ty) (i : grid0.Coords) (s : State) (k : Fin (k0_t1_loop i).trips) :
    iter B Q u m5 m6 X5 X6 i s (k.val + 1) = stepAll B Q u m5 m6 X5 X6 i k (iter B Q u m5 m6 X5 X6 i s k.val) :=
  dif_pos k.isLt

set_option maxHeartbeats 4000000 in
/-- A trip of the printed loop is a step of every head. -/
theorem trip_eq (𝒱 : Variants) (c : Dev nD) (bd : Option 𝒱.V)
    (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole) (arg2 : BitVec 32)
    (v4 v9 v14 v19 v24 v29 v34 v39 : Ideal .f32) (v43 v47 v51 v55 v59 v63 v67 v71 : FVec Ideal S256x128 .bf16)
    (v78 : FVec Ideal S256x256 .bf16) (v83 : BitVec 32)
    (v142 v161 v180 v199 v218 v237 v256 v275 : FVec Ideal S256x1 .f32)
    (v307 v311 v315 v319 v323 : FVec Ideal S256x256 .f32) (v327 v331 : FVec Ideal S256x128 .f32)
    (v332 : FVec Ideal S256x256 .bf16) (X_arg5 : BufTy.Contents (Elt Ideal) arg5.view.ty)
    (X_arg6 : BufTy.Contents (Elt Ideal) arg6.view.ty)
    (k : Fin (k0_t1_loop i).trips) (s : State) :
    tripR_k0_t1 (F := Ideal) 𝒱 c bd i arg3 harg3 arg4 harg4 arg5 harg5 arg6 harg6 arg7 harg7 arg8 harg8 arg2 v4 v9 v14 v19 v24 v29
      v34 v39 v43 v47 v51 v55 v59 v63 v67 v71 v78 v83 v142 v161 v180 v199 v218 v237 v256 v275 v307 v311 v315
      v319 v323 v327 v331 v332 X_arg5 X_arg6 k (pack s)
      = pack (stepAll ![v4, v9, v14, v19, v24, v29, v34, v39] ![v43, v47, v51, v55, v59, v63, v67, v71]
          v78 arg5 arg6 X_arg5 X_arg6 i k s) := by
  unfold tripR_k0_t1 trip_k0_t1
  dsimp only
  sl_unfold_words
  rfl

/-- The printed loop's carried tuple before trip `n`. -/
theorem st_eq (𝒱 : Variants) (c : Dev nD) (bd : Option 𝒱.V)
    (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole) (arg2 : BitVec 32)
    (v4 v9 v14 v19 v24 v29 v34 v39 : Ideal .f32) (v43 v47 v51 v55 v59 v63 v67 v71 : FVec Ideal S256x128 .bf16)
    (v78 : FVec Ideal S256x256 .bf16) (v83 : BitVec 32)
    (v142 v161 v180 v199 v218 v237 v256 v275 : FVec Ideal S256x1 .f32)
    (v307 v311 v315 v319 v323 : FVec Ideal S256x256 .f32) (v327 v331 : FVec Ideal S256x128 .f32)
    (v332 : FVec Ideal S256x256 .bf16) (X_arg5 : BufTy.Contents (Elt Ideal) arg5.view.ty)
    (X_arg6 : BufTy.Contents (Elt Ideal) arg6.view.ty)
    (s : State) (n : Nat) (hn : n ≤ (k0_t1_loop i).trips) :
    st_k0_t1 (F := Ideal) 𝒱 c bd i arg3 harg3 arg4 harg4 arg5 harg5 arg6 harg6 arg7 harg7 arg8 harg8 arg2 v4 v9 v14 v19 v24 v29
      v34 v39 v43 v47 v51 v55 v59 v63 v67 v71 v78 v83 v142 v161 v180 v199 v218 v237 v256 v275 v307 v311 v315
      v319 v323 v327 v331 v332 X_arg5 X_arg6 (pack s) n
      = pack (iter ![v4, v9, v14, v19, v24, v29, v34, v39] ![v43, v47, v51, v55, v59, v63, v67, v71]
          v78 arg5 arg6 X_arg5 X_arg6 i s n) := by
  induction n with
  | zero => rfl
  | succ n ih =>
    have h := st_k0_t1_succ (F := Ideal) 𝒱 c bd i arg3 harg3 arg4 harg4 arg5 harg5 arg6 harg6 arg7 harg7 arg8 harg8 arg2 v4 v9 v14 v19 v24 v29
        v34 v39 v43 v47 v51 v55 v59 v63 v67 v71 v78 v83 v142 v161 v180 v199 v218 v237 v256 v275 v307 v311 v315
        v319 v323 v327 v331 v332 X_arg5 X_arg6 (pack s) ⟨n, hn⟩
    rw [ih (Nat.le_of_succ_le hn)] at h
    rw [iter_succ _ _ _ _ _ _ _ _ _ ⟨n, hn⟩]
    exact h.trans (trip_eq _ _ _ _ _ _ _ _ _ _ _ _ _ _ _ _ _ _ _ _ _ _ _ _ _ _ _ _ _ _ _ _ _ _ _ _ _ _ _ _ _ _ _ _ _ _ _ _ _ _ _ _ _ _ _)

/-- The same, from a tuple that is a packed state. -/
theorem st_packed (𝒱 : Variants) (c : Dev nD) (bd : Option 𝒱.V)
    (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole) (arg2 : BitVec 32)
    (v4 v9 v14 v19 v24 v29 v34 v39 : Ideal .f32) (v43 v47 v51 v55 v59 v63 v67 v71 : FVec Ideal S256x128 .bf16)
    (v78 : FVec Ideal S256x256 .bf16) (v83 : BitVec 32)
    (v142 v161 v180 v199 v218 v237 v256 v275 : FVec Ideal S256x1 .f32)
    (v307 v311 v315 v319 v323 : FVec Ideal S256x256 .f32) (v327 v331 : FVec Ideal S256x128 .f32)
    (v332 : FVec Ideal S256x256 .bf16) (X_arg5 : BufTy.Contents (Elt Ideal) arg5.view.ty)
    (X_arg6 : BufTy.Contents (Elt Ideal) arg6.view.ty)
    (init : Tup) (s : State) (hs : init = pack s) (n : Nat) (hn : n ≤ (k0_t1_loop i).trips) :
    st_k0_t1 (F := Ideal) 𝒱 c bd i arg3 harg3 arg4 harg4 arg5 harg5 arg6 harg6 arg7 harg7 arg8 harg8 arg2 v4 v9 v14 v19 v24 v29
      v34 v39 v43 v47 v51 v55 v59 v63 v67 v71 v78 v83 v142 v161 v180 v199 v218 v237 v256 v275 v307 v311 v315
      v319 v323 v327 v331 v332 X_arg5 X_arg6 init n
      = pack (iter ![v4, v9, v14, v19, v24, v29, v34, v39] ![v43, v47, v51, v55, v59, v63, v67, v71]
          v78 arg5 arg6 X_arg5 X_arg6 i s n) := by
  subst hs
  exact st_eq _ _ _ _ _ _ _ _ _ _ _ _ _ _ _ _ _ _ _ _ _ _ _ _ _ _ _ _ _ _ _ _ _ _ _ _ _ _ _ _ _ _ _ _ _ _ _ _ _ _ _ _ _ _ n hn

end Cert.KernelIdeal.Sb

end
-- ==== Proof.Block.lean ====
/- What one grid point stores: each head's columns of the output block. -/
module

public import proofs.«01_k».proof.Proof.Loop

@[expose] public section

noncomputable section

namespace Cert.KernelIdeal.Sb

open Cert.KernelIdeal Cert.KernelIdeal.Gen Idealize.ShloMosaic Idealize.ShloMosaic.TcCoe Idealize.SL.Sem

/-! ## What a head reads -/

/-- The row the diagonal block begins at, as the kernel computes it. -/
def rowD (i : grid0.Coords) : Nat :=
  (Scalar.indexCast (Scalar.muli (BitVec.ofNat 32 (i 2).val) 256#32)).toNat

theorem rowD_le (i : grid0.Coords) : rowD i + 256 ≤ 2048 := Facts₀.k0_off2_inb i 0

theorem colOff_inb (h : Fin 8) (a : Fin 2) : (![0, 128 * h.val] : Fin 2 → Nat) a + S256x128.size a ≤ S256x1024.size a := by
  have := h.isLt
  match a with
  | 0 => exact Nat.le_refl 256
  | 1 => show 128 * h.val + 128 ≤ 1024; omega

/-- Head `h`'s columns of a query-shaped block. -/
abbrev colRect (h : Fin 8) : Rect S256x1024 := Rect.unit (s := S256x1024) ![0, 128 * h.val] S256x128.size (colOff_inb h)

/-- Head `h`'s bias, in units of `log 2`. -/
def biasOf (m : Memref sig .tc .smem S16 .f32) (X : BufTy.Contents (Elt Ideal) m.view.ty) (i : grid0.Coords) (h : Fin 8) :
    Ideal .f32 :=
  Scalar.mulf (View.readAt (Elt Ideal) m.view
      (Rect.unit (s := S16) (k0_off1 i (BitVec.ofNat 32 h.val)) S1.size (Facts₀.k0_off1_inb i h)).toLoadRect X
      (Shape.Idx.first Facts₀.numel1_S1.ge)) (Named.named κ "log2e" 0x3FB8AA3B#32)

/-- Head `h`'s scaled queries. -/
def queryOf (m : Memref sig .tc .vmem S256x1024 .f32) (X : BufTy.Contents (Elt Ideal) m.view.ty) (h : Fin 8) :
    FVec Ideal S256x128 .bf16 :=
  scaled (View.readAt (Elt Ideal) m.view (colRect h).toLoadRect X)

/-- Head `h`'s diagonal block of keys (or values). -/
def diagOf (m : Memref sig .tc .vmem S2048x1024 .bf16) (X : BufTy.Contents (Elt Ideal) m.view.ty) (i : grid0.Coords)
    (h : Fin 8) : FVec Ideal S256x128 .bf16 :=
  View.readAt (Elt Ideal) m.view
    (Rect.unit (s := S2048x1024) (blockOff (rowD i) h) S256x128.size (blockOff_inb (rowD_le i) h)).toLoadRect X

/-- The state after the diagonal block, before the loop. -/
def start (B : Fin 8 → Ideal .f32) (Q : Fin 8 → FVec Ideal S256x128 .bf16)
    (m5 m6 : Memref sig .tc .vmem S2048x1024 .bf16) (X5 : BufTy.Contents (Elt Ideal) m5.view.ty)
    (X6 : BufTy.Contents (Elt Ideal) m6.view.ty) (i : grid0.Coords) : State :=
  fun h =>
    let z := score (B h) (Q h) (diagOf m5 X5 i h)
    (total (keepD z), mix (attD k0_pay149 z) (diagOf m6 X6 i h))

/-- The state after the loop. -/
def final (c : Dev nD) (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole)
    (x0 : FVec Ideal S16 .f32) (x1 : FVec Ideal S256x1024 .f32) (x2 x3 : FVec Ideal S2048x1024 .bf16)
    (x4 : FVec Ideal S256x1024 .f32) : State :=
  let B := biasOf arg3 (harg3.unread x0) i
  let Q := queryOf arg4 (harg4.unread x1)
  let X5 := harg5.unread x2
  let X6 := harg6.unread x3
  iter B Q k0_pay149 arg5 arg6 X5 X6 i (start B Q arg5 arg6 X5 X6 i) (k0_t1_loop i).trips

/-- What head `h` stores. -/
def stored (c : Dev nD) (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole)
    (x0 : FVec Ideal S16 .f32) (x1 : FVec Ideal S256x1024 .f32) (x2 x3 : FVec Ideal S2048x1024 .bf16)
    (x4 : FVec Ideal S256x1024 .f32) (h : Fin 8) :
    FVec Ideal S256x128 .bf16 :=
  gated (final c i arg3 harg3 arg4 harg4 arg5 harg5 arg6 harg6 arg7 harg7 arg8 harg8 x0 x1 x2 x3 x4 h).2
    (View.readAt (Elt Ideal) arg7.view (colRect h).toLoadRect (harg7.unread x4))

/-- A grid point of query block `n`. -/
def pointOf (n : Fin 8) : grid0.Coords := fun a => match a with
  | 0 => (0 : Fin 4)
  | 1 => (0 : Fin 2)
  | 2 => n

/-- The second loop runs from a bound to itself. -/
theorem trips2 (i : grid0.Coords) :
    Scf.trips (k0_t2_loop i).lb (k0_t2_loop i).ub (k0_t2_loop i).st = 0 := by
  have h : ∀ n : Fin 8, Scf.Loop.trips (k0_t2_loop (pointOf n)) = 0 := by decide +kernel
  exact h (i 2)

/-- The eight stores, as the kernel writes them, from the loop's tuple. -/
def stores (t : Tup) (g : Fin 8 → FVec Ideal S256x128 .f32) : List (View.Piece (Elt Ideal) S256x1024 .bf16) :=
  [⟨colRect 7, gated t.2.2.2.2.2.2.2.2.2.2.2.2.2.2.2 (g 7)⟩, ⟨colRect 6, gated t.2.2.2.2.2.2.2.2.2.2.2.2.2.2.1 (g 6)⟩,
    ⟨colRect 5, gated t.2.2.2.2.2.2.2.2.2.2.2.2.2.1 (g 5)⟩, ⟨colRect 4, gated t.2.2.2.2.2.2.2.2.2.2.2.2.1 (g 4)⟩,
    ⟨colRect 3, gated t.2.2.2.2.2.2.2.2.2.2.2.1 (g 3)⟩, ⟨colRect 2, gated t.2.2.2.2.2.2.2.2.2.2.1 (g 2)⟩,
    ⟨colRect 1, gated t.2.2.2.2.2.2.2.2.2.1 (g 1)⟩, ⟨colRect 0, gated t.2.2.2.2.2.2.2.2.1 (g 0)⟩]

theorem tuple_eta (t : Tup) :
    (t.1, t.2.1, t.2.2.1, t.2.2.2.1, t.2.2.2.2.1, t.2.2.2.2.2.1, t.2.2.2.2.2.2.1, t.2.2.2.2.2.2.2.1,
      t.2.2.2.2.2.2.2.2.1, t.2.2.2.2.2.2.2.2.2.1, t.2.2.2.2.2.2.2.2.2.2.1, t.2.2.2.2.2.2.2.2.2.2.2.1,
      t.2.2.2.2.2.2.2.2.2.2.2.2.1, t.2.2.2.2.2.2.2.2.2.2.2.2.2.1, t.2.2.2.2.2.2.2.2.2.2.2.2.2.2.1,
      t.2.2.2.2.2.2.2.2.2.2.2.2.2.2.2) = t := rfl

theorem vec8_eta {α : Type} (f : Fin 8 → α) : ![f 0, f 1, f 2, f 3, f 4, f 5, f 6, f 7] = f := by
  funext h
  fin_cases h <;> rfl

/-- A loop of no trips leaves its tuple alone. -/
theorem st2_eq     (𝒱 : Variants) (c : Dev nD) (bd : Option 𝒱.V) (i : grid0.Coords) (arg3 : Memref sig .tc .smem S16 .f32)
    (harg3 : arg3.IsWhole) (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole) (arg2 : BitVec 32)
    (v4 v9 v14 v19 v24 v29 v34 v39 : Ideal .f32) (v43 v47 v51 v55 v59 v63 v67 v71 : FVec Ideal S256x128 .bf16)
    (v78 : FVec Ideal S256x256 .bf16) (v83 : BitVec 32)
    (v142 v161 v180 v199 v218 v237 v256 v275 : FVec Ideal S256x1 .f32)
    (v307 v311 v315 v319 v323 : FVec Ideal S256x256 .f32) (v327 v331 : FVec Ideal S256x128 .f32)
    (v332 : FVec Ideal S256x256 .bf16) (v360 : BitVec 32) (X_arg5 : BufTy.Contents (Elt Ideal) arg5.view.ty)
    (X_arg6 : BufTy.Contents (Elt Ideal) arg6.view.ty)
    (init : Tup) (n : Nat) (hn : n = 0) :
    st_k0_t2 (F := Ideal) 𝒱 c bd i arg3 harg3 arg4 harg4 arg5 harg5 arg6 harg6 arg7 harg7 arg8 harg8 arg2 v4 v9 v14 v19 v24 v29
      v34 v39 v43 v47 v51 v55 v59 v63 v67 v71 v78 v83 v142 v161 v180 v199 v218 v237 v256 v275 v307 v311 v315
      v319 v323 v327 v331 v332 v360 X_arg5 X_arg6 init n = init := by
  subst hn; rfl

set_option maxHeartbeats 400000 in
/-- The eight stores of a grid point, the last head first. -/
theorem run_eq (c : Dev nD) (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole)
    (x0 : FVec Ideal S16 .f32) (x1 : FVec Ideal S256x1024 .f32) (x2 x3 : FVec Ideal S2048x1024 .bf16)
    (x4 : FVec Ideal S256x1024 .f32) :
    (kernelRun0_A (F := Ideal) c i arg3 harg3 arg4 harg4 arg5 harg5 arg6 harg6 arg7 harg7 arg8 harg8 x0 x1 x2 x3 x4).1
      = (List.ofFn fun h : Fin 8 =>
          (⟨colRect h.rev, stored c i arg3 harg3 arg4 harg4 arg5 harg5 arg6 harg6 arg7 harg7 arg8 harg8 x0 x1 x2 x3 x4 h.rev⟩ :
            View.Piece (Elt Ideal) S256x1024 .bf16)) := by
  refine Eq.trans (b := stores _ fun h => View.readAt (Elt Ideal) arg7.view (colRect h).toLoadRect (harg7.unread x4)) rfl ?_
  refine (congrArg (stores · _) (a₂ := pack (final c i arg3 harg3 arg4 harg4 arg5 harg5 arg6 harg6 arg7 harg7 arg8 harg8
    x0 x1 x2 x3 x4)) ?_).trans rfl
  refine (st2_eq _ _ _ _ _ _ _ _ _ _ _ _ _ _ _ _ _ _ _ _ _ _ _ _ _ _ _ _ _ _ _ _ _ _ _ _ _ _ _ _ _ _ _ _ _ _ _ _ _ _ _ _
      _ _ _ _ (trips2 i)).trans ?_
  refine (tuple_eta _).trans ?_
  refine (st_packed _ _ _ _ _ _ _ _ _ _ _ _ _ _ _ _ _ _ _ _ _ _ _ _ _ _ _ _ _ _ _ _ _ _ _ _ _ _ _ _ _ _ _ _ _ _ _ _ _ _ _ _
      _ _ (start (biasOf arg3 (harg3.unread x0) i)
    (queryOf arg4 (harg4.unread x1)) arg5 arg6 (harg5.unread x2) (harg6.unread x3) i) rfl _ (Nat.le_refl _)).trans ?_
  exact congrArg₂ (fun B Q => pack (iter B Q k0_pay149 arg5 arg6 (harg5.unread x2) (harg6.unread x3) i
    (start (biasOf arg3 (harg3.unread x0) i) (queryOf arg4 (harg4.unread x1)) arg5 arg6 (harg5.unread x2)
      (harg6.unread x3) i) (k0_t1_loop i).trips))
    (vec8_eta (biasOf arg3 (harg3.unread x0) i)) (vec8_eta (queryOf arg4 (harg4.unread x1)))

end Cert.KernelIdeal.Sb

end
-- ==== Proof.Elem.lean ====
/- One head's operations read at an element, as sums and scalar functions of the extended reals. -/
module

public import proofs.«01_k».proof.Proof.Block
public import Idealize.ShloMosaic.Lib.ValueIdx
public import Idealize.ShloMosaic.Lib.IdealHost

@[expose] public section

noncomputable section

namespace Cert.KernelIdeal.Sb

open Cert.KernelIdeal Cert.KernelIdeal.Gen Idealize.ShloMosaic Idealize.ShloMosaic.TcCoe Idealize.ShloMosaic.ValueIdx

/-- `1 / log 2`. -/
def L : EReal := ((Real.log 2)⁻¹ : ℝ)

theorem log2e_eq : (Named.named κ "log2e" 0x3FB8AA3B#32 : Ideal .f32) = L :=
  IdealRules.named_const.ideal_named_scalar _ _ _ _ rfl

theorem scale_log2e_eq :
    (Named.named κ "scale_log2e" 0x3E0293EE#32 : Ideal .f32) = (((Real.sqrt 128)⁻¹ * (Real.log 2)⁻¹ : ℝ) : EReal) :=
  IdealRules.named_const.ideal_named_scalar _ _ _ _ rfl

/-- The kernel's softplus of one score, both in units of `log 2`. -/
def softE (x : EReal) : EReal := max x 0 + Ideal.log (1 + Ideal.exp2 (0 - max x (-x))) * L

theorem soft_apply (z : Sc) (j : S256x256.Idx) : soft z j = softE (z j) := by
  show max (z j) (Ideal.ofBits .f32 0x00000000#32) + Ideal.log (Ideal.ofBits .f32 0x3F800000#32 +
    Ideal.exp2 (Ideal.ofBits .f32 0x00000000#32 - max (z j) (-(z j)))) * (Named.named κ "log2e" 0x3FB8AA3B#32 : Ideal .f32) = _
  rw [log2e_eq, Ideal.ofBits_zero_f32, Ideal.ofBits_one_f32]
  rfl

theorem keep_apply (z : Sc) (j : S256x256.Idx) : keep z j = 0 - softE (z j) := by
  show Ideal.ofBits .f32 0x00000000#32 - soft z j = _
  rw [soft_apply, Ideal.ofBits_zero_f32]

/-! ## The three products -/

theorem score_apply (b : Ideal .f32) (q k : FVec Ideal S256x128 .bf16) (r s : Fin 256) :
    score b q k (ix2 r s) = (∑ d : Fin 128, q (ix2 r d) * k (ix2 s d)) + b := by
  refine congrArg (· + b) ((Ideal.matmul_constant_zero_apply _ none _ _ _).trans ?_)
  refine Fintype.sum_equiv (contrEquiv1 dot_S256x128_S256x128_S256x256_1_1_0_0_n_n 128 rfl rfl) _ _ fun k => ?_
  refine congrArg₂ (· * ·) (congrArg q ?_) (congrArg _ ?_) <;> (funext a; fin_cases a <;> rfl)

theorem mix_apply (a : Sc) (v : FVec Ideal S256x128 .bf16) (r : Fin 256) (d : Fin 128) :
    mix a v (ix2 r d) = ∑ s : Fin 256, a (ix2 r s) * v (ix2 s d) := by
  refine (Ideal.matmul_constant_zero_apply _ none _ _ _).trans ?_
  refine Fintype.sum_equiv (contrEquiv1 dot_S256x256_S256x128_S256x128_1_0_0_1_n_n 256 rfl rfl) _ _ fun k => ?_
  refine congrArg₂ (· * ·) (congrArg a ?_) (congrArg _ ?_) <;> (funext a; fin_cases a <;> rfl)

/-- The signed comparison of two coordinates' words. -/
theorem slt_word (a b : Fin 256) :
    IntOp.cmpi .slt (BitVec.ofNat 32 a.val) (BitVec.ofNat 32 b.val) = if a < b then 1#1 else 0#1 := by
  have ha := a.isLt
  have hb := b.isLt
  have h : (BitVec.ofNat 32 a.val).slt (BitVec.ofNat 32 b.val) = decide (a < b) := by
    rw [BitVec.slt_eq_decide, BitVec.toInt_eq_toNat_of_lt (by simp; omega), BitVec.toInt_eq_toNat_of_lt (by simp; omega)]
    simp only [BitVec.toNat_ofNat, Fin.lt_def]
    congr 1
    rw [Nat.mod_eq_of_lt (by omega), Nat.mod_eq_of_lt (by omega)]
    exact propext Int.ofNat_lt
  show BitVec.ofBool ((BitVec.ofNat 32 a.val).slt (BitVec.ofNat 32 b.val)) = _
  rw [h]
  by_cases hab : a < b <;> simp [hab]

theorem iota0 (r s : Fin 256) : iota .tc S256x256 32 [0] Facts₀.iota_S256x256_d0_w32 (ix2 r s) = BitVec.ofNat 32 r.val := by
  show BitVec.ofNat 32 (0 * 256 + r.val) = _
  rw [Nat.zero_mul, Nat.zero_add]

theorem iota1 (r s : Fin 256) : iota .tc S256x256 32 [1] Facts₀.iota_S256x256_d1_w32 (ix2 r s) = BitVec.ofNat 32 s.val := by
  show BitVec.ofNat 32 (0 * 256 + s.val) = _
  rw [Nat.zero_mul, Nat.zero_add]

/-- The diagonal block's mask: the key is before the query. -/
theorem mask_apply (r s : Fin 256) : k0_pay150 (ix2 r s) = if s < r then 1#1 else 0#1 := by
  show IntOp.cmpi .slt (iota .tc S256x256 32 [1] _ (ix2 r s)) (iota .tc S256x256 32 [0] _ (ix2 r s)) = _
  rw [iota0, iota1, slt_word]

/-- The triangular matrix of ones. -/
theorem tri_apply (m s : Fin 256) : (k0_pay149 : FVec Ideal S256x256 .bf16) (ix2 m s) = if s < m then 1 else 0 := by
  show Scalar.select (IntOp.cmpi .slt (iota .tc S256x256 32 [1] _ (ix2 m s)) (iota .tc S256x256 32 [0] _ (ix2 m s)))
    (Ideal.ofBits .f32 0x3F800000#32) (Ideal.ofBits .f32 0x00000000#32) = _
  rw [iota0, iota1, slt_word, Ideal.ofBits_zero_f32, Ideal.ofBits_one_f32]
  by_cases h : s < m <;> simp [h, select_one, select_zero]

theorem rest_apply (l : Sc) (r s : Fin 256) :
    rest k0_pay149 l (ix2 r s) = ∑ m : Fin 256, if s < m then l (ix2 r m) else 0 := by
  refine (Ideal.matmul_constant_zero_apply _ none _ _ _).trans ?_
  refine Fintype.sum_equiv (contrEquiv1 dot_S256x256_S256x256_S256x256_1_0_0_1_n_n 256 rfl rfl) _ _ fun k => ?_
  have hl : dot_S256x256_S256x256_S256x256_1_0_0_1_n_n.lhsIdx (ix2 r s) k
      = ix2 r (contrEquiv1 dot_S256x256_S256x256_S256x256_1_0_0_1_n_n 256 rfl rfl k) := by
    funext a; fin_cases a <;> rfl
  have hr : dot_S256x256_S256x256_S256x256_1_0_0_1_n_n.rhsIdx (ix2 r s) k
      = ix2 (contrEquiv1 dot_S256x256_S256x256_S256x256_1_0_0_1_n_n 256 rfl rfl k) s := by
    funext a; fin_cases a <;> rfl
  rw [hl, hr, tri_apply, truncf_apply]
  split <;> simp

theorem total_apply (l : Sc) (r : Fin 256) : total l (ix2 r 0) = ∑ s : Fin 256, l (ix2 r s) := by
  refine (shapeCast_apply _ _ _ (ix1 r) ?_).trans ((Ideal.multiReduction_add_single _ _ _ _ _ _).trans ?_)
  · rw [Shape.rowMajor_val_one, Shape.rowMajor_val_two]
    show r.val = r.val * 1 + 0
    omega
  refine Finset.sum_congr rfl fun s _ => congrArg l ?_
  funext a; fin_cases a <;> rfl

theorem keepD_apply (z : Sc) (r s : Fin 256) : keepD z (ix2 r s) = if s < r then 0 - softE (z (ix2 r s)) else 0 := by
  show Scalar.select (k0_pay150 (ix2 r s)) (keep z (ix2 r s)) (Ideal.ofBits .f32 0x00000000#32) = _
  rw [mask_apply, keep_apply, Ideal.ofBits_zero_f32]
  by_cases h : s < r <;> simp [h, select_one, select_zero]

theorem att_apply (z : Sc) (c : Cr) (r s : Fin 256) :
    att k0_pay149 z c (ix2 r s) = Ideal.exp2 (z (ix2 r s) - softE (z (ix2 r s)) + rest k0_pay149 (keep z) (ix2 r s) + c (ix2 r 0)) := by
  show Ideal.exp2 (z (ix2 r s) - soft z (ix2 r s) + rest k0_pay149 (keep z) (ix2 r s) + broadcastTo S256x256 c Facts₀.broadcasts_S256x1_S256x256 (ix2 r s)) = _
  rw [soft_apply, broadcastTo_apply c _ _ (ix2 r 0) (by intro a; fin_cases a <;> rfl)]

theorem attD_apply (z : Sc) (r s : Fin 256) :
    attD k0_pay149 z (ix2 r s)
      = if s < r then Ideal.exp2 (z (ix2 r s) - softE (z (ix2 r s)) + rest k0_pay149 (keepD z) (ix2 r s)) else 0 := by
  show Scalar.select (k0_pay150 (ix2 r s)) (Ideal.exp2 (z (ix2 r s) - soft z (ix2 r s) + rest k0_pay149 (keepD z) (ix2 r s)))
    (Ideal.ofBits .f32 0x00000000#32) = _
  rw [mask_apply, soft_apply, Ideal.ofBits_zero_f32]
  by_cases h : s < r <;> simp [h, select_one, select_zero]

theorem gated_apply (a : Ac) (g : FVec Ideal S256x128 .f32) (j : S256x128.Idx) :
    gated a g j = a j * Ideal.div (g j) (1 + Ideal.exp (0 - g j)) := by
  show a j * Ideal.div (g j) (Ideal.ofBits .f32 0x3F800000#32 + Ideal.exp (Ideal.ofBits .f32 0x00000000#32 - g j)) = _
  rw [Ideal.ofBits_zero_f32, Ideal.ofBits_one_f32]

theorem scaled_apply (q : FVec Ideal S256x128 .f32) (j : S256x128.Idx) :
    scaled q j = q j * (((Real.sqrt 128)⁻¹ * (Real.log 2)⁻¹ : ℝ) : EReal) :=
  congrArg (q j * ·) scale_log2e_eq

end Cert.KernelIdeal.Sb

end
-- ==== Proof.Tail.lean ====
/- The kernel's walk over the key blocks is a tail sum: after the blocks from a row on, a head holds the sum of the
   log-complements, and of the weighted values, over all the keys from that row on. -/
module

public import proofs.«01_k».proof.Proof.Elem
public import Idealize.ShloMosaic.Lib.Pipeline.ValueKit.Tiles

@[expose] public section

noncomputable section

namespace Cert.KernelIdeal.Sb

open Cert.KernelIdeal Cert.KernelIdeal.Gen Idealize.ShloMosaic Idealize.ShloMosaic.TcCoe Idealize.ShloMosaic.ValueIdx
open Finset (Ico)

/-! ## Sums over a block of consecutive keys -/

theorem sum_block (f : ℕ → EReal) (E : ℕ) : ∑ c : Fin 256, f (E + c.val) = ∑ s ∈ Ico E (E + 256), f s := by
  rw [Finset.sum_Ico_eq_sum_range, Nat.add_sub_cancel_left, Finset.sum_range]

theorem sum_block_after (f : ℕ → EReal) (E : ℕ) (c : Fin 256) :
    (∑ m : Fin 256, if c < m then f (E + m.val) else 0) = ∑ s ∈ Ico (E + c.val + 1) (E + 256), f s := by
  have h := sum_block (fun s => if E + c.val < s then f s else 0) E
  have hc := c.isLt
  rw [← Finset.sum_Ico_consecutive _ (show E ≤ E + c.val + 1 by omega) (show E + c.val + 1 ≤ E + 256 by omega)] at h
  rw [Finset.sum_eq_zero (s := Ico E (E + c.val + 1)) fun s hs => if_neg (by have := (Finset.mem_Ico.mp hs).2; omega),
    zero_add] at h
  refine Eq.trans ?_ (h.trans (Finset.sum_congr rfl fun s hs => if_pos (by have := (Finset.mem_Ico.mp hs).1; omega)))
  exact Finset.sum_congr rfl fun m _ => if_congr (by rw [Fin.lt_def]; omega) rfl rfl

/-! ## A query row, key by key -/

/-- The log-complement of key `s` for query row `t`. -/
def ell (w : ℕ → EReal) (t s : ℕ) : EReal := if s < t then 0 - softE (w s) else 0

/-- The weight of key `s` for query row `t`. -/
def wt (w : ℕ → EReal) (t s : ℕ) : EReal :=
  if s < t then Ideal.exp2 (w s - softE (w s) + ∑ m ∈ Ico (s + 1) 2048, ell w t m) else 0

theorem ell_tail (w : ℕ → EReal) {t a : ℕ} (h : t ≤ a) (b : ℕ) : ∑ m ∈ Ico a b, ell w t m = 0 :=
  Finset.sum_eq_zero fun s hs => if_neg (by have := (Finset.mem_Ico.mp hs).1; omega)

/-- A sum of log-complements cut at a row past the query is the whole tail. -/
theorem ell_cut (w : ℕ → EReal) {t a b : ℕ} (hab : a ≤ b) (hb : b ≤ 2048) (h : t ≤ b) :
    ∑ m ∈ Ico a b, ell w t m = ∑ m ∈ Ico a 2048, ell w t m := by
  rw [← Finset.sum_Ico_consecutive _ hab hb, ell_tail w h, add_zero]

section Diagonal

variable (z : Sc) (w : ℕ → EReal) (D : ℕ) (hD : D + 256 ≤ 2048) (r : Fin 256)
  (hz : ∀ c : Fin 256, z (ix2 r c) = w (D + c.val))

include hD hz

omit hD in
theorem keepD_row (c : Fin 256) : keepD z (ix2 r c) = ell w (D + r.val) (D + c.val) := by
  rw [keepD_apply, hz, ell]
  exact if_congr (by rw [Fin.lt_def]; omega) rfl rfl

theorem total_diag : total (keepD z) (ix2 r 0) = ∑ m ∈ Ico D 2048, ell w (D + r.val) m := by
  rw [total_apply, Finset.sum_congr rfl fun c _ => keepD_row z w D r hz c, sum_block]
  exact ell_cut w (by omega) hD (by have := r.isLt; omega)

theorem attD_row (c : Fin 256) : attD k0_pay149 z (ix2 r c) = wt w (D + r.val) (D + c.val) := by
  have hr := r.isLt
  have hc := c.isLt
  rw [attD_apply, rest_apply, Finset.sum_congr rfl fun m _ => if_congr Iff.rfl (keepD_row z w D r hz m) rfl,
    sum_block_after, ell_cut w (by omega) hD (by omega), hz, wt]
  exact if_congr (by rw [Fin.lt_def]; omega) rfl rfl

theorem mix_diag (v : FVec Ideal S256x128 .bf16) (y : ℕ → EReal) (d : Fin 128) (hv : ∀ c : Fin 256, v (ix2 c d) = y (D + c.val)) :
    mix (attD k0_pay149 z) v (ix2 r d) = ∑ s ∈ Ico D 2048, wt w (D + r.val) s * y s := by
  rw [mix_apply, Finset.sum_congr rfl fun c _ => congrArg₂ (· * ·) (attD_row z w D hD r hz c) (hv c),
    sum_block fun s => wt w (D + r.val) s * y s,
    ← Finset.sum_Ico_consecutive _ (show D ≤ D + 256 by omega) hD,
    Finset.sum_eq_zero (s := Ico (D + 256) 2048) fun s hs => ?_, add_zero]
  rw [wt, if_neg (by have := (Finset.mem_Ico.mp hs).1; have := r.isLt; omega), zero_mul]

end Diagonal

section Below

variable (z : Sc) (w : ℕ → EReal) (E t : ℕ) (hE : E + 256 ≤ t) (ht : t ≤ 2048) (r : Fin 256)
  (hz : ∀ c : Fin 256, z (ix2 r c) = w (E + c.val))

include hE hz

theorem keep_row (c : Fin 256) : keep z (ix2 r c) = ell w t (E + c.val) := by
  rw [keep_apply, hz, ell, if_pos (by have := c.isLt; omega)]

include ht

theorem carry_step (c : Cr) (hc : c (ix2 r 0) = ∑ m ∈ Ico (E + 256) 2048, ell w t m) :
    addf c (total (keep z)) (ix2 r 0) = ∑ m ∈ Ico E 2048, ell w t m := by
  rw [addf_apply, hc, total_apply, Finset.sum_congr rfl fun c _ => keep_row z w E t hE r hz c, sum_block,
    add_comm, Finset.sum_Ico_consecutive _ (by omega) (by omega)]

theorem att_row (c : Cr) (hc : c (ix2 r 0) = ∑ m ∈ Ico (E + 256) 2048, ell w t m) (s : Fin 256) :
    att k0_pay149 z c (ix2 r s) = wt w t (E + s.val) := by
  have hs := s.isLt
  rw [att_apply, rest_apply, Finset.sum_congr rfl fun m _ => if_congr Iff.rfl (keep_row z w E t hE r hz m) rfl,
    sum_block_after, hc, hz, wt, if_pos (by omega), add_assoc, Finset.sum_Ico_consecutive _ (by omega) (by omega)]

theorem mix_step (c : Cr) (hc : c (ix2 r 0) = ∑ m ∈ Ico (E + 256) 2048, ell w t m) (a : Ac)
    (v : FVec Ideal S256x128 .bf16) (y : ℕ → EReal) (d : Fin 128) (hv : ∀ c : Fin 256, v (ix2 c d) = y (E + c.val))
    (ha : a (ix2 r d) = ∑ s ∈ Ico (E + 256) 2048, wt w t s * y s) :
    addf a (mix (att k0_pay149 z c) v) (ix2 r d) = ∑ s ∈ Ico E 2048, wt w t s * y s := by
  rw [addf_apply, ha, mix_apply, Finset.sum_congr rfl fun s _ => congrArg₂ (· * ·) (att_row z w E t hE ht r hz c hc s) (hv s),
    sum_block fun s => wt w t s * y s, add_comm, Finset.sum_Ico_consecutive _ (by omega) (by omega)]

end Below

/-! ## The loop -/

theorem trips1_at (n : Fin 8) : Scf.Loop.trips (k0_t1_loop (pointOf n)) = n.val := by
  revert n; decide +kernel

/-- The first loop runs once for every key block below the query block. -/
theorem trips1 (i : grid0.Coords) : (k0_t1_loop i).trips = (i 2).val := trips1_at (i 2)

theorem rowAt_at (n : Fin 8) : ∀ k < n.val, (rowAt (pointOf n) k) = 256 * (n.val - 1 - k) := by
  revert n; decide +kernel

theorem rowAt_eq (i : grid0.Coords) {k : Nat} (hk : k < (i 2).val) : rowAt i k = 256 * ((i 2).val - 1 - k) :=
  rowAt_at (i 2) k hk

theorem rowD_at (n : Fin 8) : rowD (pointOf n) = 256 * n.val := by
  revert n; decide +kernel

theorem rowD_eq (i : grid0.Coords) : rowD i = 256 * (i 2).val := rowD_at (i 2)

/-- The keys' (or values') rows of head `h`, by number. -/
def ext (x : FVec Ideal S2048x1024 .bf16) (h : Fin 8) (s : ℕ) (d : Fin 128) : EReal :=
  if hs : s < 2048 then x (ix2 ⟨s, hs⟩ ⟨128 * h.val + d.val, by have := h.isLt; have := d.isLt; omega⟩) else 0

theorem block_ext (m : Memref sig .tc .vmem S2048x1024 .bf16) (hm : m.IsWhole) (x : FVec Ideal S2048x1024 .bf16) (row : Nat)
    (hr : row + 256 ≤ 2048) (h : Fin 8) (c : Fin 256) (d : Fin 128) :
    View.readAt (Elt Ideal) m.view
      (Rect.unit (s := S2048x1024) (blockOff row h) S256x128.size (blockOff_inb hr h)).toLoadRect (hm.unread x) (ix2 c d)
      = ext x h (row + c.val) d := by
  have hc := c.isLt
  rw [View.readAt_eq_ld, hm.read_unread, ext, dif_pos (by omega)]
  refine View.ld_unit_apply_of (S := S2048x1024) (Val := Elt Ideal) (e := .bf16) x _ _ _ _ _ fun a => ?_
  fin_cases a <;> rfl

section Iter

variable (B : Fin 8 → Ideal .f32) (Q : Fin 8 → FVec Ideal S256x128 .bf16) (m5 m6 : Memref sig .tc .vmem S2048x1024 .bf16)
  (h5 : m5.IsWhole) (h6 : m6.IsWhole) (x2 x3 : FVec Ideal S2048x1024 .bf16) (i : grid0.Coords)

/-- The score of key `s` for the block's row `r` of head `h`. -/
def sc (h : Fin 8) (r : Fin 256) (s : ℕ) : EReal := (∑ d : Fin 128, Q h (ix2 r d) * ext x2 h s d) + B h

theorem iter_tail (n : Nat) (hn : n ≤ (i 2).val) (h : Fin 8) (r : Fin 256) :
    (iter B Q k0_pay149 m5 m6 (h5.unread x2) (h6.unread x3) i (start B Q m5 m6 (h5.unread x2) (h6.unread x3) i) n h).1 (ix2 r 0)
        = ∑ m ∈ Ico (256 * ((i 2).val - n)) 2048, ell (sc B Q x2 h r) (256 * (i 2).val + r.val) m
      ∧ ∀ d : Fin 128,
        (iter B Q k0_pay149 m5 m6 (h5.unread x2) (h6.unread x3) i (start B Q m5 m6 (h5.unread x2) (h6.unread x3) i) n h).2 (ix2 r d)
        = ∑ s ∈ Ico (256 * ((i 2).val - n)) 2048, wt (sc B Q x2 h r) (256 * (i 2).val + r.val) s * ext x3 h s d := by
  have hi : (i 2).val < 8 := (i 2).isLt
  have hr := r.isLt
  induction n with
  | zero =>
    have hz : ∀ c : Fin 256, score (B h) (Q h) (diagOf m5 (h5.unread x2) i h) (ix2 r c)
        = sc B Q x2 h r (256 * (i 2).val + c.val) := fun c => by
      rw [score_apply, sc]
      refine congrArg (· + B h) (Finset.sum_congr rfl fun d _ => congrArg (Q h (ix2 r d) * ·) ?_)
      rw [← rowD_eq]
      exact block_ext m5 h5 x2 (rowD i) (rowD_le i) h c d
    refine ⟨total_diag _ _ _ (by omega) r hz, fun d => mix_diag _ _ _ (by omega) r hz _ (fun s => ext x3 h s d) d fun c => ?_⟩
    rw [← rowD_eq]
    exact block_ext m6 h6 x3 (rowD i) (rowD_le i) h c d
  | succ n ih =>
    obtain ⟨hc, ha⟩ := ih (by omega)
    rw [iter_succ _ _ _ _ _ _ _ _ _ ⟨n, by rw [trips1]; omega⟩]
    have hE : 256 * ((i 2).val - n) = 256 * ((i 2).val - (n + 1)) + 256 := by omega
    have hrow : rowAt i n = 256 * ((i 2).val - (n + 1)) := by rw [rowAt_eq i (by omega)]; omega
    have hz : ∀ c : Fin 256, score (B h) (Q h) (blockAt m5 (h5.unread x2) i ⟨n, by rw [trips1]; omega⟩ h) (ix2 r c)
        = sc B Q x2 h r (256 * ((i 2).val - (n + 1)) + c.val) := fun c => by
      rw [score_apply, sc]
      refine congrArg (· + B h) (Finset.sum_congr rfl fun d _ => congrArg (Q h (ix2 r d) * ·) ?_)
      rw [← hrow]
      exact block_ext m5 h5 x2 _ (rowAt_le i ⟨n, by rw [trips1]; omega⟩) h c d
    rw [hE] at hc
    refine ⟨carry_step _ _ _ _ (by omega) (by omega) r hz _ hc, fun d => ?_⟩
    have had := ha d
    rw [hE] at had
    refine mix_step _ _ _ _ (by omega) (by omega) r hz _ hc _ _ (fun s => ext x3 h s d) d (fun c => ?_) had
    rw [← hrow]
    exact block_ext m6 h6 x3 _ (rowAt_le i ⟨n, by rw [trips1]; omega⟩) h c d

end Iter

end Cert.KernelIdeal.Sb

end
-- ==== Proof.Scalar.lean ====
/- The scalar functions of the two programs on the extended reals: the kernel works in units of `log 2`, the reference does not. -/
module

public import proofs.«01_k».proof.Proof.Tail

@[expose] public section

noncomputable section

namespace Cert.KernelIdeal.Sb

open Idealize.ShloMosaic

theorem log_two_inv_pos : (0 : ℝ) < (Real.log 2)⁻¹ := inv_pos.2 (Real.log_pos (by norm_num))

theorem L_nonneg : (0 : EReal) ≤ L := EReal.coe_nonneg.2 log_two_inv_pos.le

theorem L_top : L * ⊤ = ⊤ := EReal.coe_mul_top_of_pos log_two_inv_pos

theorem L_bot : L * ⊥ = ⊥ := EReal.coe_mul_bot_of_pos log_two_inv_pos

theorem real_mul_add (c : ℝ) (hc : 0 ≤ c) (x y : EReal) : (c : EReal) * (x + y) = c * x + c * y :=
  EReal.left_distrib_of_nonneg_of_ne_top (EReal.coe_nonneg.2 hc) (EReal.coe_ne_top c) x y

theorem L_add (x y : EReal) : L * (x + y) = L * x + L * y := real_mul_add _ log_two_inv_pos.le x y

theorem L_sub (x y : EReal) : L * (x - y) = L * x - L * y := by
  rw [sub_eq_add_neg, sub_eq_add_neg, L_add, mul_neg]

theorem real_mul_sum {ι : Type} (c : ℝ) (hc : 0 ≤ c) (t : Finset ι) (f : ι → EReal) : (c : EReal) * ∑ i ∈ t, f i = ∑ i ∈ t, c * f i := by
  classical
  induction t using Finset.induction_on with
  | empty => simp
  | insert a t ha ih => rw [Finset.sum_insert ha, Finset.sum_insert ha, real_mul_add c hc, ih]

theorem L_max (x y : EReal) : L * max x y = max (L * x) (L * y) := by
  rcases le_total x y with h | h
  · rw [max_eq_right h, max_eq_right (mul_le_mul_of_nonneg_left h L_nonneg)]
  · rw [max_eq_left h, max_eq_left (mul_le_mul_of_nonneg_left h L_nonneg)]

/-- A power of two of a number of units of `log 2` is an exponential. -/
theorem exp2_L (x : EReal) : Ideal.exp2 (L * x) = Ideal.exp x := by
  induction x using EReal.rec with
  | bot => rw [L_bot]; rfl
  | top => rw [L_top]; rfl
  | coe r =>
    show Ideal.exp2 (((Real.log 2)⁻¹ : ℝ) * (r : EReal)) = _
    rw [← EReal.coe_mul]
    show ((Real.rpow 2 ((Real.log 2)⁻¹ * r) : ℝ) : EReal) = (Real.exp r : ℝ)
    congr 1
    have h := Real.rpow_def_of_pos (x := 2) (by norm_num) ((Real.log 2)⁻¹ * r)
    have hl : Real.log 2 ≠ 0 := (Real.log_pos (by norm_num)).ne'
    show (2 : ℝ) ^ ((Real.log 2)⁻¹ * r) = _
    rw [h, mul_inv_cancel_left₀ hl]

/-- The softplus of one score. -/
def sp (z : EReal) : EReal := max z 0 + Ideal.log (1 + Ideal.exp (-max z (-z)))

theorem softE_L (z : EReal) : softE (L * z) = L * sp z := by
  have hm : max (L * z) (-(L * z)) = L * max z (-z) := by rw [L_max, mul_neg]
  have h0 : max (L * z) 0 = L * max z 0 := by rw [L_max, mul_zero]
  have hn : 0 - L * max z (-z) = L * -max z (-z) := by rw [zero_sub, mul_neg]
  unfold softE sp
  rw [hm, h0, hn, exp2_L, L_add, mul_comm (Ideal.log _) L]

/-- The logarithm of what key `s` leaves to the keys before it, nothing for a key that is not strictly before the query. -/
def lk (z : ℕ → EReal) (t s : ℕ) : EReal := if s < t then -sp (z s) else 0

theorem ell_L (z : ℕ → EReal) (t s : ℕ) : ell (fun m => L * z m) t s = L * lk z t s := by
  unfold ell lk
  split
  · rw [softE_L, zero_sub, mul_neg]
  · rw [mul_zero]

/-- The weight of a key in units of `log 2` and out of them. -/
theorem wt_L (z : ℕ → EReal) (t s : ℕ) : wt (fun m => L * z m) t s =
    if s < t then Ideal.exp (z s - sp (z s) + ∑ m ∈ Finset.Ico (s + 1) 2048, lk z t m) else 0 := by
  unfold wt
  refine if_congr Iff.rfl ?_ rfl
  have hs : ∑ m ∈ Finset.Ico (s + 1) 2048, ell (fun m => L * z m) t m = L * ∑ m ∈ Finset.Ico (s + 1) 2048, lk z t m :=
    (Finset.sum_congr rfl fun m _ => ell_L z t m).trans (real_mul_sum _ log_two_inv_pos.le _ _).symm
  rw [softE_L, hs, ← L_sub, ← L_add, exp2_L]

theorem sp_top : sp ⊤ = ⊤ := by
  have h : max (⊤ : EReal) (-⊤) = ⊤ := max_eq_left le_top
  have hl : Ideal.log (1 + Ideal.exp (-(⊤ : EReal))) = 0 := by
    rw [EReal.neg_top]
    show Ideal.log (1 + 0) = 0
    rw [add_zero]
    show (if (1 : ℝ) ≤ 0 then ⊥ else ((Real.log 1 : ℝ) : EReal)) = 0
    rw [if_neg (by norm_num), Real.log_one, EReal.coe_zero]
  unfold sp
  rw [h, hl, add_zero, max_eq_left le_top]

theorem sp_bot : sp ⊥ = 0 := by
  have h : max (⊥ : EReal) (-⊥) = ⊤ := by rw [EReal.neg_bot]; exact max_eq_right bot_le
  have hl : Ideal.log (1 + Ideal.exp (-(⊤ : EReal))) = 0 := by
    rw [EReal.neg_top]
    show Ideal.log (1 + 0) = 0
    rw [add_zero]
    show (if (1 : ℝ) ≤ 0 then ⊥ else ((Real.log 1 : ℝ) : EReal)) = 0
    rw [if_neg (by norm_num), Real.log_one, EReal.coe_zero]
  unfold sp
  rw [h, hl, add_zero, max_eq_right bot_le]

theorem sp_coe (r : ℝ) : sp r = ((max r 0 + Real.log (1 + Real.exp (-max r (-r))) : ℝ) : EReal) := by
  have hp : (0 : ℝ) < 1 + Real.exp (-max r (-r)) := by positivity
  have hm : max (r : EReal) (-(r : EReal)) = ((max r (-r) : ℝ) : EReal) := by
    rw [← EReal.coe_neg]; exact (EReal.coe_strictMono.monotone.map_max).symm
  have h0 : max (r : EReal) 0 = ((max r 0 : ℝ) : EReal) := by
    rw [← EReal.coe_zero]; exact (EReal.coe_strictMono.monotone.map_max).symm
  have hl : Ideal.log (1 + Ideal.exp (-((max r (-r) : ℝ) : EReal))) = (Real.log (1 + Real.exp (-max r (-r))) : ℝ) := by
    rw [← EReal.coe_neg]
    show Ideal.log (((1 : ℝ) : EReal) + ((Real.exp (-max r (-r)) : ℝ) : EReal)) = _
    rw [← EReal.coe_add]
    exact if_neg (not_le.2 hp)
  unfold sp
  rw [hm, h0, hl, ← EReal.coe_add]

theorem sp_nonneg (z : EReal) : 0 ≤ sp z := by
  induction z using EReal.rec with
  | bot => rw [sp_bot]
  | top => rw [sp_top]; exact le_top
  | coe r =>
    rw [sp_coe]
    refine EReal.coe_nonneg.2 (add_nonneg (le_max_right _ _) (Real.log_nonneg ?_))
    have := (Real.exp_pos (-max r (-r))).le
    linarith

theorem lk_le (z : ℕ → EReal) (t s : ℕ) : lk z t s ≤ 0 := by
  unfold lk
  split
  · have h := EReal.neg_le_neg_iff.2 (sp_nonneg (z s))
    rwa [neg_zero] at h
  · exact le_rfl

theorem sum_lk_ne_top (z : ℕ → EReal) (t : ℕ) (u : Finset ℕ) : ∑ m ∈ u, lk z t m ≠ ⊤ := by
  have h : ∑ m ∈ u, lk z t m ≤ 0 := Finset.sum_nonpos fun m _ => lk_le z t m
  intro e
  rw [e] at h
  exact absurd h (by simp)

/-- The reference's exponent, a log sigmoid plus a running sum less its own first term, is the kernel's, wherever the rest of the running
    sum is not `⊤`. -/
theorem exponent (z R : EReal) (hR : R ≠ ⊤) : -sp (-z) + ((-sp z + R) - -sp z) = z - sp z + R := by
  induction z using EReal.rec with
  | bot => rw [EReal.neg_bot, sp_top, EReal.neg_top, EReal.bot_add, EReal.bot_sub, EReal.bot_add]
  | top =>
    rw [EReal.neg_top, sp_bot, sp_top, EReal.neg_top, EReal.bot_add, EReal.bot_sub, EReal.add_bot]
    show ⊥ = (⊤ - ⊤ : EReal) + R
    rw [sub_eq_add_neg, EReal.neg_top, EReal.add_bot, EReal.bot_add]
  | coe r =>
    have hs : -sp (-(r : EReal)) = (r : EReal) - sp r := by
      rw [← EReal.coe_neg, sp_coe, sp_coe, ← EReal.coe_neg, ← EReal.coe_sub, EReal.coe_eq_coe_iff, neg_neg, max_comm (-r) r]
      rcases le_total r 0 with h | h
      · rw [max_eq_left (neg_nonneg.2 h), max_eq_right h]; ring
      · rw [max_eq_right (neg_nonpos.2 h), max_eq_left h]; ring
    rw [hs]
    refine congrArg (((r : EReal) - sp r) + ·) ?_
    rw [sp_coe]
    generalize (max r 0 + Real.log (1 + Real.exp (-max r (-r))) : ℝ) = a
    induction R using EReal.rec with
    | bot => rw [EReal.add_bot, EReal.bot_sub]
    | top => exact absurd rfl hR
    | coe b =>
      rw [← EReal.coe_neg, ← EReal.coe_add, ← EReal.coe_sub, EReal.coe_eq_coe_iff]
      ring

/-- The gate written as one quotient and as a product with a sigmoid. -/
theorem gate_eq (g : EReal) : Ideal.div g (1 + Ideal.exp (0 - g)) = g * Ideal.div 1 (1 + Ideal.exp (-g)) := by
  have hx : 0 ≤ Ideal.exp (-g) := by
    induction (-g) using EReal.rec with
    | bot => exact le_rfl
    | top => exact le_top
    | coe r => exact EReal.coe_nonneg.2 (Real.exp_pos r).le
  have h1 : (1 : EReal) ≤ 1 + Ideal.exp (-g) := le_add_of_nonneg_right hx
  have hne : 1 + Ideal.exp (-g) ≠ 0 := fun h => by rw [h] at h1; exact absurd h1 (by simp)
  rw [zero_sub]
  unfold Ideal.div
  rw [if_neg hne, if_neg hne, one_mul]

end Cert.KernelIdeal.Sb
-- ==== Proof.BlockVal.lean ====
/- What one grid point writes to its block of the output, element by element. -/
module

public import proofs.«01_k».proof.Proof.Tail

@[expose] public section

noncomputable section

namespace Cert.KernelIdeal.Sb

open Cert.KernelIdeal Cert.KernelIdeal.Gen Idealize.ShloMosaic Idealize.ShloMosaic.TcCoe Idealize.ShloMosaic.ValueIdx
open Finset (Ico)

/-- Column `d` of head `h` of a block of eight heads. -/
abbrev col (h : Fin 8) (d : Fin 128) : Fin 1024 := ⟨128 * h.val + d.val, by have := h.isLt; have := d.isLt; omega⟩

/-- Head `h` of head group `n`. -/
abbrev headNo (n : Fin 2) (h : Fin 8) : Fin 16 := ⟨8 * n.val + h.val, by have := h.isLt; have := n.isLt; omega⟩

theorem off1_at : ∀ (n : Fin 2) (h : Fin 8),
    k0_off1 (fun a => match a with | 0 => (0 : Fin 4) | 1 => n | 2 => (0 : Fin 8)) (BitVec.ofNat 32 h.val) 0 = 8 * n.val + h.val := by
  decide +kernel

theorem bias_apply (m : Memref sig .tc .smem S16 .f32) (hm : m.IsWhole) (x : FVec Ideal S16 .f32) (i : grid0.Coords) (h : Fin 8) :
    biasOf m (hm.unread x) i h = x (ix1 (headNo (i 1) h)) * L := by
  refine congrArg₂ (· * ·) ?_ log2e_eq
  rw [View.readAt_eq_ld, hm.read_unread]
  refine View.ld_unit_apply_of (S := S16) (Val := Elt Ideal) (e := .f32) x _ _ _ _ _ fun a => ?_
  fin_cases a
  exact (off1_at (i 1) h).symm

theorem cols_apply (m : Memref sig .tc .vmem S256x1024 .f32) (hm : m.IsWhole) (x : FVec Ideal S256x1024 .f32) (h : Fin 8)
    (r : Fin 256) (d : Fin 128) :
    View.readAt (Elt Ideal) m.view (colRect h).toLoadRect (hm.unread x) (ix2 r d) = x (ix2 r (col h d)) := by
  rw [View.readAt_eq_ld, hm.read_unread]
  refine View.ld_unit_apply_of (S := S256x1024) (Val := Elt Ideal) (e := .f32) x _ _ _ _ _ fun a => ?_
  fin_cases a
  · exact (Nat.zero_add _).symm
  · rfl

/-- A query row's scores against the keys of head `h`, in units of `log 2`. -/
def scores (x0 : FVec Ideal S16 .f32) (x1 : FVec Ideal S256x1024 .f32) (x2 : FVec Ideal S2048x1024 .bf16) (n : Fin 2) (h : Fin 8)
    (r : Fin 256) (s : ℕ) : EReal :=
  (∑ d : Fin 128, x1 (ix2 r (col h d)) * (((Real.sqrt 128)⁻¹ * (Real.log 2)⁻¹ : ℝ) : EReal) * ext x2 h s d)
    + x0 (ix1 (headNo n h)) * L

/-- The gate. -/
def gate (g : EReal) : EReal := Ideal.div g (1 + Ideal.exp (0 - g))

theorem out_apply (c : Dev nD) (i : grid0.Coords) (arg3 : Memref sig .tc .smem S16 .f32) (harg3 : arg3.IsWhole)
    (arg4 : Memref sig .tc .vmem S256x1024 .f32) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S256x1024 .f32) (harg7 : arg7.IsWhole)
    (arg8 : Memref sig .tc .vmem S256x1024 .bf16) (harg8 : arg8.IsWhole)
    (x0 : FVec Ideal S16 .f32) (x1 : FVec Ideal S256x1024 .f32) (x2 x3 : FVec Ideal S2048x1024 .bf16)
    (x4 : FVec Ideal S256x1024 .f32)
    (h : Fin 8) (r : Fin 256) (d : Fin 128) :
    out0_A_5 (F := Ideal) c i arg3 harg3 arg4 harg4 arg5 harg5 arg6 harg6 arg7 harg7 arg8 harg8 x0 x1 x2 x3 x4
        (ix2 r (col h d))
      = (∑ s ∈ Ico 0 2048, wt (scores x0 x1 x2 (i 1) h r) (256 * (i 2).val + r.val) s * ext x3 h s d)
        * gate (x4 (ix2 r (col h d))) := by
  have hd := d.isLt
  have hc := fun y => cover0_A_5 (F := Ideal) c i arg3 harg3 arg4 harg4 arg5 harg5 arg6 harg6 arg7 harg7 arg8 harg8 x0 x1 x2 x3 x4 y
  unfold out0_A_5
  rw [View.read_writes_eq_canon _ _ _ hc, run_eq]
  refine View.canon_ofFn_unit_eq_of_forall (S := S256x1024) (Val := Elt Ideal) (e := .bf16)
    (fun k : Fin 8 => ![0, 128 * k.rev.val]) S256x128.size (fun k => colOff_inb k.rev)
    (fun k => stored c i arg3 harg3 arg4 harg4 arg5 harg5 arg6 harg6 arg7 harg7 arg8 harg8 x0 x1 x2 x3 x4 k.rev) _ _
    ⟨h.rev, fun a => ?_⟩ fun k x hx => ?_
  · rw [Fin.rev_rev]
    fin_cases a
    · exact ⟨Nat.zero_le _, by show r.val < 0 + 256; have := r.isLt; omega⟩
    · exact ⟨Nat.le_add_right _ _, by show 128 * h.val + d.val < 128 * h.val + 128; omega⟩
  · have h0 : r.val = 0 + (x 0).val := hx 0
    have h1 : 128 * h.val + d.val = 128 * k.rev.val + (x 1).val := hx 1
    have hx1 : (x 1).val < 128 := (x 1).isLt
    have hk : k.rev = h := Fin.ext (by omega)
    have hx' : x = ix2 r d := by
      funext a
      fin_cases a
      · exact Fin.ext (by show (x 0).val = r.val; omega)
      · exact Fin.ext (by show (x 1).val = d.val; rw [hk] at h1; omega)
    rw [hx', hk]
    refine (gated_apply _ _ _).trans ?_
    rw [cols_apply]
    refine congrArg (· * gate _) ?_
    unfold final
    have hf := (iter_tail (biasOf arg3 (harg3.unread x0) i) (queryOf arg4 (harg4.unread x1)) arg5 arg6 harg5 harg6 x2 x3 i
      (i 2).val (Nat.le_refl _) h r).2 d
    rw [Nat.sub_self, Nat.mul_zero] at hf
    rw [trips1]
    refine hf.trans ?_
    have hs : sc (biasOf arg3 (harg3.unread x0) i) (queryOf arg4 (harg4.unread x1)) x2 h r = scores x0 x1 x2 (i 1) h r := by
      funext s
      unfold sc scores
      rw [bias_apply]
      refine congrArg (· + _) (Finset.sum_congr rfl fun d _ => congrArg (· * _) ?_)
      exact (scaled_apply _ _).trans (congrArg (· * _) (cols_apply _ _ _ _ _ _))
    rw [hs]

end Cert.KernelIdeal.Sb

end
-- ==== Proof.RefVal.lean ====
/- The reference read at one element: its scores, the running sum of what the keys leave, the weights, the gated mix of the values. -/
module

public import proofs.«01_k».proof.Proof.Scalar
public import proofs.«01_k».proof.Proof.BlockVal
public import proofs.«01_k».proof.Proof.Gen.ReferenceIdeal.Read

@[expose] public section

noncomputable section

namespace Cert.ReferenceIdeal.Sb

open Cert.ReferenceIdeal Cert.ReferenceIdeal.Gen Cert.ReferenceIdeal.Read Idealize.ShloMosaic Idealize.ShloMosaic.TcCoe
  Idealize.ShloMosaic.ValueIdx Cert.KernelIdeal.Sb

/-- The row of batch `b`, position `t`. -/
def rowG (b : Fin 4) (t : Fin 2048) : Fin 8192 := ⟨2048 * b.val + t.val, by have := b.isLt; have := t.isLt; omega⟩

/-- The column of head `h`, feature `d`. -/
def colG (h : Fin 16) (d : Fin 128) : Fin 2048 := ⟨128 * h.val + d.val, by have := h.isLt; have := d.isLt; omega⟩

/-- One head's entry at a position of a batch, `0` past the last position. -/
def extG (x : FVec Ideal S8192x2048 .bf16) (b : Fin 4) (h : Fin 16) (s : ℕ) (d : Fin 128) : EReal :=
  if hs : s < 2048 then x (ix2 (rowG b ⟨s, hs⟩) (colG h d)) else 0

/-- The score of key `s` for query `t`. -/
def zr (x0 : FVec Ideal S16 .f32) (x1 : FVec Ideal S8192x2048 .f32) (x2 : FVec Ideal S8192x2048 .bf16)
    (b : Fin 4) (h : Fin 16) (t : Fin 2048) (s : ℕ) : EReal :=
  (∑ d : Fin 128, x1 (ix2 (rowG b t) (colG h d)) * extG x2 b h s d) * (((Real.sqrt 128)⁻¹ : ℝ) : EReal) + x0 (ix1 h)

theorem scale_eq (i : S_.Idx) : val_main_v6 (F := Ideal) i = (((Real.sqrt 128)⁻¹ : ℝ) : EReal) := by
  have h128 : Ideal.ofBits .f32 0x43000000#32 = ((128 : ℝ) : EReal) := by
    simp [Ideal.ofBits, Ideal.ieee, -EReal.coe_mul]
    norm_num
  rw [val_main_v6_apply, val_main_v5_apply, val_main_cst_apply, val_main_cst_0_apply]
  show Ideal.div (Ideal.ofBits .f32 0x3F800000#32) (Ideal.sqrt (Ideal.ofBits .f32 0x43000000#32)) = _
  rw [h128, Ideal.ofBits_one_f32, Ideal.sqrt_coe, if_neg (by norm_num), Ideal.div_coe (Real.sqrt_pos.2 (by norm_num)).ne', one_mul, one_div]

/-! ## The running sum from the end -/

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem window_numel : Shape.numel (⟨4, ![1, 1, 1, 2048]⟩ : Shape) = 2048 := by decide

theorem window_symm (n : Fin (Shape.numel ⟨4, ![1, 1, 1, 2048]⟩)) :
    (Shape.rowMajor ⟨4, ![1, 1, 1, 2048]⟩).symm n = ix4 (0 : Fin 1) (0 : Fin 1) (0 : Fin 1) (n.cast window_numel) :=
  ((Shape.rowMajor _).symm_apply_eq).2 (Fin.ext (by
    rw [Shape.rowMajor_val_four]
    show n.val = ((0 * 1 + 0) * 1 + 0) * 2048 + n.val
    omega))

theorem sum_from (f : ℕ → EReal) (s : ℕ) (hs : s ≤ 2048) :
    ∑ n : Fin 2048, (if s + n.val < 2048 then f (s + n.val) else 0) = ∑ m ∈ Finset.Ico s 2048, f m := by
  rw [Finset.sum_Ico_eq_sum_range, ← Finset.sum_range fun n => if s + n < 2048 then f (s + n) else 0]
  refine (Finset.sum_subset (Finset.range_subset_range.2 (Nat.sub_le 2048 s)) fun n _ hn => ?_).symm.trans
    (Finset.sum_congr rfl fun n hn => ?_)
  · rw [Finset.mem_range] at hn
    exact if_neg (by omega)
  · rw [Finset.mem_range] at hn
    exact if_pos (by omega)

theorem cumsum_apply (x : FVec Ideal S4x16x2048x2048 .f32) (init : S_.Idx → Ideal .f32) (hinit : ∀ i, init i = 0)
    (w : S4x16x2048x2048.ReduceWindows ![1, 1, 1, 2048] ![1, 1, 1, 1] ![0, 0, 0, 0] ![0, 0, 0, 2047] S4x16x2048x2048) (hu : 0 < S_.numel)
    (b : Fin 4) (h : Fin 16) (t s : Fin 2048) (f : ℕ → EReal) (hf : ∀ m : Fin 2048, x (ix4 b h t m) = f m.val) :
    Host.reduceWindowAdd ![1, 1, 1, 2048] ![1, 1, 1, 1] ![0, 0, 0, 0] ![0, 0, 0, 2047] x init w hu (ix4 b h t s)
      = ∑ m ∈ Finset.Ico s.val 2048, f m := by
  unfold Host.reduceWindowAdd
  rw [hinit]
  refine (congrFun (Ideal.hostReduceWindowAdd_def _ _ _ _ w HostSchedule.single x 0) (ix4 b h t s)).trans ?_
  unfold Ideal.hostReduceWindowAdd
  refine (foldl_add _ _ _).trans ?_
  rw [zero_add, ← Fin.sum_univ_def, ← sum_from f s.val s.isLt.le]
  refine Fintype.sum_equiv (finCongr window_numel) _ _ fun n => ?_
  have hn : n.val < 2048 := (n.cast window_numel).isLt
  have w0 : ((Shape.rowMajor ⟨4, ![1, 1, 1, 2048]⟩).symm n 0).val = 0 := congrArg (fun i : Shape.Idx _ => (i 0).val) (window_symm n)
  have w1 : ((Shape.rowMajor ⟨4, ![1, 1, 1, 2048]⟩).symm n 1).val = 0 := congrArg (fun i : Shape.Idx _ => (i 1).val) (window_symm n)
  have w2 : ((Shape.rowMajor ⟨4, ![1, 1, 1, 2048]⟩).symm n 2).val = 0 := congrArg (fun i : Shape.Idx _ => (i 2).val) (window_symm n)
  have w3 : ((Shape.rowMajor ⟨4, ![1, 1, 1, 2048]⟩).symm n 3).val = n.val := congrArg (fun i : Shape.Idx _ => (i 3).val) (window_symm n)
  split
  · next hin =>
    have h3 : 0 ≤ s.val * 1 + ((Shape.rowMajor ⟨4, ![1, 1, 1, 2048]⟩).symm n 3).val
      ∧ s.val * 1 + ((Shape.rowMajor ⟨4, ![1, 1, 1, 2048]⟩).symm n 3).val - 0 < 2048 := hin 3
    have hlt : s.val + n.val < 2048 := by omega
    refine Eq.trans ?_ (if_pos hlt).symm
    refine (congrArg x (funext fun a => Fin.ext ?_)).trans (hf ⟨s.val + n.val, hlt⟩)
    match a with
    | ⟨0, _⟩ => show b.val * 1 + ((Shape.rowMajor ⟨4, ![1, 1, 1, 2048]⟩).symm n 0).val - 0 = b.val; omega
    | ⟨1, _⟩ => show h.val * 1 + ((Shape.rowMajor ⟨4, ![1, 1, 1, 2048]⟩).symm n 1).val - 0 = h.val; omega
    | ⟨2, _⟩ => show t.val * 1 + ((Shape.rowMajor ⟨4, ![1, 1, 1, 2048]⟩).symm n 2).val - 0 = t.val; omega
    | ⟨3, _⟩ => show s.val * 1 + ((Shape.rowMajor ⟨4, ![1, 1, 1, 2048]⟩).symm n 3).val - 0 = s.val + n.val; omega
  · next hin =>
    have hlt : ¬ s.val + n.val < 2048 := fun hlt => hin fun a => by
      match a with
      | ⟨0, _⟩ =>
        show 0 ≤ b.val * 1 + ((Shape.rowMajor ⟨4, ![1, 1, 1, 2048]⟩).symm n 0).val
          ∧ b.val * 1 + ((Shape.rowMajor ⟨4, ![1, 1, 1, 2048]⟩).symm n 0).val - 0 < 4
        have := b.isLt; omega
      | ⟨1, _⟩ =>
        show 0 ≤ h.val * 1 + ((Shape.rowMajor ⟨4, ![1, 1, 1, 2048]⟩).symm n 1).val
          ∧ h.val * 1 + ((Shape.rowMajor ⟨4, ![1, 1, 1, 2048]⟩).symm n 1).val - 0 < 16
        have := h.isLt; omega
      | ⟨2, _⟩ =>
        show 0 ≤ t.val * 1 + ((Shape.rowMajor ⟨4, ![1, 1, 1, 2048]⟩).symm n 2).val
          ∧ t.val * 1 + ((Shape.rowMajor ⟨4, ![1, 1, 1, 2048]⟩).symm n 2).val - 0 < 2048
        have := t.isLt; omega
      | ⟨3, _⟩ =>
        show 0 ≤ s.val * 1 + ((Shape.rowMajor ⟨4, ![1, 1, 1, 2048]⟩).symm n 3).val
          ∧ s.val * 1 + ((Shape.rowMajor ⟨4, ![1, 1, 1, 2048]⟩).symm n 3).val - 0 < 2048
        omega
    exact (if_neg hlt).symm

/-! ## The reference, operation by operation -/

variable (x0 : FVec Ideal S16 .f32) (x1 : FVec Ideal S8192x2048 .f32) (x2 x3 : FVec Ideal S8192x2048 .bf16) (x4 : FVec Ideal S8192x2048 .f32)
  (b : Fin 4) (h : Fin 16) (t s : Fin 2048) (d : Fin 128)

/-- A reshape of the rows and columns into batches, positions, heads and features. -/
theorem split_idx (i : S8192x2048.Idx) (h0 : (i 0).val = (((b.val * 2048 + s.val) * 16 + h.val) * 128 + d.val) / 2048)
    (h1 : (i 1).val = (((b.val * 2048 + s.val) * 16 + h.val) * 128 + d.val) % 2048) : i = ix2 (rowG b s) (colG h d) := by
  have := h.isLt
  have := d.isLt
  funext a
  match a with
  | ⟨0, _⟩ => exact Fin.ext (by show (i 0).val = 2048 * b.val + s.val; omega)
  | ⟨1, _⟩ => exact Fin.ext (by show (i 1).val = 128 * h.val + d.val; omega)

theorem extG_val (x : FVec Ideal S8192x2048 .bf16) : extG x b h s.val d = x (ix2 (rowG b s) (colG h d)) := dif_pos s.isLt

theorem q_apply : val_main_v0 (F := Ideal) x1 (ix4 b t h d) = x1 (ix2 (rowG b t) (colG h d)) := by
  rw [val_main_v0_apply]
  exact congrArg x1 (split_idx b h t d _ rfl rfl)

theorem k_apply : val_main_v2 (F := Ideal) x2 (ix4 b s h d) = x2 (ix2 (rowG b s) (colG h d)) := by
  rw [val_main_v2_apply]
  exact congrArg x2 (split_idx b h s d _ rfl rfl)

theorem v_apply : val_main_v4 (F := Ideal) x3 (ix4 b s h d) = x3 (ix2 (rowG b s) (colG h d)) := by
  rw [val_main_v4_apply]
  exact congrArg x3 (split_idx b h s d _ rfl rfl)

theorem z_apply : val_main_v13 (F := Ideal) x0 x1 x2 (ix4 b h t s) = zr x0 x1 x2 b h t s.val := by
  have hl (k : Fin 128) : lidx_main_v8 (ix4 b h t s) k = ix4 b t h k := by funext a; fin_cases a <;> rfl
  have hr (k : Fin 128) : ridx_main_v8 (ix4 b h t s) k = ix4 b s h k := by funext a; fin_cases a <;> rfl
  have h8 : val_main_v10 (F := Ideal) x1 x2 (ix4 b h t s) = (∑ k : Fin 128, x1 (ix2 (rowG b t) (colG h k)) * extG x2 b h s.val k)
      * (((Real.sqrt 128)⁻¹ : ℝ) : EReal) := by
    rw [val_main_v10_apply, val_main_v9_apply]
    refine congrArg₂ (fun x y : EReal => x * y) ((val_main_v8_apply _ _ _).trans (Finset.sum_congr rfl fun k _ => ?_)) (scale_eq _)
    rw [hl, hr, q_apply, k_apply, extG_val]
  have h10 : val_main_v12 (F := Ideal) x0 (ix4 b h t s) = x0 (ix1 h) := by
    rw [val_main_v12_apply, val_main_v11_apply]
    exact congrArg x0 (by funext a; fin_cases a; rfl)
  rw [val_main_v13_apply, h8, h10]
  rfl

theorem slt_pos : IntOp.cmpi .slt (BitVec.ofNat 32 s.val) (BitVec.ofNat 32 t.val) = if s.val < t.val then 1#1 else 0#1 := by
  have hs := s.isLt
  have ht := t.isLt
  have h : (BitVec.ofNat 32 s.val).slt (BitVec.ofNat 32 t.val) = decide (s.val < t.val) := by
    rw [BitVec.slt_eq_decide, BitVec.toInt_eq_toNat_of_lt (by simp; omega), BitVec.toInt_eq_toNat_of_lt (by simp; omega)]
    simp only [BitVec.toNat_ofNat]
    congr 1
    rw [Nat.mod_eq_of_lt (by omega), Nat.mod_eq_of_lt (by omega)]
    exact propext Int.ofNat_lt
  show BitVec.ofBool ((BitVec.ofNat 32 s.val).slt (BitVec.ofNat 32 t.val)) = _
  rw [h]
  by_cases hst : s.val < t.val <;> simp [hst]

theorem mask_apply : val_main_v19 (F := Ideal) (ix4 (0 : Fin 1) (0 : Fin 1) t s) = if s.val < t.val then 1#1 else 0#1 := by
  rw [val_main_v19_apply, val_main_v18_apply, val_main_v16_apply, val_main_v17_apply, val_main_v14_apply, val_main_v15_apply]
  exact slt_pos t s

theorem soft_of (y u w : EReal) : Scalar.select (FloatOps.cmpf (F := Ideal) (φ := .f32) .une y y) u w = w := by
  have hc : FloatOps.cmpf (F := Ideal) (φ := .f32) .une y y = 0#1 := by simp [Ideal.cmpf_def, Ideal.cmp]
  rw [hc, select_zero]

/-- jax's `logaddexp(y, 0)` is the softplus. -/
theorem softplus_eq (y : EReal) : max y (Ideal.ofBits .f32 0x00000000#32) + Ideal.log1p (Ideal.exp (-(max (y - Ideal.ofBits .f32 0x00000000#32)
    (-(y - Ideal.ofBits .f32 0x00000000#32))))) = sp y := by
  rw [Ideal.ofBits_zero_f32, sub_zero]
  rfl

theorem lsn_apply : val_main_v21 (F := Ideal) x0 x1 x2 (ix4 b h t s) = -sp (zr x0 x1 x2 b h t s.val) := by
  have hz : val_main_call0_v0 (F := Ideal) x0 x1 x2 (ix4 b h t s) = zr x0 x1 x2 b h t s.val := by
    rw [val_main_call0_v0_apply, val_main_v20_apply, z_apply]
    exact neg_neg _
  rw [val_main_v21_apply, val_main_call0_v1_apply, val_main_call0_call0_v4_apply]
  refine congrArg (fun x : EReal => -x) ((soft_of _ _ _).trans ?_)
  rw [val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v0_apply,
    val_main_call0_call0_v2_apply, hz]
  exact softplus_eq _

theorem ls_apply : val_main_v25 (F := Ideal) x0 x1 x2 (ix4 b h t s) = -sp (-zr x0 x1 x2 b h t s.val) := by
  have hz : val_main_call3_v0 (F := Ideal) x0 x1 x2 (ix4 b h t s) = -zr x0 x1 x2 b h t s.val := by
    rw [val_main_call3_v0_apply, z_apply]
    rfl
  rw [val_main_v25_apply, val_main_call3_v1_apply, val_main_call3_call0_v4_apply]
  refine congrArg (fun x : EReal => -x) ((soft_of _ _ _).trans ?_)
  rw [val_main_call3_call0_v11_apply, val_main_call3_call0_v1_apply, val_main_call3_call0_v10_apply, val_main_call3_call0_v9_apply,
    val_main_call3_call0_v8_apply, val_main_call3_call0_v7_apply, val_main_call3_call0_v3_apply, val_main_call3_call0_v0_apply,
    val_main_call3_call0_v2_apply, hz]
  exact softplus_eq _

theorem select_lt {p : Prop} [Decidable p] (u w : EReal) : Scalar.select (if p then 1#1 else 0#1) u w = if p then u else w := by
  split
  · exact select_one _ _
  · exact select_zero _ _

theorem lk_apply : val_main_v22 (F := Ideal) x0 x1 x2 (ix4 b h t s) = lk (zr x0 x1 x2 b h t) t.val s.val := by
  have hi : idx_main_call1_v1 (ix4 b h t s) = ix4 (0 : Fin 1) (0 : Fin 1) t s := by funext a; fin_cases a <;> rfl
  rw [val_main_v22_apply, val_main_call1_v1_apply, hi, mask_apply, select_lt, lsn_apply, val_main_call1_v2_apply, val_main_call1_v0_apply]
  exact if_congr Iff.rfl rfl Ideal.ofBits_zero_f32

theorem rest_apply : val_main_v23 (F := Ideal) x0 x1 x2 (ix4 b h t s)
    = ∑ m ∈ Finset.Ico s.val 2048, lk (zr x0 x1 x2 b h t) t.val m := by
  unfold val_main_v23
  refine cumsum_apply _ _ (fun i => ?_) _ _ b h t s _ fun m => lk_apply x0 x1 x2 b h t m
  rw [val_main_call2_v0_apply, val_main_call2_cst_apply]
  exact Ideal.ofBits_zero_f32

/-- The weight of key `s` for query `t`. -/
def wr (z : ℕ → EReal) (t s : ℕ) : EReal :=
  if s < t then Ideal.exp (z s - sp (z s) + ∑ m ∈ Finset.Ico (s + 1) 2048, lk z t m) else 0

theorem att_apply : val_main_v28 (F := Ideal) x0 x1 x2 (ix4 b h t s) = wr (zr x0 x1 x2 b h t) t.val s.val := by
  have hi : idx_main_call4_v1 (ix4 b h t s) = ix4 (0 : Fin 1) (0 : Fin 1) t s := by funext a; fin_cases a <;> rfl
  rw [val_main_v28_apply, val_main_call4_v1_apply, hi, mask_apply, select_lt, val_main_call4_v2_apply, val_main_call4_v0_apply,
    val_main_v27_apply, val_main_v26_apply, val_main_v24_apply, ls_apply, rest_apply, lk_apply]
  unfold wr
  by_cases hst : s.val < t.val
  · rw [if_pos hst, if_pos hst]
    refine congrArg Ideal.exp ?_
    rw [Finset.sum_eq_sum_Ico_succ_bot s.isLt]
    generalize hR : ∑ m ∈ Finset.Ico (s.val + 1) 2048, lk (zr x0 x1 x2 b h t) t.val m = R
    have hlk : lk (zr x0 x1 x2 b h t) t.val s.val = -sp (zr x0 x1 x2 b h t s.val) := if_pos hst
    rw [hlk]
    exact exponent _ R (hR ▸ sum_lk_ne_top _ _ _)
  · rw [if_neg hst, if_neg hst]
    exact Ideal.ofBits_zero_f32

theorem mix_apply : val_main_v31 (F := Ideal) x0 x1 x2 x3 (ix2 (rowG b t) (colG h d))
    = ∑ m ∈ Finset.Ico 0 2048, wr (zr x0 x1 x2 b h t) t.val m * extG x3 b h m d := by
  have hb := b.isLt
  have hh := h.isLt
  have ht := t.isLt
  have hd := d.isLt
  have h29 : idx_main_v31 (ix2 (rowG b t) (colG h d)) = ix4 b t h d := by
    funext a
    match a with
    | ⟨0, _⟩ => exact Fin.ext (by show ((2048 * b.val + t.val) * 2048 + (128 * h.val + d.val)) / 4194304 = b.val; omega)
    | ⟨1, _⟩ => exact Fin.ext (by show ((2048 * b.val + t.val) * 2048 + (128 * h.val + d.val)) / 2048 % 2048 = t.val; omega)
    | ⟨2, _⟩ => exact Fin.ext (by show ((2048 * b.val + t.val) * 2048 + (128 * h.val + d.val)) / 128 % 16 = h.val; omega)
    | ⟨3, _⟩ => exact Fin.ext (by show ((2048 * b.val + t.val) * 2048 + (128 * h.val + d.val)) % 128 = d.val; omega)
  have h28 : idx_main_v30 (ix4 b t h d) = ix4 b h d t := by funext a; fin_cases a <;> rfl
  have hl (k : Fin 2048) : lidx_main_v29 (ix4 b h d t) k = ix4 b k h d := by funext a; fin_cases a <;> rfl
  have hr (k : Fin 2048) : ridx_main_v29 (ix4 b h d t) k = ix4 b h t k := by funext a; fin_cases a <;> rfl
  rw [val_main_v31_apply, h29, val_main_v30_apply, h28, val_main_v29_apply, ← Finset.range_eq_Ico,
    ← Fin.sum_univ_eq_sum_range fun m => wr (zr x0 x1 x2 b h t) t.val m * extG x3 b h m d]
  refine Finset.sum_congr rfl fun k _ => ?_
  rw [hl, hr, v_apply, att_apply, extG_val, mul_comm]

/-- The reference's result at one element. -/
theorem out_apply : val_main_v34 (F := Ideal) x0 x1 x2 x3 x4 (ix2 (rowG b t) (colG h d))
    = (∑ m ∈ Finset.Ico 0 2048, wr (zr x0 x1 x2 b h t) t.val m * extG x3 b h m d) * gate (x4 (ix2 (rowG b t) (colG h d))) := by
  rw [val_main_v34_apply, val_main_v33_apply, mix_apply, val_main_v32_apply, val_main_call5_v5_apply, val_main_call5_v3_apply,
    val_main_call5_v1_apply, val_main_call5_v0_apply, val_main_call5_v2_apply, val_main_call5_v4_apply, val_main_call5_cst_apply,
    val_main_call5_cst_0_apply]
  unfold gate
  rw [gate_eq]
  have h1 := Ideal.ofBits_one_f32
  generalize hx : ∑ m ∈ Finset.Ico 0 2048, wr (zr x0 x1 x2 b h t) t.val m * extG x3 b h m d = X
  generalize x4 (ix2 (rowG b t) (colG h d)) = g
  show X * (g * Ideal.div (Ideal.ofBits .f32 0x3F800000#32) (Ideal.ofBits .f32 0x3F800000#32 + Ideal.exp (-g))) = _
  rw [h1]

end Cert.ReferenceIdeal.Sb
-- ==== Proof.Whole.lean ====
/- The kernel's whole result, element by element, from the blocks its grid points write, and its equation with the reference's. -/
module

public import proofs.«01_k».proof.Proof.RefVal
public import proofs.«01_k».proof.Proof.Gen.KernelIdeal.Value

@[expose] public section

noncomputable section

namespace Cert.KernelIdeal.Sb

open Cert.KernelIdeal Cert.KernelIdeal.Gen Cert.KernelIdeal.Value Idealize.ShloMosaic Idealize.ShloMosaic.TcCoe Idealize.ShloMosaic.ValueIdx
open Cert.ReferenceIdeal.Sb (rowG colG extG extG_val zr wr)

/-- The grid point of batch `b`, head group `g`, query block `i`. -/
def pt (b : Fin 4) (g : Fin 2) (i : Fin 8) : Fin grid0.N := ⟨16 * b.val + 8 * g.val + i.val, by
  have := b.isLt; have := g.isLt; have := i.isLt; show _ < 64; omega⟩

/-- Which block of each array the grid point uses. -/
theorem pt_idx : ∀ (b : Fin 4) (g : Fin 2) (i : Fin 8),
    win0_5.index (pt b g i) 0 = 8 * b.val + i.val ∧ win0_5.index (pt b g i) 1 = g.val
    ∧ win0_1.index (pt b g i) 0 = 8 * b.val + i.val ∧ win0_1.index (pt b g i) 1 = g.val
    ∧ win0_2.index (pt b g i) 0 = b.val ∧ win0_2.index (pt b g i) 1 = g.val
    ∧ win0_3.index (pt b g i) 0 = b.val ∧ win0_3.index (pt b g i) 1 = g.val
    ∧ win0_4.index (pt b g i) 0 = 8 * b.val + i.val ∧ win0_4.index (pt b g i) 1 = g.val
    ∧ win0_0.index (pt b g i) 0 = 0
    ∧ (grid0.coords (pt b g i) 1).val = g.val ∧ (grid0.coords (pt b g i) 2).val = i.val ∧ win0_5.flush (pt b g i) = true := by
  decide +kernel

variable (m : (ℓ : Loc nD τ sig) → Buf (Elt Ideal) ℓ) (c : Dev nD)

theorem bias_blk (t : Fin cfg0.N) (k : Fin 16) (h : win0_0.index t 0 = 0) :
    iblk m c 0 t (ix1 k) = m ((c : Thread nD τ).loc main_arg0) (ix1 k) := by
  unfold iblk
  refine (congrFun (V_main_arg0 m c) _).trans (congrArg _ ?_)
  funext a
  match a with
  | ⟨0, _⟩ => exact Fin.ext (by show win0_0.index t 0 * 16 + 1 * k.val = k.val; rw [h]; omega)

theorem q_blk (t : Fin cfg0.N) (r : Fin 256) (k : Fin 1024) (i : S8192x2048.Idx) (h0 : (i 0).val = win0_1.index t 0 * 256 + 1 * r.val)
    (h1 : (i 1).val = win0_1.index t 1 * 1024 + 1 * k.val) : iblk m c 1 t (ix2 r k) = m ((c : Thread nD τ).loc main_arg1) i := by
  unfold iblk
  refine (congrFun (V_main_arg1 m c) _).trans (congrArg _ ?_)
  funext a
  match a with
  | ⟨0, _⟩ => exact Fin.ext h0.symm
  | ⟨1, _⟩ => exact Fin.ext h1.symm

theorem k_blk (t : Fin cfg0.N) (r : Fin 2048) (k : Fin 1024) (i : S8192x2048.Idx) (h0 : (i 0).val = win0_2.index t 0 * 2048 + 1 * r.val)
    (h1 : (i 1).val = win0_2.index t 1 * 1024 + 1 * k.val) : iblk m c 2 t (ix2 r k) = m ((c : Thread nD τ).loc main_arg2) i := by
  unfold iblk
  refine (congrFun (V_main_arg2 m c) _).trans (congrArg _ ?_)
  funext a
  match a with
  | ⟨0, _⟩ => exact Fin.ext h0.symm
  | ⟨1, _⟩ => exact Fin.ext h1.symm

theorem v_blk (t : Fin cfg0.N) (r : Fin 2048) (k : Fin 1024) (i : S8192x2048.Idx) (h0 : (i 0).val = win0_3.index t 0 * 2048 + 1 * r.val)
    (h1 : (i 1).val = win0_3.index t 1 * 1024 + 1 * k.val) : iblk m c 3 t (ix2 r k) = m ((c : Thread nD τ).loc main_arg3) i := by
  unfold iblk
  refine (congrFun (V_main_arg3 m c) _).trans (congrArg _ ?_)
  funext a
  match a with
  | ⟨0, _⟩ => exact Fin.ext h0.symm
  | ⟨1, _⟩ => exact Fin.ext h1.symm

theorem g_blk (t : Fin cfg0.N) (r : Fin 256) (k : Fin 1024) (i : S8192x2048.Idx) (h0 : (i 0).val = win0_4.index t 0 * 256 + 1 * r.val)
    (h1 : (i 1).val = win0_4.index t 1 * 1024 + 1 * k.val) : iblk m c 4 t (ix2 r k) = m ((c : Thread nD τ).loc main_arg4) i := by
  unfold iblk
  refine (congrFun (V_main_arg4 m c) _).trans (congrArg _ ?_)
  funext a
  match a with
  | ⟨0, _⟩ => exact Fin.ext h0.symm
  | ⟨1, _⟩ => exact Fin.ext h1.symm

/-- An element of the result is the one its grid point wrote. -/
theorem arr_blk (t : Fin cfg0.N) (hf : win0_5.flush t = true) (r : Fin 256) (k : Fin 1024) (i : S8192x2048.Idx)
    (h0 : (i 0).val = win0_5.index t 0 * 256 + 1 * r.val) (h1 : (i 1).val = win0_5.index t 1 * 1024 + 1 * k.val) :
    (dats m 0 c).arrAt 5 cfg0.N i = (out0_A_5 c (grid0.coords t) (ms0_0 t) (hs0_0 t) (ms0_1 t) (hs0_1 t) (ms0_2 t) (hs0_2 t) (ms0_3 t)
      (hs0_3 t) (ms0_4 t) (hs0_4 t) (ms0_5 t) (hs0_5 t) (iblk m c 0 t) (iblk m c 1 t) (iblk m c 2 t) (iblk m c 3 t) (iblk m c 4 t))
      (ix2 r k) := by
  have hb := congrFun ((blocks5 m c t hf).trans (flushed5_A m c t)) (ix2 r k)
  refine Eq.trans (congrArg _ ?_) hb
  funext a
  match a with
  | ⟨0, _⟩ => exact Fin.ext h0
  | ⟨1, _⟩ => exact Fin.ext h1

/-! ## One element in the reference's coordinates -/

variable (b : Fin 4) (g : Fin 2) (i : Fin 8) (h : Fin 8) (r : Fin 256) (d : Fin 128)

/-- Query `r` of block `i`. -/
def posOf : Fin 2048 := ⟨256 * i.val + r.val, by have := i.isLt; have := r.isLt; omega⟩

/-- Head `h` of group `g`. -/
def headOf : Fin 16 := ⟨8 * g.val + h.val, by have := g.isLt; have := h.isLt; omega⟩

theorem ext_k (s : ℕ) : ext (iblk m c 2 (pt b g i)) h s d = extG (m ((c : Thread nD τ).loc main_arg2)) b (headOf g h) s d := by
  obtain ⟨-, -, -, -, h0, h1, -⟩ := pt_idx b g i
  unfold ext extG
  by_cases hs : s < 2048
  · rw [dif_pos hs, dif_pos hs]
    refine k_blk m c _ ⟨s, hs⟩ _ _ ?_ ?_
    · show 2048 * b.val + s = win0_2.index (pt b g i) 0 * 2048 + 1 * s; rw [h0]; omega
    · show 128 * (8 * g.val + h.val) + d.val = win0_2.index (pt b g i) 1 * 1024 + 1 * (128 * h.val + d.val); rw [h1]; omega
  · rw [dif_neg hs, dif_neg hs]

theorem ext_v (s : ℕ) : ext (iblk m c 3 (pt b g i)) h s d = extG (m ((c : Thread nD τ).loc main_arg3)) b (headOf g h) s d := by
  obtain ⟨-, -, -, -, -, -, h0, h1, -⟩ := pt_idx b g i
  unfold ext extG
  by_cases hs : s < 2048
  · rw [dif_pos hs, dif_pos hs]
    refine v_blk m c _ ⟨s, hs⟩ _ _ ?_ ?_
    · show 2048 * b.val + s = win0_3.index (pt b g i) 0 * 2048 + 1 * s; rw [h0]; omega
    · show 128 * (8 * g.val + h.val) + d.val = win0_3.index (pt b g i) 1 * 1024 + 1 * (128 * h.val + d.val); rw [h1]; omega
  · rw [dif_neg hs, dif_neg hs]

/-- The kernel's scores are the reference's in units of `log 2`. -/
theorem scores_eq (s : ℕ) : scores (iblk m c 0 (pt b g i)) (iblk m c 1 (pt b g i)) (iblk m c 2 (pt b g i)) (grid0.coords (pt b g i) 1) h r s
    = L * zr (m ((c : Thread nD τ).loc main_arg0)) (m ((c : Thread nD τ).loc main_arg1)) (m ((c : Thread nD τ).loc main_arg2)) b
      (headOf g h) (posOf i r) s := by
  obtain ⟨-, -, h0, h1, -, -, -, -, -, -, hz, hg, -⟩ := pt_idx b g i
  unfold scores zr
  rw [L_add, mul_comm L, mul_comm L]
  refine congrArg₂ (· + ·) ?_ (congrArg (· * L) ?_)
  · have hc : (((Real.sqrt 128)⁻¹ * (Real.log 2)⁻¹ : ℝ) : EReal) = (((Real.sqrt 128)⁻¹ : ℝ) : EReal) * L := EReal.coe_mul _ _
    have hp : (0 : ℝ) ≤ (Real.sqrt 128)⁻¹ * (Real.log 2)⁻¹ := mul_nonneg (inv_nonneg.2 (Real.sqrt_nonneg _)) log_two_inv_pos.le
    rw [mul_assoc, ← hc, mul_comm _ ((_ : ℝ) : EReal), real_mul_sum _ hp]
    refine Finset.sum_congr rfl fun k _ => ?_
    have hq : iblk m c 1 (pt b g i) (ix2 r (col h k)) = m ((c : Thread nD τ).loc main_arg1) (ix2 (rowG b (posOf i r)) (colG (headOf g h) k)) := by
      refine q_blk m c _ r _ _ ?_ ?_
      · show 2048 * b.val + (256 * i.val + r.val) = win0_1.index (pt b g i) 0 * 256 + 1 * r.val; rw [h0]; omega
      · show 128 * (8 * g.val + h.val) + k.val = win0_1.index (pt b g i) 1 * 1024 + 1 * (128 * h.val + k.val); rw [h1]; omega
    rw [hq, ext_k, mul_assoc, mul_left_comm]
  · have hh : headNo (grid0.coords (pt b g i) 1) h = headOf g h := Fin.ext (by
      show 8 * (grid0.coords (pt b g i) 1).val + h.val = 8 * g.val + h.val; rw [hg])
    rw [hh]
    exact bias_blk m c _ _ hz

/-- The kernel's result at one element. -/
theorem arr_apply : (dats m 0 c).arrAt 5 cfg0.N (ix2 (rowG b (posOf i r)) (colG (headOf g h) d))
    = (∑ s ∈ Finset.Ico 0 2048, wr (zr (m ((c : Thread nD τ).loc main_arg0)) (m ((c : Thread nD τ).loc main_arg1))
        (m ((c : Thread nD τ).loc main_arg2)) b (headOf g h) (posOf i r)) (posOf i r).val s
        * extG (m ((c : Thread nD τ).loc main_arg3)) b (headOf g h) s d)
      * gate (m ((c : Thread nD τ).loc main_arg4) (ix2 (rowG b (posOf i r)) (colG (headOf g h) d))) := by
  obtain ⟨h0, h1, -, -, -, -, -, -, g0, g1, -, -, hi, hf⟩ := pt_idx b g i
  refine (arr_blk m c (pt b g i) hf r (col h d) _ ?_ ?_).trans ((out_apply c _ _ _ _ _ _ _ _ _ _ _ _ _ _ _ _ _ _ h r d).trans ?_)
  · show 2048 * b.val + (256 * i.val + r.val) = win0_5.index (pt b g i) 0 * 256 + 1 * r.val; rw [h0]; omega
  · show 128 * (8 * g.val + h.val) + d.val = win0_5.index (pt b g i) 1 * 1024 + 1 * (128 * h.val + d.val); rw [h1]; omega
  refine congrArg₂ (· * ·) (Finset.sum_congr rfl fun s _ => congrArg₂ (· * ·) ?_ (ext_v m c b g i h d s)) (congrArg gate ?_)
  · have hs := funext fun s => scores_eq m c b g i h r s
    rw [hs, hi]
    exact wt_L _ _ _
  · refine g_blk m c _ r _ _ ?_ ?_
    · show 2048 * b.val + (256 * i.val + r.val) = win0_4.index (pt b g i) 0 * 256 + 1 * r.val; rw [g0]; omega
    · show 128 * (8 * g.val + h.val) + d.val = win0_4.index (pt b g i) 1 * 1024 + 1 * (128 * h.val + d.val); rw [g1]; omega

/-- The kernel's result is the reference's. -/
theorem arr_eq : (dats m 0 c).arrAt 5 cfg0.N = Cert.ReferenceIdeal.Read.val_main_v34 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  have hr : (y 0).val < 8192 := (y 0).isLt
  have hc : (y 1).val < 2048 := (y 1).isLt
  have hy : y = ix2 (rowG ⟨(y 0).val / 2048, by omega⟩ (posOf ⟨(y 0).val % 2048 / 256, by omega⟩ ⟨(y 0).val % 256, by omega⟩))
      (colG (headOf ⟨(y 1).val / 1024, by omega⟩ ⟨(y 1).val / 128 % 8, by omega⟩) ⟨(y 1).val % 128, by omega⟩) := by
    funext a
    match a with
    | ⟨0, _⟩ => exact Fin.ext (by
        show (y 0).val = 2048 * ((y 0).val / 2048) + (256 * ((y 0).val % 2048 / 256) + (y 0).val % 256); omega)
    | ⟨1, _⟩ => exact Fin.ext (by
        show (y 1).val = 128 * (8 * ((y 1).val / 1024) + (y 1).val / 128 % 8) + (y 1).val % 128; omega)
  rw [hy, arr_apply, Cert.ReferenceIdeal.Sb.out_apply]

end Cert.KernelIdeal.Sb
-- ==== Proof.Attn.lean ====
/- The claims of the attention call, from its frames, its value and its reference's run. -/
module

public import proofs.«01_k».proof.Defs
public import proofs.«01_k».proof.Proof.Whole
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Attn

open Idealize.ShloMosaic Idealize.ShloMosaic.TcCoe Idealize.SL.Sem

/-- The kernel runs and leaves its arguments and semaphores as they were. -/
theorem frame_p : Cert.quiescent_Kernel (hKernel := Cert.Kernel.Gen.facts) := fun m ρ _ => Cert.Kernel.Gen.frame m ρ

/-- So does the kernel over the extended reals. -/
theorem frame_pi : Cert.quiescent_KernelIdeal (hKernelIdeal := Cert.KernelIdeal.Gen.facts) := fun m ρ _ => Cert.KernelIdeal.Gen.frame m ρ

/-- So does the reference. -/
theorem frame_ri : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The two named constants are the words that the kernel prints. -/
theorem preserves : Cert.preserves_Kernel_KernelIdeal :=
  ⟨IdealRules.named_const.statement Cert.KernelIdeal.κ "log2e" .f32 0x3FB8AA3B#32 _ rfl,
    IdealRules.named_const.statement Cert.KernelIdeal.κ "scale_log2e" .f32 0x3E0293EE#32 _ rfl⟩

/-- The attention kernel computes the reference's gated stick-breaking attention. -/
theorem algebraic : Cert.algebraic_KernelIdeal_ReferenceIdeal (hKernelIdeal := Cert.KernelIdeal.Gen.facts)
    (hReferenceIdeal := Cert.ReferenceIdeal.Gen.facts) := fun m g m' g' _ hagree => by
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  have hm := hagree c
  rw [Cert.ReferenceIdeal.Read.val_main_v34_eq, hm.1, hm.2.1, hm.2.2.1, hm.2.2.2.1, hm.2.2.2.2]
  exact (Cert.KernelIdeal.Sb.arr_eq m c).symm

end Cert.Attn
-- ==== Proof.Rms.lean ====
/- The RMS norm of a row of 2048, over the extended reals, and a tile of rows normed the kernel's way read at an element. -/
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.Lib.Pipeline.ValueKit.Basic
public import Idealize.ShloMosaic.PureOps.Ideal.Laws

@[expose] public section

noncomputable section

namespace Cert.Rms

open Idealize.ShloMosaic Idealize.ShloMosaic.TcCoe Idealize.ShloMosaic.ValueIdx

/-- One over the root of the mean square of a row, the small word of the norm added to the mean. -/
def rstd (x : Fin 2048 → EReal) : EReal :=
  Ideal.rsqrt (Ideal.div (∑ k, x k * x k) (Ideal.ofBits .f32 0x45000000#32) + Ideal.ofBits .f32 0x358637BD#32)

/-- A row normed and scaled by a gain per column. -/
def norm (x g : Fin 2048 → EReal) (j : Fin 2048) : EReal := x j * rstd x * g j

/-- A load of the whole of a memref that is a whole buffer reads what the buffer was given. -/
theorem load_whole {sig : RefSig} {κ : Kind} {sp : Space} {S : Shape} {e : EltTy} {Val : EltTy → Type} {M : Memref sig κ sp S e} (hM : M.IsWhole)
    (X : S.Idx → Val e) {off : Fin S.rank → ℕ} (inb : ∀ a, off a + S.size a ≤ S.size a) (h0 : ∀ a, off a = 0) :
    View.readAt Val M.view (Rect.unit off S.size inb).toLoadRect (hM.unread X) = X := by
  rw [View.readAt_eq_ld, hM.read_unread]
  exact View.ld_unit_lit inb X h0

variable {n : ℕ}

/-- The sum of squares of a row of a tile. -/
theorem sumsq_apply (y : FVec Ideal ⟨2, ![n, 2048]⟩ .f32) (hr : (⟨2, ![n, 2048]⟩ : Shape).Reduces [1] ⟨1, ![n]⟩)
    (hs : (⟨1, ![n]⟩ : Shape).ShapeCasts ⟨2, ![n, 1]⟩) (r : Fin n) :
    shapeCast ⟨2, ![n, 1]⟩ (multiReduction .add [1] ⟨1, ![n]⟩ (mulf y y) 0x00000000#32 hr (.inl rfl) rfl) hs (ix2 r 0)
      = ∑ k : Fin 2048, y (ix2 r k) * y (ix2 r k) := by
  refine (shapeCast_a_a1_apply _ _ r 0).trans ((Ideal.multiReduction_add_single _ _ _ _ _ _).trans ?_)
  refine Finset.sum_congr rfl fun k _ => ?_
  have h : ∀ i : (⟨2, ![n, 2048]⟩ : Shape).Idx, i = ix2 r k → mulf y y i = y (ix2 r k) * y (ix2 r k) := fun i e => by rw [e]; rfl
  refine h _ ?_
  funext a; fin_cases a <;> rfl

/-- A tile of rows normed: each row's elements times the row's factor, times the gain's row. -/
theorem tile_apply (y : FVec Ideal ⟨2, ![n, 2048]⟩ .f32) (g : FVec Ideal ⟨2, ![1, 2048]⟩ .f32)
    (hr : (⟨2, ![n, 2048]⟩ : Shape).Reduces [1] ⟨1, ![n]⟩) (hs : (⟨1, ![n]⟩ : Shape).ShapeCasts ⟨2, ![n, 1]⟩)
    (hb : (⟨2, ![n, 1]⟩ : Shape).Broadcasts ⟨2, ![n, 2048]⟩) (hg : (⟨2, ![1, 2048]⟩ : Shape).Broadcasts ⟨2, ![n, 2048]⟩)
    (hc : (⟨2, ![1, 2048]⟩ : Shape).ShapeCasts ⟨2, ![1, 2048]⟩) (r : Fin n) (j : Fin 2048) :
    mulf (mulf y (broadcastTo ⟨2, ![n, 2048]⟩ (rsqrt (addf (divf
      (shapeCast ⟨2, ![n, 1]⟩ (multiReduction .add [1] ⟨1, ![n]⟩ (mulf y y) 0x00000000#32 hr (.inl rfl) rfl) hs)
      (broadcast ⟨2, ![n, 1]⟩ (Scalar.ofBits .f32 0x45000000#32))) (broadcast ⟨2, ![n, 1]⟩ (Scalar.ofBits .f32 0x358637BD#32)))) hb))
      (broadcastTo ⟨2, ![n, 2048]⟩ (shapeCast ⟨2, ![1, 2048]⟩ g hc) hg) (ix2 r j)
      = norm (fun k => y (ix2 r k)) (fun k => g (ix2 0 k)) j := by
  unfold norm rstd
  refine congrArg₂ (· * ·) (congrArg (y (ix2 r j) * ·) ?_) ?_
  · refine (broadcastTo_apply _ hb (ix2 r j) (ix2 r 0) fun a => ?_).trans ?_
    · match a with
      | ⟨0, _⟩ =>
        show r.val = if n = 1 then 0 else r.val
        split
        · have := r.isLt; omega
        · rfl
      | ⟨1, _⟩ => rfl
    · exact congrArg (fun s : EReal => Ideal.rsqrt (Ideal.div s _ + _)) (sumsq_apply y hr hs r)
  · rw [shapeCast_self]
    exact broadcastTo_1b_ab_apply _ _ _ _

end Cert.Rms

end
-- ==== Proof.MmRes.lean ====
/- The output projection, its residual and the closing norm: the kernel's whole result, element by element, and its equation
   with the reference's. -/
module

public import proofs.«01_k».proof.Proof.Rms
public import proofs.«01_k».proof.Proof.Gen.Kernel4Ideal.Value
public import proofs.«01_k».proof.Proof.Gen.Reference4Ideal.Read

@[expose] public section

noncomputable section

namespace Cert.MmRes

open Cert.Kernel4Ideal Cert.Kernel4Ideal.Gen Cert.Kernel4Ideal.Value Idealize.ShloMosaic Idealize.ShloMosaic.TcCoe Idealize.ShloMosaic.ValueIdx

/-- Row `i`'s product with the weight, added to the residual's row and normed, at column `j`. -/
def out {n : ℕ} (x : (⟨2, ![n, 2048]⟩ : Shape).Idx → EReal) (w : (⟨2, ![2048, 2048]⟩ : Shape).Idx → EReal)
    (h : (⟨2, ![n, 2048]⟩ : Shape).Idx → EReal) (g : Fin 2048 → EReal) (i : Fin n) (j : Fin 2048) : EReal :=
  Rms.norm (fun k => h (ix2 i k) + ∑ q : Fin 2048, x (ix2 i q) * w (ix2 q k)) g j

/-! ## One tile -/

section Tile

variable (x0 : FVec Ideal S512x2048 .bf16) (x1 : FVec Ideal S2048x2048 .f32) (x2 : FVec Ideal S512x2048 .f32) (x3 : FVec Ideal S1x2048 .f32)

/-- An element of the product of a tile of rows with the weight. -/
theorem mm_apply (w : FVec Ideal S2048x2048 .bf16) (r : Fin 512) (j : Fin 2048) :
    matmul dot_S512x2048_S2048x2048_S512x2048_1_0_0_1_n_n none x0 w (constant S512x2048 .f32 0x00000000#32) (ix2 r j)
      = ∑ q : Fin 2048, (x0 (ix2 r q) : EReal) * w (ix2 q j) := by
  refine (Ideal.matmul_constant_zero_apply _ none _ _ _).trans ?_
  refine Fintype.sum_equiv (contrEquiv1 dot_S512x2048_S2048x2048_S512x2048_1_0_0_1_n_n 2048 rfl rfl) _ _ fun q => ?_
  refine congrArg₂ (· * ·) (congrArg x0 ?_) (congrArg w ?_) <;> (funext a; fin_cases a <;> rfl)

/-- The weight kept for the later grid points is the weight. -/
theorem pay1_apply (i : S2048x2048.Idx) : k0_pay1 (F := Ideal) x1 i = x1 i := by
  unfold k0_pay1
  exact congrFun (shapeCast_self _ _) i

/-- An element of the tile that a grid point writes. -/
theorem pay2_apply (r : Fin 512) (j : Fin 2048) : k0_pay2 (F := Ideal) x2 x0 (k0_pay1 (F := Ideal) x1) x3 (ix2 r j)
    = out x0 x1 x2 (fun k => x3 (ix2 0 k)) r j := by
  unfold k0_pay2
  refine (Rms.tile_apply _ _ _ _ _ _ _ r j).trans (congrArg (Rms.norm · _ j) (funext fun k => ?_))
  refine congrArg (x2 (ix2 r k) + ·) ((mm_apply x0 _ r k).trans (Finset.sum_congr rfl fun q _ => ?_))
  rw [pay1_apply]

end Tile

/-! ## What a grid point leaves -/

section Point

variable (c : Dev nD) (i : grid0.Coords) (arg1 : Memref sig .tc .vmem S512x2048 .bf16) (harg1 : arg1.IsWhole)
  (arg2 : Memref sig .tc .vmem S2048x2048 .f32) (harg2 : arg2.IsWhole) (arg3 : Memref sig .tc .vmem S512x2048 .f32) (harg3 : arg3.IsWhole)
  (arg4 : Memref sig .tc .vmem S1x2048 .f32) (harg4 : arg4.IsWhole) (arg5 : Memref sig .tc .vmem S512x2048 .f32) (harg5 : arg5.IsWhole)
  (arg6 : Memref sig .tc .vmem S2048x2048 .bf16) (harg6 : arg6.IsWhole)
  (x0 : Vec Ideal S512x2048 .bf16) (x1 : Vec Ideal S2048x2048 .f32) (x2 : Vec Ideal S512x2048 .f32) (x3 : Vec Ideal S1x2048 .f32)
  (xs0 : Vec Ideal S2048x2048 .bf16)

/-- The first point keeps the weight. -/
theorem scr_A (hc0 : cond0_0 i) :
    sout0_A_0 c i arg1 harg1 arg2 harg2 arg3 harg3 arg4 harg4 arg5 harg5 arg6 harg6 hc0 x0 x1 x2 x3 = k0_pay1 x1 := by
  unfold sout0_A_0
  refine (View.read_writes_junk_eq_canon _ _).trans ((View.canon_cons_unit_lit _ _ _ (by decide)).trans ?_)
  exact congrArg _ (Rms.load_whole harg2 x1 _ (by decide))

/-- A later point writes its tile, with the weight that was kept. -/
theorem out_B (hc0 : ¬cond0_0 i) :
    out0_B_4 c i arg1 harg1 arg2 harg2 arg3 harg3 arg4 harg4 arg5 harg5 arg6 harg6 hc0 x0 x1 x2 x3 xs0 = k0_pay2 x2 x0 xs0 x3 := by
  unfold out0_B_4
  refine (View.read_writes_junk_eq_canon _ _).trans ((View.canon_cons_unit_lit _ _ _ (by decide)).trans ?_)
  rw [Rms.load_whole harg1 x0 _ (by decide), Rms.load_whole harg3 x2 _ (by decide), Rms.load_whole harg4 x3 _ (by decide),
    Rms.load_whole harg6 xs0 _ (by decide)]

/-- The first point writes its tile, with the weight it has just kept. -/
theorem out_A (hc0 : cond0_0 i) :
    out0_A_4 c i arg1 harg1 arg2 harg2 arg3 harg3 arg4 harg4 arg5 harg5 arg6 harg6 hc0 x0 x1 x2 x3 = k0_pay2 x2 x0 (k0_pay1 x1) x3 := by
  unfold out0_A_4
  refine (View.read_writes_junk_eq_canon _ _).trans ((View.canon_cons_unit_lit _ _ _ (by decide)).trans ?_)
  rw [Rms.load_whole harg1 x0 _ (by decide), Rms.load_whole harg3 x2 _ (by decide), Rms.load_whole harg4 x3 _ (by decide)]
  refine congrArg (k0_pay2 x2 x0 · x3) ?_
  unfold kernelRun0_A.sl.v5
  refine (View.readCov_unit_lit _ _ _ (by decide)).trans ?_
  exact congrArg _ (Rms.load_whole harg2 x1 _ (by decide))

end Point

/-! ## The blocks -/

variable (m : (ℓ : Loc nD τ sig) → Buf (Elt Ideal) ℓ) (c : Dev nD)

/-- Which block of each array a grid point uses. -/
theorem pt_idx : ∀ t : Fin grid0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_4.flush t = true := by
  decide +kernel

/-- Row `r` of tile `t`. -/
def row (t : Fin cfg0.N) (r : Fin 512) : Fin 8192 := ⟨512 * t.val + r.val, by
  have h : t.val < 16 := t.isLt
  have := r.isLt; omega⟩

theorem x_blk (t : Fin cfg0.N) (r : Fin 512) (k : Fin 2048) :
    iblk m c 0 t (ix2 r k) = m ((c : Thread nD τ).loc main_arg0) (ix2 (row t r) k) := by
  obtain ⟨h0, h1, -⟩ := pt_idx t
  unfold iblk
  refine (congrFun (V_main_arg0 m c) _).trans (congrArg _ ?_)
  funext a
  match a with
  | ⟨0, _⟩ => exact Fin.ext (by show win0_0.index t 0 * 512 + 1 * r.val = 512 * t.val + r.val; rw [h0]; omega)
  | ⟨1, _⟩ => exact Fin.ext (by show win0_0.index t 1 * 2048 + 1 * k.val = k.val; rw [h1]; omega)

theorem w_blk (t : Fin cfg0.N) : iblk m c 1 t = m ((c : Thread nD τ).loc main_arg1) := by
  obtain ⟨-, -, h0, h1, -⟩ := pt_idx t
  funext y
  unfold iblk
  refine (congrFun (V_main_arg1 m c) _).trans (congrArg _ ?_)
  funext a
  match a with
  | ⟨0, _⟩ => exact Fin.ext (by show win0_1.index t 0 * 2048 + 1 * (y 0).val = (y 0).val; rw [h0]; omega)
  | ⟨1, _⟩ => exact Fin.ext (by show win0_1.index t 1 * 2048 + 1 * (y 1).val = (y 1).val; rw [h1]; omega)

theorem h_blk (t : Fin cfg0.N) (r : Fin 512) (k : Fin 2048) :
    iblk m c 2 t (ix2 r k) = m ((c : Thread nD τ).loc main_arg2) (ix2 (row t r) k) := by
  obtain ⟨-, -, -, -, h0, h1, -⟩ := pt_idx t
  unfold iblk
  refine (congrFun (V_main_arg2 m c) _).trans (congrArg _ ?_)
  funext a
  match a with
  | ⟨0, _⟩ => exact Fin.ext (by show win0_2.index t 0 * 512 + 1 * r.val = 512 * t.val + r.val; rw [h0]; omega)
  | ⟨1, _⟩ => exact Fin.ext (by show win0_2.index t 1 * 2048 + 1 * k.val = k.val; rw [h1]; omega)

/-- The gain as a row is the gain. -/
theorem gain_row (k : Fin 2048) : V m c main_v0 (ix2 0 k) = m ((c : Thread nD τ).loc main_arg3) (ix1 k) := by
  have h : V m c main_v0 = shapeCast S1x2048 (m ((c : Thread nD τ).loc main_arg3)) shapeCasts_S2048_S1x2048 := rfl
  rw [h]
  exact shapeCast_a_1a_apply _ _ _ _

theorem g_blk (t : Fin cfg0.N) (k : Fin 2048) : iblk m c 3 t (ix2 0 k) = m ((c : Thread nD τ).loc main_arg3) (ix1 k) := by
  obtain ⟨-, -, -, -, -, -, h0, h1, -⟩ := pt_idx t
  refine Eq.trans ?_ (gain_row m c k)
  unfold iblk
  refine congrArg (V m c main_v0) ?_
  funext a
  match a with
  | ⟨0, _⟩ => exact Fin.ext (by show win0_3.index t 0 * 1 + 1 * 0 = 0; rw [h0])
  | ⟨1, _⟩ => exact Fin.ext (by show win0_3.index t 1 * 2048 + 1 * k.val = k.val; rw [h1]; omega)

/-- The weight, as the window's block. -/
abbrev wt : FVec Ideal S2048x2048 .f32 := m ((c : Thread nD τ).loc main_arg1)

/-- The first point keeps the weight. -/
theorem kept_A (t : Fin cfg0.N) (h : t.val % 16 = 0) : (outsAt0 m c t.val t.isLt).2 = k0_pay1 (F := Ideal) (wt m c) := by
  rw [outsAt0_A m c t h]
  dsimp only
  refine (scr_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) ((hcond0_0 t).mpr h)).trans ?_
  exact congrArg (k0_pay1 (F := Ideal)) (w_blk m c t)

/-- The kept weight after every grid point: the weight. -/
theorem kept (n : ℕ) (hn : n < cfg0.N) : (outsAt0 m c n hn).2 = k0_pay1 (F := Ideal) (wt m c) := by
  induction n with
  | zero => exact kept_A m c ⟨0, hn⟩ (Nat.zero_mod _)
  | succ n ih =>
    have h16 : n + 1 < 16 := hn
    have h0 : ¬(n + 1) % 16 = 0 := by omega
    have e := outsAt0_B m c ⟨n + 1, hn⟩ h0
    rw [e]
    dsimp only
    unfold sout0_B_0
    simp only [Nat.add_sub_cancel]
    exact ih _

/-- What grid point `t` writes back. -/
theorem tile (t : Fin cfg0.N) : (outsAt0 m c t.val t.isLt).1
    = k0_pay2 (F := Ideal) (iblk m c 2 t) (iblk m c 0 t) (k0_pay1 (F := Ideal) (wt m c)) (iblk m c 3 t) := by
  by_cases h : t.val % 16 = 0
  · rw [outsAt0_A m c t h]
    dsimp only
    refine (out_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) ((hcond0_0 t).mpr h)).trans ?_
    have hw : k0_pay1 (F := Ideal) (iblk m c 1 t) = k0_pay1 (F := Ideal) (wt m c) := congrArg (k0_pay1 (F := Ideal)) (w_blk m c t)
    rw [hw]
  · rw [outsAt0_B m c t h]
    dsimp only
    refine (out_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) _ (fun h' => h ((hcond0_0 t).mp h'))).trans ?_
    exact congrArg (fun w : FVec Ideal S2048x2048 .bf16 => k0_pay2 (F := Ideal) (iblk m c 2 t) (iblk m c 0 t) w (iblk m c 3 t))
      (kept m c _ _)

/-- The kernel's result at one element. -/
theorem arr_apply (t : Fin cfg0.N) (r : Fin 512) (j : Fin 2048) : (dats m 0 c).arrAt 4 cfg0.N (ix2 (row t r) j)
    = out (m ((c : Thread nD τ).loc main_arg0)) (m ((c : Thread nD τ).loc main_arg1)) (m ((c : Thread nD τ).loc main_arg2))
      (fun k => m ((c : Thread nD τ).loc main_arg3) (ix1 k)) (row t r) j := by
  obtain ⟨-, -, -, -, -, -, -, -, h0, h1, hf⟩ := pt_idx t
  have hb := congrFun ((blocks4 m c t hf).trans (flushed4 m c t)) (ix2 r j)
  refine (congrArg _ ?_).trans (hb.trans ?_)
  · funext a
    match a with
    | ⟨0, _⟩ => exact Fin.ext (by show 512 * t.val + r.val = win0_4.index t 0 * 512 + 1 * r.val; rw [h0]; omega)
    | ⟨1, _⟩ => exact Fin.ext (by show j.val = win0_4.index t 1 * 2048 + 1 * j.val; rw [h1]; omega)
  refine (congrFun (tile m c t) (ix2 r j)).trans ((pay2_apply _ _ _ _ r j).trans ?_)
  unfold out
  refine congrArg₂ (Rms.norm · · j) (funext fun k => ?_) (funext fun k => g_blk m c t k)
  exact congrArg₂ (fun a b : EReal => a + b) (h_blk m c t r k) (Finset.sum_congr rfl fun q _ =>
    congrArg (fun a : EReal => a * _) (x_blk m c t r q))

/-! ## The reference -/

open Cert.Reference4Ideal.Read in
/-- The reference's result at one element. -/
theorem ref_apply (x0 : FVec Ideal S8192x2048 .bf16) (x1 : FVec Ideal S2048x2048 .f32) (x2 : FVec Ideal S8192x2048 .f32) (x3 : FVec Ideal S2048 .f32)
    (i : Fin 8192) (j : Fin 2048) : val_main_v15 (F := Ideal) x0 x1 x2 x3 (ix2 i j)
      = out x0 x1 x2 (fun k => x3 (ix1 k)) i j := by
  have hres : ∀ (k : Fin 2048) (y : S8192x2048.Idx), y = ix2 i k →
      val_main_v2 (F := Ideal) x0 x1 x2 y = (x2 (ix2 i k) : EReal) + ∑ q : Fin 2048, (x0 (ix2 i q) : EReal) * x1 (ix2 q k) := fun k y e => by
    rw [e, val_main_v2_apply, val_main_v1_apply]
    refine congrArg (x2 (ix2 i k) + ·) (Finset.sum_congr rfl fun q _ => congrArg₂ (· * ·) ?_ (congrArg x1 ?_))
    · rw [val_main_v0_apply]
      exact congrArg x0 (by funext a; fin_cases a <;> rfl)
    · funext a; fin_cases a <;> rfl
  rw [val_main_v15_apply, val_main_v12_apply, val_main_v14_apply, val_main_v13_apply, val_main_v11_apply, val_main_v10_apply,
    val_main_v9_apply, val_main_v7_apply, val_main_v8_apply, val_main_v6_apply, val_main_v5_apply, val_main_v4_apply, hres j _ rfl]
  unfold out Rms.norm Rms.rstd
  refine congrArg₂ (fun a b : EReal => a * b) (congrArg (HMul.hMul (x2 (ix2 i j) + ∑ q : Fin 2048, (x0 (ix2 i q) : EReal) * x1 (ix2 q j) : EReal)) ?_) (congrArg x3 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v3_apply, hres k _ (by funext a; fin_cases a <;> rfl)]
  rfl

/-- The kernel's result is the reference's. -/
theorem arr_eq : (dats m 0 c).arrAt 4 cfg0.N = Cert.Reference4Ideal.Read.val_main_v15 (F := Ideal) (m ((c : Thread nD τ).loc main_arg0))
    (m ((c : Thread nD τ).loc main_arg1)) (m ((c : Thread nD τ).loc main_arg2)) (m ((c : Thread nD τ).loc main_arg3)) := by
  funext y
  have hr : (y 0).val < 8192 := (y 0).isLt
  have ht : (y 0).val / 512 < cfg0.N := by show _ < 16; omega
  have hy : y = ix2 (row ⟨(y 0).val / 512, ht⟩ ⟨(y 0).val % 512, by omega⟩) (y 1) := by
    funext a
    match a with
    | ⟨0, _⟩ => exact Fin.ext (by show (y 0).val = 512 * ((y 0).val / 512) + (y 0).val % 512; omega)
    | ⟨1, _⟩ => rfl
  rw [hy]
  exact (arr_apply m c _ _ _).trans (ref_apply _ _ _ _ _ _).symm

end Cert.MmRes
-- ==== Proof.NormMm.lean ====
/- The key projection of the normed residual stream: the kernel's two results, element by element, and their equation with the
   reference's. -/
module

public import proofs.«01_k».proof.Proof.MmRes
public import proofs.«01_k».proof.Proof.Gen.Kernel2Ideal.Value
public import proofs.«01_k».proof.Proof.Gen.Reference2Ideal.Read

@[expose] public section

noncomputable section

namespace Cert.NormMm

open Cert.Kernel2Ideal Cert.Kernel2Ideal.Gen Cert.Kernel2Ideal.Value Idealize.ShloMosaic Idealize.ShloMosaic.TcCoe Idealize.ShloMosaic.ValueIdx

/-- Row `i` normed, times column `j` of the weight. -/
def proj {n p : ℕ} (x : (⟨2, ![n, 2048]⟩ : Shape).Idx → EReal) (g : Fin 2048 → EReal) (w : (⟨2, ![2048, p]⟩ : Shape).Idx → EReal)
    (i : Fin n) (j : Fin p) : EReal := ∑ q : Fin 2048, Rms.norm (fun k => x (ix2 i k)) g q * w (ix2 q j)

/-! ## One tile -/

section Tile

variable (x0 : FVec Ideal S512x2048 .f32) (x1 : FVec Ideal S1x2048 .f32) (x2 : FVec Ideal S2048x2048 .f32)

/-- The weight kept for the later grid points is the weight. -/
theorem pay1_apply (i : S2048x2048.Idx) : k0_pay1 (F := Ideal) x2 i = x2 i := by
  unfold k0_pay1
  exact congrFun (shapeCast_self _ _) i

/-- An element of the tile that a grid point writes. -/
theorem pay2_apply (r : Fin 512) (j : Fin 2048) : k0_pay2 (F := Ideal) (k0_pay1 (F := Ideal) x2) x0 x1 (ix2 r j)
    = proj x0 (fun k => x1 (ix2 0 k)) x2 r j := by
  unfold k0_pay2
  refine (MmRes.mm_apply _ _ r j).trans (Finset.sum_congr rfl fun q _ => ?_)
  exact congrArg₂ (fun a b : EReal => a * b) (Rms.tile_apply _ _ _ _ _ _ _ r q) (pay1_apply x2 _)

/-- The tile in the narrow format holds the same numbers. -/
theorem pay3_eq (w : FVec Ideal S2048x2048 .bf16) (i : S512x2048.Idx) : k0_pay3 (F := Ideal) w x0 x1 i = k0_pay2 (F := Ideal) w x0 x1 i := rfl

end Tile

/-! ## What a grid point leaves -/

section Point

variable (c : Dev nD) (i : grid0.Coords) (arg1 : Memref sig .tc .vmem S512x2048 .f32) (harg1 : arg1.IsWhole)
  (arg2 : Memref sig .tc .vmem S1x2048 .f32) (harg2 : arg2.IsWhole) (arg3 : Memref sig .tc .vmem S2048x2048 .f32) (harg3 : arg3.IsWhole)
  (arg4 : Memref sig .tc .vmem S512x2048 .f32) (harg4 : arg4.IsWhole) (arg5 : Memref sig .tc .vmem S512x2048 .bf16) (harg5 : arg5.IsWhole)
  (arg6 : Memref sig .tc .vmem S2048x2048 .bf16) (harg6 : arg6.IsWhole)
  (x0 : Vec Ideal S512x2048 .f32) (x1 : Vec Ideal S1x2048 .f32) (x2 : Vec Ideal S2048x2048 .f32) (xs0 : Vec Ideal S2048x2048 .bf16)

/-- The first point keeps the weight. -/
theorem scr_A (hc0 : cond0_0 i) : sout0_A_0 c i arg1 harg1 arg2 harg2 arg3 harg3 arg4 harg4 arg5 harg5 arg6 harg6 hc0 x0 x1 x2 = k0_pay1 x2 := by
  unfold sout0_A_0
  refine (View.read_writes_junk_eq_canon _ _).trans ((View.canon_cons_unit_lit _ _ _ (by decide)).trans ?_)
  exact congrArg _ (Rms.load_whole harg3 x2 _ (by decide))

/-- The weight as the first point reads it back is the weight it has just kept. -/
theorem back_A : kernelRun0_A.sl.v3 c arg3 harg3 arg6 x2 = k0_pay1 x2 := by
  unfold kernelRun0_A.sl.v3
  refine (View.readCov_unit_lit _ _ _ (by decide)).trans ?_
  exact congrArg _ (Rms.load_whole harg3 x2 _ (by decide))

/-- The first point writes its tile, with the weight it has just kept. -/
theorem out_A (hc0 : cond0_0 i) : out0_A_3 c i arg1 harg1 arg2 harg2 arg3 harg3 arg4 harg4 arg5 harg5 arg6 harg6 hc0 x0 x1 x2 = k0_pay2 (k0_pay1 x2) x0 x1 := by
  unfold out0_A_3
  refine (View.read_writes_junk_eq_canon _ _).trans ((View.canon_cons_unit_lit _ _ _ (by decide)).trans ?_)
  rw [Rms.load_whole harg1 x0 _ (by decide), Rms.load_whole harg2 x1 _ (by decide), back_A]

/-- And the same tile in the narrow format. -/
theorem out_A' (hc0 : cond0_0 i) : out0_A_4 c i arg1 harg1 arg2 harg2 arg3 harg3 arg4 harg4 arg5 harg5 arg6 harg6 hc0 x0 x1 x2 = k0_pay3 (k0_pay1 x2) x0 x1 := by
  unfold out0_A_4
  refine (View.read_writes_junk_eq_canon _ _).trans ((View.canon_cons_unit_lit _ _ _ (by decide)).trans ?_)
  rw [Rms.load_whole harg1 x0 _ (by decide), Rms.load_whole harg2 x1 _ (by decide), back_A]

/-- A later point writes its tile, with the weight that was kept. -/
theorem out_B (hc0 : ¬cond0_0 i) : out0_B_3 c i arg1 harg1 arg2 harg2 arg3 harg3 arg4 harg4 arg5 harg5 arg6 harg6 hc0 x0 x1 x2 xs0 = k0_pay2 xs0 x0 x1 := by
  unfold out0_B_3
  refine (View.read_writes_junk_eq_canon _ _).trans ((View.canon_cons_unit_lit _ _ _ (by decide)).trans ?_)
  rw [Rms.load_whole harg1 x0 _ (by decide), Rms.load_whole harg2 x1 _ (by decide), Rms.load_whole harg6 xs0 _ (by decide)]

/-- And the same tile in the narrow format. -/
theorem out_B' (hc0 : ¬cond0_0 i) : out0_B_4 c i arg1 harg1 arg2 harg2 arg3 harg3 arg4 harg4 arg5 harg5 arg6 harg6 hc0 x0 x1 x2 xs0 = k0_pay3 xs0 x0 x1 := by
  unfold out0_B_4
  refine (View.read_writes_junk_eq_canon _ _).trans ((View.canon_cons_unit_lit _ _ _ (by decide)).trans ?_)
  rw [Rms.load_whole harg1 x0 _ (by decide), Rms.load_whole harg2 x1 _ (by decide), Rms.load_whole harg6 xs0 _ (by decide)]

end Point

/-! ## The blocks -/

variable (m : (ℓ : Loc nD τ sig) → Buf (Elt Ideal) ℓ) (c : Dev nD)

/-- Which block of each array a grid point uses. -/
theorem pt_idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_3.flush t = true ∧ win0_4.flush t = true := by
  decide +kernel

/-- Row `r` of tile `t`. -/
def row (t : Fin cfg0.N) (r : Fin 512) : Fin 8192 := ⟨512 * t.val + r.val, by
  have h : t.val < 16 := t.isLt
  have := r.isLt; omega⟩

theorem x_blk (t : Fin cfg0.N) (r : Fin 512) (k : Fin 2048) :
    iblk m c 0 t (ix2 r k) = m ((c : Thread nD τ).loc main_arg0) (ix2 (row t r) k) := by
  obtain ⟨h0, h1, -⟩ := pt_idx t
  unfold iblk
  refine (congrFun (V_main_arg0 m c) _).trans (congrArg _ ?_)
  funext a
  match a with
  | ⟨0, _⟩ => exact Fin.ext (by show win0_0.index t 0 * 512 + 1 * r.val = 512 * t.val + r.val; rw [h0]; omega)
  | ⟨1, _⟩ => exact Fin.ext (by show win0_0.index t 1 * 2048 + 1 * k.val = k.val; rw [h1]; omega)

/-- The gain as a row is the gain. -/
theorem gain_row (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := rfl
  rw [h]
  exact shapeCast_a_1a_apply _ _ _ _

theorem g_blk (t : Fin cfg0.N) (k : Fin 2048) : iblk m c 1 t (ix2 0 k) = m ((c : Thread nD τ).loc main_arg1) (ix1 k) := by
  obtain ⟨-, -, h0, h1, -⟩ := pt_idx t
  refine Eq.trans ?_ (gain_row m c k)
  unfold iblk
  refine congrArg (V m c main_v0) ?_
  funext a
  match a with
  | ⟨0, _⟩ => exact Fin.ext (by show win0_1.index t 0 * 1 + 1 * 0 = 0; rw [h0])
  | ⟨1, _⟩ => exact Fin.ext (by show win0_1.index t 1 * 2048 + 1 * k.val = k.val; rw [h1]; omega)

/-- A column of the key half in the whole weight. -/
def keyCol (j : Fin 2048) : Fin 4096 := ⟨j.val, by have := j.isLt; omega⟩

/-- The key half of the weight. -/
def wt : FVec Ideal S2048x2048 .f32 := fun i => m ((c : Thread nD τ).loc main_arg2) (ix2 (i 0) (keyCol (i 1)))

theorem w_blk (t : Fin cfg0.N) : iblk m c 2 t = wt m c := by
  obtain ⟨-, -, -, -, h0, h1, -⟩ := pt_idx t
  funext y
  unfold iblk wt
  refine (congrFun (V_main_arg2 m c) _).trans (congrArg _ ?_)
  funext a
  match a with
  | ⟨0, _⟩ => exact Fin.ext (by show win0_2.index t 0 * 2048 + 1 * (y 0).val = (y 0).val; rw [h0]; omega)
  | ⟨1, _⟩ => exact Fin.ext (by show win0_2.index t 1 * 2048 + 1 * (y 1).val = (y 1).val; rw [h1]; omega)

/-- The first point keeps the weight. -/
theorem kept_A (t : Fin cfg0.N) (h : t.val % 16 = 0) : (outsAt0 m c t.val t.isLt).2.2 = k0_pay1 (F := Ideal) (wt m c) := by
  rw [outsAt0_A m c t h]
  dsimp only
  refine (scr_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h)).trans ?_
  exact congrArg (k0_pay1 (F := Ideal)) (w_blk m c t)

/-- The kept weight after every grid point: the weight. -/
theorem kept (n : ℕ) (hn : n < cfg0.N) : (outsAt0 m c n hn).2.2 = k0_pay1 (F := Ideal) (wt m c) := by
  induction n with
  | zero => exact kept_A m c ⟨0, hn⟩ (Nat.zero_mod _)
  | succ n ih =>
    have h16 : n + 1 < 16 := hn
    have h0 : ¬(n + 1) % 16 = 0 := by omega
    have e := outsAt0_B m c ⟨n + 1, hn⟩ h0
    rw [e]
    dsimp only
    unfold sout0_B_0
    simp only [Nat.add_sub_cancel]
    exact ih _

/-- What grid point `t` writes back, in both formats. -/
theorem tile (t : Fin cfg0.N) :
    (outsAt0 m c t.val t.isLt).1 = k0_pay2 (F := Ideal) (k0_pay1 (F := Ideal) (wt m c)) (iblk m c 0 t) (iblk m c 1 t)
    ∧ (outsAt0 m c t.val t.isLt).2.1 = k0_pay3 (F := Ideal) (k0_pay1 (F := Ideal) (wt m c)) (iblk m c 0 t) (iblk m c 1 t) := by
  by_cases h : t.val % 16 = 0
  · have hw : k0_pay1 (F := Ideal) (iblk m c 2 t) = k0_pay1 (F := Ideal) (wt m c) := congrArg (k0_pay1 (F := Ideal)) (w_blk m c t)
    rw [outsAt0_A m c t h, ← hw]
    dsimp only
    exact ⟨out_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h), out_A' c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h)⟩
  · rw [outsAt0_B m c t h, ← kept m c (t.val - 1) (Nat.lt_of_le_of_lt (Nat.sub_le _ _) t.isLt)]
    dsimp only
    exact ⟨out_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) _ (fun h' => h ((hcond0_0 t).mp h')), out_B' c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) _ (fun h' => h ((hcond0_0 t).mp h'))⟩

/-- An element of the tile that grid point `t` writes back. -/
theorem tile_apply (t : Fin cfg0.N) (r : Fin 512) (j : Fin 2048) :
    k0_pay2 (F := Ideal) (k0_pay1 (F := Ideal) (wt m c)) (iblk m c 0 t) (iblk m c 1 t) (ix2 r j)
      = proj (m ((c : Thread nD τ).loc main_arg0)) (fun k => m ((c : Thread nD τ).loc main_arg1) (ix1 k))
        (m ((c : Thread nD τ).loc main_arg2)) (row t r) (keyCol j) := by
  refine (pay2_apply _ _ _ r j).trans ?_
  unfold proj
  refine Finset.sum_congr rfl fun q _ => congrArg (fun a : EReal => a * _) ?_
  exact congrArg₂ (Rms.norm · · q) (funext fun k => x_blk m c t r k) (funext fun k => g_blk m c t k)

/-- The kernel's first result at one element. -/
theorem arr_apply (t : Fin cfg0.N) (r : Fin 512) (j : Fin 2048) : (dats m 0 c).arrAt 3 cfg0.N (ix2 (row t r) j)
    = proj (m ((c : Thread nD τ).loc main_arg0)) (fun k => m ((c : Thread nD τ).loc main_arg1) (ix1 k))
        (m ((c : Thread nD τ).loc main_arg2)) (row t r) (keyCol j) := by
  obtain ⟨-, -, -, -, -, -, h0, h1, -, -, hf, -⟩ := pt_idx t
  have hb := congrFun ((blocks3 m c t hf).trans (flushed3 m c t)) (ix2 r j)
  refine (congrArg _ ?_).trans (hb.trans ((congrFun (tile m c t).1 (ix2 r j)).trans (tile_apply m c t r j)))
  funext a
  match a with
  | ⟨0, _⟩ => exact Fin.ext (by show 512 * t.val + r.val = win0_3.index t 0 * 512 + 1 * r.val; rw [h0]; omega)
  | ⟨1, _⟩ => exact Fin.ext (by show j.val = win0_3.index t 1 * 2048 + 1 * j.val; rw [h1]; omega)

/-- The kernel's second result at one element. -/
theorem arr_apply' (t : Fin cfg0.N) (r : Fin 512) (j : Fin 2048) : (dats m 0 c).arrAt 4 cfg0.N (ix2 (row t r) j)
    = proj (m ((c : Thread nD τ).loc main_arg0)) (fun k => m ((c : Thread nD τ).loc main_arg1) (ix1 k))
        (m ((c : Thread nD τ).loc main_arg2)) (row t r) (keyCol j) := by
  obtain ⟨-, -, -, -, -, -, -, -, h0, h1, -, hf⟩ := pt_idx t
  have hb := congrFun ((blocks4 m c t hf).trans (flushed4 m c t)) (ix2 r j)
  refine (congrArg _ ?_).trans (hb.trans ((congrFun (tile m c t).2 (ix2 r j)).trans ((pay3_eq _ _ _ _).trans (tile_apply m c t r j))))
  funext a
  match a with
  | ⟨0, _⟩ => exact Fin.ext (by show 512 * t.val + r.val = win0_4.index t 0 * 512 + 1 * r.val; rw [h0]; omega)
  | ⟨1, _⟩ => exact Fin.ext (by show j.val = win0_4.index t 1 * 2048 + 1 * j.val; rw [h1]; omega)

/-- Every place of the result is in some tile. -/
theorem place (y : S8192x2048.Idx) : ∃ (t : Fin cfg0.N) (r : Fin 512) (j : Fin 2048), y = ix2 (row t r) j := by
  have hr : (y 0).val < 8192 := (y 0).isLt
  have ht : (y 0).val / 512 < cfg0.N := by show _ < 16; omega
  refine ⟨⟨(y 0).val / 512, ht⟩, ⟨(y 0).val % 512, by omega⟩, y 1, ?_⟩
  funext a
  match a with
  | ⟨0, _⟩ => exact Fin.ext (by show (y 0).val = 512 * ((y 0).val / 512) + (y 0).val % 512; omega)
  | ⟨1, _⟩ => rfl

/-! ## The reference -/

open Cert.Reference2Ideal.Read in
/-- The normed residual stream at one element. -/
theorem ref_norm (x0 : FVec Ideal S8192x2048 .f32) (x1 : FVec Ideal S2048 .f32) (i : Fin 8192) (q : Fin 2048) :
    val_main_v12 (F := Ideal) x0 x1 (ix2 i q) = Rms.norm (fun k => x0 (ix2 i k)) (fun k => x1 (ix1 k)) q := by
  rw [val_main_v12_apply, val_main_v9_apply, val_main_v11_apply, val_main_v10_apply, val_main_v8_apply, val_main_v7_apply,
    val_main_v6_apply, val_main_v4_apply, val_main_v5_apply, val_main_v3_apply, val_main_v2_apply, val_main_v1_apply]
  unfold Rms.norm Rms.rstd
  refine congrArg₂ (fun a b : EReal => a * b) (congrArg (HMul.hMul (x0 (ix2 i q) : EReal)) ?_) (congrArg x1 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v0_apply]
  refine congrArg₂ (fun a b : EReal => a * b) ?_ ?_ <;> exact congrArg x0 (by funext a; fin_cases a <;> rfl)

open Cert.Reference2Ideal.Read in
/-- The reference's first result at one element. -/
theorem ref_apply (x0 : FVec Ideal S8192x2048 .f32) (x1 : FVec Ideal S2048 .f32) (x2 : FVec Ideal S2048x4096 .f32) (i : Fin 8192) (j : Fin 2048) :
    val_main_v14 (F := Ideal) x0 x1 x2 (ix2 i j) = proj x0 (fun k => x1 (ix1 k)) x2 i (keyCol j) := by
  rw [val_main_v14_apply, val_main_v13_apply]
  refine Finset.sum_congr rfl fun q _ => congrArg₂ (fun a b : EReal => a * b) ((congrArg _ ?_).trans (ref_norm x0 x1 i q)) (congrArg x2 ?_)
  · funext a; fin_cases a <;> rfl
  · funext a; fin_cases a <;> rfl

/-- The kernel's first result is the reference's. -/
theorem arr_eq : (dats m 0 c).arrAt 3 cfg0.N = Cert.Reference2Ideal.Read.val_main_v14 (F := Ideal) (m ((c : Thread nD τ).loc main_arg0))
    (m ((c : Thread nD τ).loc main_arg1)) (m ((c : Thread nD τ).loc main_arg2)) := by
  funext y
  obtain ⟨t, r, j, rfl⟩ := place y
  exact (arr_apply m c t r j).trans (ref_apply _ _ _ _ _).symm

/-- The kernel's second result is the reference's. -/
theorem arr_eq' : (dats m 0 c).arrAt 4 cfg0.N = Cert.Reference2Ideal.Read.val_main_v16 (F := Ideal) (m ((c : Thread nD τ).loc main_arg0))
    (m ((c : Thread nD τ).loc main_arg1)) (m ((c : Thread nD τ).loc main_arg2)) := by
  funext y
  obtain ⟨t, r, j, rfl⟩ := place y
  exact (arr_apply' m c t r j).trans (ref_apply _ _ _ _ _).symm

end Cert.NormMm
-- ==== Proof.NormMmClaims.lean ====
/- The claims of the key projection. -/
module

public import proofs.«01_k».proof.Defs
public import proofs.«01_k».proof.Proof.NormMm
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run

@[expose] public section

noncomputable section

namespace Cert.NormMm

open Idealize.ShloMosaic Idealize.ShloMosaic.TcCoe Idealize.SL.Sem

/-- The kernel runs and leaves its arguments and semaphores as they were. -/
theorem frame_p : Cert.quiescent_Kernel2 (hKernel2 := Cert.Kernel2.Gen.facts) := fun m ρ _ => Cert.Kernel2.Gen.frame m ρ

/-- So does the kernel over the extended reals. -/
theorem frame_pi : Cert.quiescent_Kernel2Ideal (hKernel2Ideal := Cert.Kernel2Ideal.Gen.facts) := fun m ρ _ => Cert.Kernel2Ideal.Gen.frame m ρ

/-- So does the reference. -/
theorem frame_ri : Cert.quiescent_Reference2Ideal (hReference2Ideal := Cert.Reference2Ideal.Gen.facts) :=
  fun m ρ _ => (θ_run Cert.Reference2Ideal.defs _ _).mono (fun r h => ⟨fun c => (h c).2.2, sem_eq_zero_of_no_sems (by decide) r.2⟩)
    (Cert.Reference2Ideal.Value.run (F := Ideal) m ρ)

/-- Nothing was rewritten. -/
theorem preserves : Cert.preserves_Kernel2_Kernel2Ideal := trivial

/-- The kernel computes the reference's result. -/
theorem algebraic : Cert.algebraic_Kernel2Ideal_Reference2Ideal (hKernel2Ideal := Cert.Kernel2Ideal.Gen.facts)
    (hReference2Ideal := Cert.Reference2Ideal.Gen.facts) := fun m g m' g' _ hagree => by
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N,
    Cert.Kernel2Ideal.Value.run_blocks m g, ?_⟩
  refine (θ_run Cert.Reference2Ideal.defs _ _).mono (fun r h c => ⟨(h c).1.trans ?_, (h c).2.1.trans ?_, (h c).2.2⟩) (Cert.Reference2Ideal.Value.run (F := Ideal) m' g')
  · have hm := hagree c
    rw [Cert.Reference2Ideal.Read.val_main_v14_eq, hm.1, hm.2.1, hm.2.2]
    exact (arr_eq m c).symm
  · have hm := hagree c
    rw [Cert.Reference2Ideal.Read.val_main_v16_eq, hm.1, hm.2.1, hm.2.2]
    exact (arr_eq' m c).symm

end Cert.NormMm
-- ==== Proof.MmResClaims.lean ====
/- The claims of the output projection with its residual and norm. -/
module

public import proofs.«01_k».proof.Defs
public import proofs.«01_k».proof.Proof.MmRes
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run

@[expose] public section

noncomputable section

namespace Cert.MmRes

open Idealize.ShloMosaic Idealize.ShloMosaic.TcCoe Idealize.SL.Sem

/-- The kernel runs and leaves its arguments and semaphores as they were. -/
theorem frame_p : Cert.quiescent_Kernel4 (hKernel4 := Cert.Kernel4.Gen.facts) := fun m ρ _ => Cert.Kernel4.Gen.frame m ρ

/-- So does the kernel over the extended reals. -/
theorem frame_pi : Cert.quiescent_Kernel4Ideal (hKernel4Ideal := Cert.Kernel4Ideal.Gen.facts) := fun m ρ _ => Cert.Kernel4Ideal.Gen.frame m ρ

/-- So does the reference. -/
theorem frame_ri : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run (F := Ideal) m ρ)

/-- Nothing was rewritten. -/
theorem preserves : Cert.preserves_Kernel4_Kernel4Ideal := trivial

/-- The kernel computes the reference's result. -/
theorem algebraic : Cert.algebraic_Kernel4Ideal_Reference4Ideal (hKernel4Ideal := Cert.Kernel4Ideal.Gen.facts)
    (hReference4Ideal := Cert.Reference4Ideal.Gen.facts) := fun m g m' g' _ hagree => by
  refine ⟨fun c => (Cert.Kernel4Ideal.Gen.dats m 0 c).arrAt 4 Cert.Kernel4Ideal.cfg0.N,
    Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  have hm := hagree c
  rw [Cert.Reference4Ideal.Read.val_main_v15_eq, hm.1, hm.2.1, hm.2.2.1, hm.2.2.2]
  exact (arr_eq m c).symm

end Cert.MmRes
-- ==== Proof.ValMm.lean ====
/- The value projection of the normed residual stream: the kernel's two results, element by element, and their equation with the
   reference's. -/
module

public import proofs.«01_k».proof.Proof.NormMm
public import proofs.«01_k».proof.Proof.Gen.Kernel5Ideal.Value
public import proofs.«01_k».proof.Proof.Gen.Reference5Ideal.Read

@[expose] public section

noncomputable section

namespace Cert.ValMm

open Cert.Kernel5Ideal Cert.Kernel5Ideal.Gen Cert.Kernel5Ideal.Value Idealize.ShloMosaic Idealize.ShloMosaic.TcCoe Idealize.ShloMosaic.ValueIdx

open NormMm (proj)

/-! ## One tile: as for the keys -/

section Tile

variable (x0 : FVec Ideal S512x2048 .f32) (x1 : FVec Ideal S1x2048 .f32) (x2 : FVec Ideal S2048x2048 .f32)

/-- An element of the tile that a grid point writes. -/
theorem pay2_apply (r : Fin 512) (j : Fin 2048) : k0_pay2 (F := Ideal) (k0_pay1 (F := Ideal) x2) x0 x1 (ix2 r j)
    = proj x0 (fun k => x1 (ix2 0 k)) x2 r j := NormMm.pay2_apply x0 x1 x2 r j

/-- The tile in the narrow format holds the same numbers. -/
theorem pay3_eq (w : FVec Ideal S2048x2048 .bf16) (i : S512x2048.Idx) : k0_pay3 (F := Ideal) w x0 x1 i = k0_pay2 (F := Ideal) w x0 x1 i := rfl

end Tile

/-! ## What a grid point leaves -/

section Point

variable (c : Dev nD) (i : grid0.Coords) (arg1 : Memref sig .tc .vmem S512x2048 .f32) (harg1 : arg1.IsWhole)
  (arg2 : Memref sig .tc .vmem S1x2048 .f32) (harg2 : arg2.IsWhole) (arg3 : Memref sig .tc .vmem S2048x2048 .f32) (harg3 : arg3.IsWhole)
  (arg4 : Memref sig .tc .vmem S512x2048 .f32) (harg4 : arg4.IsWhole) (arg5 : Memref sig .tc .vmem S512x2048 .bf16) (harg5 : arg5.IsWhole)
  (arg6 : Memref sig .tc .vmem S2048x2048 .bf16) (harg6 : arg6.IsWhole)
  (x0 : Vec Ideal S512x2048 .f32) (x1 : Vec Ideal S1x2048 .f32) (x2 : Vec Ideal S2048x2048 .f32) (xs0 : Vec Ideal S2048x2048 .bf16)

/-- The first point keeps the weight. -/
theorem scr_A (hc0 : cond0_0 i) : sout0_A_0 c i arg1 harg1 arg2 harg2 arg3 harg3 arg4 harg4 arg5 harg5 arg6 harg6 hc0 x0 x1 x2 = k0_pay1 x2 := by
  unfold sout0_A_0
  refine (View.read_writes_junk_eq_canon _ _).trans ((View.canon_cons_unit_lit _ _ _ (by decide)).trans ?_)
  exact congrArg _ (Rms.load_whole harg3 x2 _ (by decide))

/-- The weight as the first point reads it back is the weight it has just kept. -/
theorem back_A : kernelRun0_A.sl.v3 c arg3 harg3 arg6 x2 = k0_pay1 x2 := by
  unfold kernelRun0_A.sl.v3
  refine (View.readCov_unit_lit _ _ _ (by decide)).trans ?_
  exact congrArg _ (Rms.load_whole harg3 x2 _ (by decide))

/-- The first point writes its tile, with the weight it has just kept. -/
theorem out_A (hc0 : cond0_0 i) : out0_A_3 c i arg1 harg1 arg2 harg2 arg3 harg3 arg4 harg4 arg5 harg5 arg6 harg6 hc0 x0 x1 x2 = k0_pay2 (k0_pay1 x2) x0 x1 := by
  unfold out0_A_3
  refine (View.read_writes_junk_eq_canon _ _).trans ((View.canon_cons_unit_lit _ _ _ (by decide)).trans ?_)
  rw [Rms.load_whole harg1 x0 _ (by decide), Rms.load_whole harg2 x1 _ (by decide), back_A]

/-- And the same tile in the narrow format. -/
theorem out_A' (hc0 : cond0_0 i) : out0_A_4 c i arg1 harg1 arg2 harg2 arg3 harg3 arg4 harg4 arg5 harg5 arg6 harg6 hc0 x0 x1 x2 = k0_pay3 (k0_pay1 x2) x0 x1 := by
  unfold out0_A_4
  refine (View.read_writes_junk_eq_canon _ _).trans ((View.canon_cons_unit_lit _ _ _ (by decide)).trans ?_)
  rw [Rms.load_whole harg1 x0 _ (by decide), Rms.load_whole harg2 x1 _ (by decide), back_A]

/-- A later point writes its tile, with the weight that was kept. -/
theorem out_B (hc0 : ¬cond0_0 i) : out0_B_3 c i arg1 harg1 arg2 harg2 arg3 harg3 arg4 harg4 arg5 harg5 arg6 harg6 hc0 x0 x1 x2 xs0 = k0_pay2 xs0 x0 x1 := by
  unfold out0_B_3
  refine (View.read_writes_junk_eq_canon _ _).trans ((View.canon_cons_unit_lit _ _ _ (by decide)).trans ?_)
  rw [Rms.load_whole harg1 x0 _ (by decide), Rms.load_whole harg2 x1 _ (by decide), Rms.load_whole harg6 xs0 _ (by decide)]

/-- And the same tile in the narrow format. -/
theorem out_B' (hc0 : ¬cond0_0 i) : out0_B_4 c i arg1 harg1 arg2 harg2 arg3 harg3 arg4 harg4 arg5 harg5 arg6 harg6 hc0 x0 x1 x2 xs0 = k0_pay3 xs0 x0 x1 := by
  unfold out0_B_4
  refine (View.read_writes_junk_eq_canon _ _).trans ((View.canon_cons_unit_lit _ _ _ (by decide)).trans ?_)
  rw [Rms.load_whole harg1 x0 _ (by decide), Rms.load_whole harg2 x1 _ (by decide), Rms.load_whole harg6 xs0 _ (by decide)]

end Point

/-! ## The blocks -/

variable (m : (ℓ : Loc nD τ sig) → Buf (Elt Ideal) ℓ) (c : Dev nD)

/-- Which block of each array a grid point uses. -/
theorem pt_idx : ∀ t : Fin grid0.N, win0_0.index t 0 = t.val ∧ win0_0.index t 1 = 0 ∧ win0_1.index t 0 = 0 ∧ win0_1.index t 1 = 0
    ∧ win0_2.index t 0 = 0 ∧ win0_2.index t 1 = 1 ∧ win0_3.index t 0 = t.val ∧ win0_3.index t 1 = 0
    ∧ win0_4.index t 0 = t.val ∧ win0_4.index t 1 = 0 ∧ win0_3.flush t = true ∧ win0_4.flush t = true := by
  decide +kernel

/-- Row `r` of tile `t`. -/
def row (t : Fin cfg0.N) (r : Fin 512) : Fin 8192 := ⟨512 * t.val + r.val, by
  have h : t.val < 16 := t.isLt
  have := r.isLt; omega⟩

theorem x_blk (t : Fin cfg0.N) (r : Fin 512) (k : Fin 2048) :
    iblk m c 0 t (ix2 r k) = m ((c : Thread nD τ).loc main_arg0) (ix2 (row t r) k) := by
  obtain ⟨h0, h1, -⟩ := pt_idx t
  unfold iblk
  refine (congrFun (V_main_arg0 m c) _).trans (congrArg _ ?_)
  funext a
  match a with
  | ⟨0, _⟩ => exact Fin.ext (by show win0_0.index t 0 * 512 + 1 * r.val = 512 * t.val + r.val; rw [h0]; omega)
  | ⟨1, _⟩ => exact Fin.ext (by show win0_0.index t 1 * 2048 + 1 * k.val = k.val; rw [h1]; omega)

/-- The gain as a row is the gain. -/
theorem gain_row (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := rfl
  rw [h]
  exact shapeCast_a_1a_apply _ _ _ _

theorem g_blk (t : Fin cfg0.N) (k : Fin 2048) : iblk m c 1 t (ix2 0 k) = m ((c : Thread nD τ).loc main_arg1) (ix1 k) := by
  obtain ⟨-, -, h0, h1, -⟩ := pt_idx t
  refine Eq.trans ?_ (gain_row m c k)
  unfold iblk
  refine congrArg (V m c main_v0) ?_
  funext a
  match a with
  | ⟨0, _⟩ => exact Fin.ext (by show win0_1.index t 0 * 1 + 1 * 0 = 0; rw [h0])
  | ⟨1, _⟩ => exact Fin.ext (by show win0_1.index t 1 * 2048 + 1 * k.val = k.val; rw [h1]; omega)

/-- A column of the value half in the whole weight. -/
def valCol (j : Fin 2048) : Fin 4096 := ⟨2048 + j.val, by have := j.isLt; omega⟩

/-- The value half of the weight. -/
def wt : FVec Ideal S2048x2048 .f32 := fun i => m ((c : Thread nD τ).loc main_arg2) (ix2 (i 0) (valCol (i 1)))

theorem w_blk (t : Fin cfg0.N) : iblk m c 2 t = wt m c := by
  obtain ⟨-, -, -, -, h0, h1, -⟩ := pt_idx t
  funext y
  unfold iblk wt
  refine (congrFun (V_main_arg2 m c) _).trans (congrArg _ ?_)
  funext a
  match a with
  | ⟨0, _⟩ => exact Fin.ext (by show win0_2.index t 0 * 2048 + 1 * (y 0).val = (y 0).val; rw [h0]; omega)
  | ⟨1, _⟩ => exact Fin.ext (by show win0_2.index t 1 * 2048 + 1 * (y 1).val = 2048 + (y 1).val; rw [h1]; omega)

/-- The first point keeps the weight. -/
theorem kept_A (t : Fin cfg0.N) (h : t.val % 16 = 0) : (outsAt0 m c t.val t.isLt).2.2 = k0_pay1 (F := Ideal) (wt m c) := by
  rw [outsAt0_A m c t h]
  dsimp only
  refine (scr_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h)).trans ?_
  exact congrArg (k0_pay1 (F := Ideal)) (w_blk m c t)

/-- The kept weight after every grid point: the weight. -/
theorem kept (n : ℕ) (hn : n < cfg0.N) : (outsAt0 m c n hn).2.2 = k0_pay1 (F := Ideal) (wt m c) := by
  induction n with
  | zero => exact kept_A m c ⟨0, hn⟩ (Nat.zero_mod _)
  | succ n ih =>
    have h16 : n + 1 < 16 := hn
    have h0 : ¬(n + 1) % 16 = 0 := by omega
    have e := outsAt0_B m c ⟨n + 1, hn⟩ h0
    rw [e]
    dsimp only
    unfold sout0_B_0
    simp only [Nat.add_sub_cancel]
    exact ih _

/-- What grid point `t` writes back, in both formats. -/
theorem tile (t : Fin cfg0.N) :
    (outsAt0 m c t.val t.isLt).1 = k0_pay2 (F := Ideal) (k0_pay1 (F := Ideal) (wt m c)) (iblk m c 0 t) (iblk m c 1 t)
    ∧ (outsAt0 m c t.val t.isLt).2.1 = k0_pay3 (F := Ideal) (k0_pay1 (F := Ideal) (wt m c)) (iblk m c 0 t) (iblk m c 1 t) := by
  by_cases h : t.val % 16 = 0
  · have hw : k0_pay1 (F := Ideal) (iblk m c 2 t) = k0_pay1 (F := Ideal) (wt m c) := congrArg (k0_pay1 (F := Ideal)) (w_blk m c t)
    rw [outsAt0_A m c t h, ← hw]
    dsimp only
    exact ⟨out_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h), out_A' c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) ((hcond0_0 t).mpr h)⟩
  · rw [outsAt0_B m c t h, ← kept m c (t.val - 1) (Nat.lt_of_le_of_lt (Nat.sub_le _ _) t.isLt)]
    dsimp only
    exact ⟨out_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) _ (fun h' => h ((hcond0_0 t).mp h')), out_B' c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) _ (fun h' => h ((hcond0_0 t).mp h'))⟩

/-- An element of the tile that grid point `t` writes back. -/
theorem tile_apply (t : Fin cfg0.N) (r : Fin 512) (j : Fin 2048) :
    k0_pay2 (F := Ideal) (k0_pay1 (F := Ideal) (wt m c)) (iblk m c 0 t) (iblk m c 1 t) (ix2 r j)
      = proj (m ((c : Thread nD τ).loc main_arg0)) (fun k => m ((c : Thread nD τ).loc main_arg1) (ix1 k))
        (m ((c : Thread nD τ).loc main_arg2)) (row t r) (valCol j) := by
  refine (pay2_apply _ _ _ r j).trans ?_
  unfold proj
  refine Finset.sum_congr rfl fun q _ => congrArg (fun a : EReal => a * _) ?_
  exact congrArg₂ (Rms.norm · · q) (funext fun k => x_blk m c t r k) (funext fun k => g_blk m c t k)

/-- The kernel's first result at one element. -/
theorem arr_apply (t : Fin cfg0.N) (r : Fin 512) (j : Fin 2048) : (dats m 0 c).arrAt 3 cfg0.N (ix2 (row t r) j)
    = proj (m ((c : Thread nD τ).loc main_arg0)) (fun k => m ((c : Thread nD τ).loc main_arg1) (ix1 k))
        (m ((c : Thread nD τ).loc main_arg2)) (row t r) (valCol j) := by
  obtain ⟨-, -, -, -, -, -, h0, h1, -, -, hf, -⟩ := pt_idx t
  have hb := congrFun ((blocks3 m c t hf).trans (flushed3 m c t)) (ix2 r j)
  refine (congrArg _ ?_).trans (hb.trans ((congrFun (tile m c t).1 (ix2 r j)).trans (tile_apply m c t r j)))
  funext a
  match a with
  | ⟨0, _⟩ => exact Fin.ext (by show 512 * t.val + r.val = win0_3.index t 0 * 512 + 1 * r.val; rw [h0]; omega)
  | ⟨1, _⟩ => exact Fin.ext (by show j.val = win0_3.index t 1 * 2048 + 1 * j.val; rw [h1]; omega)

/-- The kernel's second result at one element. -/
theorem arr_apply' (t : Fin cfg0.N) (r : Fin 512) (j : Fin 2048) : (dats m 0 c).arrAt 4 cfg0.N (ix2 (row t r) j)
    = proj (m ((c : Thread nD τ).loc main_arg0)) (fun k => m ((c : Thread nD τ).loc main_arg1) (ix1 k))
        (m ((c : Thread nD τ).loc main_arg2)) (row t r) (valCol j) := by
  obtain ⟨-, -, -, -, -, -, -, -, h0, h1, -, hf⟩ := pt_idx t
  have hb := congrFun ((blocks4 m c t hf).trans (flushed4 m c t)) (ix2 r j)
  refine (congrArg _ ?_).trans (hb.trans ((congrFun (tile m c t).2 (ix2 r j)).trans ((pay3_eq _ _ _ _).trans (tile_apply m c t r j))))
  funext a
  match a with
  | ⟨0, _⟩ => exact Fin.ext (by show 512 * t.val + r.val = win0_4.index t 0 * 512 + 1 * r.val; rw [h0]; omega)
  | ⟨1, _⟩ => exact Fin.ext (by show j.val = win0_4.index t 1 * 2048 + 1 * j.val; rw [h1]; omega)

/-- Every place of the result is in some tile. -/
theorem place (y : S8192x2048.Idx) : ∃ (t : Fin cfg0.N) (r : Fin 512) (j : Fin 2048), y = ix2 (row t r) j := by
  have hr : (y 0).val < 8192 := (y 0).isLt
  have ht : (y 0).val / 512 < cfg0.N := by show _ < 16; omega
  refine ⟨⟨(y 0).val / 512, ht⟩, ⟨(y 0).val % 512, by omega⟩, y 1, ?_⟩
  funext a
  match a with
  | ⟨0, _⟩ => exact Fin.ext (by show (y 0).val = 512 * ((y 0).val / 512) + (y 0).val % 512; omega)
  | ⟨1, _⟩ => rfl

/-! ## The reference -/

open Cert.Reference5Ideal.Read in
/-- The reference's first result at one element. -/
theorem ref_apply (x0 : FVec Ideal S8192x2048 .f32) (x1 : FVec Ideal S2048 .f32) (x2 : FVec Ideal S2048x4096 .f32) (i : Fin 8192) (j : Fin 2048) :
    val_main_v15 (F := Ideal) x0 x1 x2 (ix2 i j) = proj x0 (fun k => x1 (ix1 k)) x2 i (valCol j) := by
  rw [val_main_v15_apply, val_main_v13_apply]
  refine Finset.sum_congr rfl fun q _ => congrArg₂ (fun a b : EReal => a * b) ((congrArg _ ?_).trans (NormMm.ref_norm x0 x1 i q)) (congrArg x2 ?_)
  · funext a; fin_cases a <;> rfl
  · funext a; fin_cases a <;> rfl

/-- The kernel's first result is the reference's. -/
theorem arr_eq : (dats m 0 c).arrAt 3 cfg0.N = Cert.Reference5Ideal.Read.val_main_v15 (F := Ideal) (m ((c : Thread nD τ).loc main_arg0))
    (m ((c : Thread nD τ).loc main_arg1)) (m ((c : Thread nD τ).loc main_arg2)) := by
  funext y
  obtain ⟨t, r, j, rfl⟩ := place y
  exact (arr_apply m c t r j).trans (ref_apply _ _ _ _ _).symm

/-- The kernel's second result is the reference's. -/
theorem arr_eq' : (dats m 0 c).arrAt 4 cfg0.N = Cert.Reference5Ideal.Read.val_main_v16 (F := Ideal) (m ((c : Thread nD τ).loc main_arg0))
    (m ((c : Thread nD τ).loc main_arg1)) (m ((c : Thread nD τ).loc main_arg2)) := by
  funext y
  obtain ⟨t, r, j, rfl⟩ := place y
  exact (arr_apply' m c t r j).trans (ref_apply _ _ _ _ _).symm

end Cert.ValMm
-- ==== Proof.ValMmClaims.lean ====
/- The claims of the value projection. -/
module

public import proofs.«01_k».proof.Defs
public import proofs.«01_k».proof.Proof.ValMm
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run

@[expose] public section

noncomputable section

namespace Cert.ValMm

open Idealize.ShloMosaic Idealize.ShloMosaic.TcCoe Idealize.SL.Sem

/-- The kernel runs and leaves its arguments and semaphores as they were. -/
theorem frame_p : Cert.quiescent_Kernel5 (hKernel5 := Cert.Kernel5.Gen.facts) := fun m ρ _ => Cert.Kernel5.Gen.frame m ρ

/-- So does the kernel over the extended reals. -/
theorem frame_pi : Cert.quiescent_Kernel5Ideal (hKernel5Ideal := Cert.Kernel5Ideal.Gen.facts) := fun m ρ _ => Cert.Kernel5Ideal.Gen.frame m ρ

/-- So does the reference. -/
theorem frame_ri : Cert.quiescent_Reference5Ideal (hReference5Ideal := Cert.Reference5Ideal.Gen.facts) :=
  fun m ρ _ => (θ_run Cert.Reference5Ideal.defs _ _).mono (fun r h => ⟨fun c => (h c).2.2, sem_eq_zero_of_no_sems (by decide) r.2⟩)
    (Cert.Reference5Ideal.Value.run (F := Ideal) m ρ)

/-- Nothing was rewritten. -/
theorem preserves : Cert.preserves_Kernel5_Kernel5Ideal := trivial

/-- The kernel computes the reference's result. -/
theorem algebraic : Cert.algebraic_Kernel5Ideal_Reference5Ideal (hKernel5Ideal := Cert.Kernel5Ideal.Gen.facts)
    (hReference5Ideal := Cert.Reference5Ideal.Gen.facts) := fun m g m' g' _ hagree => by
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    Cert.Kernel5Ideal.Value.run_blocks m g, ?_⟩
  refine (θ_run Cert.Reference5Ideal.defs _ _).mono (fun r h c => ⟨(h c).1.trans ?_, (h c).2.1.trans ?_, (h c).2.2⟩) (Cert.Reference5Ideal.Value.run (F := Ideal) m' g')
  · have hm := hagree c
    rw [Cert.Reference5Ideal.Read.val_main_v15_eq, hm.1, hm.2.1, hm.2.2]
    exact (arr_eq m c).symm
  · have hm := hagree c
    rw [Cert.Reference5Ideal.Read.val_main_v16_eq, hm.1, hm.2.1, hm.2.2]
    exact (arr_eq' m c).symm

end Cert.ValMm
-- ==== Proof.KeySample.lean ====
/- The sample batch's key projection: the kernel's result, element by element, and its equation with the reference's. -/
module

public import proofs.«01_k».proof.Proof.NormMm
public import proofs.«01_k».proof.Proof.Gen.Kernel6Ideal.Value
public import proofs.«01_k».proof.Proof.Gen.Reference6Ideal.Read

@[expose] public section

noncomputable section

namespace Cert.KeySample

open Cert.Kernel6Ideal Cert.Kernel6Ideal.Gen Cert.Kernel6Ideal.Value Idealize.ShloMosaic Idealize.ShloMosaic.TcCoe Idealize.ShloMosaic.ValueIdx
open NormMm (proj)

/-! ## One tile of columns -/

section Tile

variable (x0 : FVec Ideal S64x2048 .f32) (x1 : FVec Ideal S1x2048 .f32) (x2 : FVec Ideal S2048x512 .f32)

/-- An element of the product of the rows with a tile of the weight's columns. -/
theorem mm_apply (x : FVec Ideal S64x2048 .bf16) (w : FVec Ideal S2048x512 .bf16) (r : Fin 64) (j : Fin 512) :
    matmul dot_S64x2048_S2048x512_S64x512_1_0_0_1_n_n none x w (constant S64x512 .f32 0x00000000#32) (ix2 r j)
      = ∑ q : Fin 2048, (x (ix2 r q) : EReal) * w (ix2 q j) := by
  refine (Ideal.matmul_constant_zero_apply _ none _ _ _).trans ?_
  refine Fintype.sum_equiv (contrEquiv1 dot_S64x2048_S2048x512_S64x512_1_0_0_1_n_n 2048 rfl rfl) _ _ fun q => ?_
  refine congrArg₂ (fun a b : EReal => a * b) (congrArg x ?_) (congrArg w ?_) <;> (funext a; fin_cases a <;> rfl)

/-- An element of the tile that a grid point writes. -/
theorem pay1_apply (r : Fin 64) (j : Fin 512) : k0_pay1 (F := Ideal) x2 x0 x1 (ix2 r j) = proj x0 (fun k => x1 (ix2 0 k)) x2 r j := by
  unfold k0_pay1
  refine (mm_apply _ _ r j).trans (Finset.sum_congr rfl fun q _ => ?_)
  exact congrArg (fun a : EReal => a * (x2 (ix2 q j) : EReal)) (Rms.tile_apply _ _ _ _ _ _ _ r q)

/-- What a grid point leaves in its block of the result. -/
theorem out_eq : out0_3 (F := Ideal) x0 x1 x2 = k0_pay1 (F := Ideal) x2 x0 x1 := by
  unfold out0_3
  refine (View.canon_cons_unit_lit _ _ _ (by decide)).trans ?_
  have e0 := View.ld_unit_lit (S := S64x2048) (Val := Elt Ideal) (e := .f32) (off := ![0, 0]) inb_S64x2048_S64x2048_0_0 x0 (by decide)
  have e1 := View.ld_unit_lit (S := S1x2048) (Val := Elt Ideal) (e := .f32) (off := ![0, 0]) inb_S1x2048_S1x2048_0_0 x1 (by decide)
  have e2 := View.ld_unit_lit (S := S2048x512) (Val := Elt Ideal) (e := .f32) (off := ![0, 0]) inb_S2048x512_S2048x512_0_0 x2 (by decide)
  rw [e0, e1, e2]

end Tile

/-! ## The blocks -/

variable (m : (ℓ : Loc nD τ sig) → Buf (Elt Ideal) ℓ) (c : Dev nD)

/-- Which block of each array a grid point uses. -/
theorem pt_idx : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val ∧ win0_3.flush t = true := by
  decide +kernel

/-- Column `j` of tile `t`. -/
def col (t : Fin cfg0.N) (j : Fin 512) : Fin 2048 := ⟨512 * t.val + j.val, by
  have h : t.val < 4 := t.isLt
  have := j.isLt; omega⟩

/-- A column of the result in the whole weight. -/
def wcol (j : Fin 2048) : Fin 4096 := ⟨j.val, by have := j.isLt; omega⟩

theorem x_blk (t : Fin cfg0.N) (r : Fin 64) (k : Fin 2048) : iblk m c 0 t (ix2 r k) = m ((c : Thread nD τ).loc main_arg0) (ix2 r k) := by
  obtain ⟨h0, h1, -⟩ := pt_idx t
  unfold iblk
  refine (congrFun (V_main_arg0 m c) _).trans (congrArg _ ?_)
  funext a
  match a with
  | ⟨0, _⟩ => exact Fin.ext (by show win0_0.index t 0 * 64 + 1 * r.val = r.val; rw [h0]; omega)
  | ⟨1, _⟩ => exact Fin.ext (by show win0_0.index t 1 * 2048 + 1 * k.val = k.val; rw [h1]; omega)

/-- The gain as a row is the gain. -/
theorem gain_row (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := rfl
  rw [h]
  exact shapeCast_a_1a_apply _ _ _ _

theorem g_blk (t : Fin cfg0.N) (k : Fin 2048) : iblk m c 1 t (ix2 0 k) = m ((c : Thread nD τ).loc main_arg1) (ix1 k) := by
  obtain ⟨-, -, h0, h1, -⟩ := pt_idx t
  refine Eq.trans ?_ (gain_row m c k)
  unfold iblk
  refine congrArg (V m c main_v0) ?_
  funext a
  match a with
  | ⟨0, _⟩ => exact Fin.ext (by show win0_1.index t 0 * 1 + 1 * 0 = 0; rw [h0])
  | ⟨1, _⟩ => exact Fin.ext (by show win0_1.index t 1 * 2048 + 1 * k.val = k.val; rw [h1]; omega)

theorem w_blk (t : Fin cfg0.N) (q : Fin 2048) (j : Fin 512) :
    iblk m c 2 t (ix2 q j) = m ((c : Thread nD τ).loc main_arg2) (ix2 q (wcol (col t j))) := by
  obtain ⟨-, -, -, -, h0, h1, -⟩ := pt_idx t
  unfold iblk
  refine (congrFun (V_main_arg2 m c) _).trans (congrArg _ ?_)
  funext a
  match a with
  | ⟨0, _⟩ => exact Fin.ext (by show win0_2.index t 0 * 2048 + 1 * q.val = q.val; rw [h0]; omega)
  | ⟨1, _⟩ => exact Fin.ext (by show win0_2.index t 1 * 512 + 1 * j.val = 512 * t.val + j.val; rw [h1]; omega)

/-- The kernel's result at one element. -/
theorem arr_apply (t : Fin cfg0.N) (r : Fin 64) (j : Fin 512) : (dats m 0 c).arrAt 3 cfg0.N (ix2 r (col t j))
    = proj (m ((c : Thread nD τ).loc main_arg0)) (fun k => m ((c : Thread nD τ).loc main_arg1) (ix1 k))
        (m ((c : Thread nD τ).loc main_arg2)) r (wcol (col t j)) := by
  obtain ⟨-, -, -, -, -, -, h0, h1, hf⟩ := pt_idx t
  have hb := congrFun ((blocks3 m c t hf).trans (flushed3 m c t)) (ix2 r j)
  refine (congrArg _ ?_).trans (hb.trans ((congrFun (out_eq (iblk m c 0 t) (iblk m c 1 t) (iblk m c 2 t)) (ix2 r j)).trans ((pay1_apply _ _ _ r j).trans ?_)))
  · funext a
    match a with
    | ⟨0, _⟩ => exact Fin.ext (by show r.val = win0_3.index t 0 * 64 + 1 * r.val; rw [h0]; omega)
    | ⟨1, _⟩ => exact Fin.ext (by show 512 * t.val + j.val = win0_3.index t 1 * 512 + 1 * j.val; rw [h1]; omega)
  · unfold proj
    refine Finset.sum_congr rfl fun q _ => congrArg₂ (fun a b : EReal => a * b) ?_ (w_blk m c t q j)
    exact congrArg₂ (Rms.norm · · q) (funext fun k => x_blk m c t r k) (funext fun k => g_blk m c t k)

/-- Every place of the result is in some tile. -/
theorem place (y : S64x2048.Idx) : ∃ (t : Fin cfg0.N) (r : Fin 64) (j : Fin 512), y = ix2 r (col t j) := by
  have hr : (y 1).val < 2048 := (y 1).isLt
  have ht : (y 1).val / 512 < cfg0.N := by show _ < 4; omega
  refine ⟨⟨(y 1).val / 512, ht⟩, y 0, ⟨(y 1).val % 512, by omega⟩, ?_⟩
  funext a
  match a with
  | ⟨0, _⟩ => rfl
  | ⟨1, _⟩ => exact Fin.ext (by show (y 1).val = 512 * ((y 1).val / 512) + (y 1).val % 512; omega)

/-! ## The reference -/

open Cert.Reference6Ideal.Read in
/-- The normed residual stream at one element. -/
theorem ref_norm (x0 : FVec Ideal S64x2048 .f32) (x1 : FVec Ideal S2048 .f32) (i : Fin 64) (q : Fin 2048) :
    val_main_v12 (F := Ideal) x0 x1 (ix2 i q) = Rms.norm (fun k => x0 (ix2 i k)) (fun k => x1 (ix1 k)) q := by
  rw [val_main_v12_apply, val_main_v9_apply, val_main_v11_apply, val_main_v10_apply, val_main_v8_apply, val_main_v7_apply,
    val_main_v6_apply, val_main_v4_apply, val_main_v5_apply, val_main_v3_apply, val_main_v2_apply, val_main_v1_apply]
  unfold Rms.norm Rms.rstd
  refine congrArg₂ (fun a b : EReal => a * b) (congrArg (HMul.hMul (x0 (ix2 i q) : EReal)) ?_) (congrArg x1 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v0_apply]
  refine congrArg₂ (fun a b : EReal => a * b) ?_ ?_ <;> exact congrArg x0 (by funext a; fin_cases a <;> rfl)

open Cert.Reference6Ideal.Read in
/-- The reference's result at one element. -/
theorem ref_apply (x0 : FVec Ideal S64x2048 .f32) (x1 : FVec Ideal S2048 .f32) (x2 : FVec Ideal S2048x4096 .f32) (i : Fin 64) (j : Fin 2048) :
    val_main_v14 (F := Ideal) x0 x1 x2 (ix2 i j) = proj x0 (fun k => x1 (ix1 k)) x2 i (wcol j) := by
  rw [val_main_v14_apply, val_main_v13_apply]
  refine Finset.sum_congr rfl fun q _ => congrArg₂ (fun a b : EReal => a * b) ((congrArg _ ?_).trans (ref_norm x0 x1 i q)) (congrArg x2 ?_)
  · funext a; fin_cases a <;> rfl
  · funext a; fin_cases a <;> rfl

/-- The kernel's result is the reference's. -/
theorem arr_eq : (dats m 0 c).arrAt 3 cfg0.N = Cert.Reference6Ideal.Read.val_main_v14 (F := Ideal) (m ((c : Thread nD τ).loc main_arg0))
    (m ((c : Thread nD τ).loc main_arg1)) (m ((c : Thread nD τ).loc main_arg2)) := by
  funext y
  obtain ⟨t, r, j, rfl⟩ := place y
  exact (arr_apply m c t r j).trans (ref_apply _ _ _ _ _).symm

end Cert.KeySample
-- ==== Proof.KeySampleClaims.lean ====
/- The claims of the sample batch's key projection. -/
module

public import proofs.«01_k».proof.Defs
public import proofs.«01_k».proof.Proof.KeySample
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run

@[expose] public section

noncomputable section

namespace Cert.KeySample

open Idealize.ShloMosaic Idealize.ShloMosaic.TcCoe Idealize.SL.Sem

/-- The kernel runs and leaves its arguments and semaphores as they were. -/
theorem frame_p : Cert.quiescent_Kernel6 (hKernel6 := Cert.Kernel6.Gen.facts) := fun m ρ _ => Cert.Kernel6.Gen.frame m ρ

/-- So does the kernel over the extended reals. -/
theorem frame_pi : Cert.quiescent_Kernel6Ideal (hKernel6Ideal := Cert.Kernel6Ideal.Gen.facts) := fun m ρ _ => Cert.Kernel6Ideal.Gen.frame m ρ

/-- So does the reference. -/
theorem frame_ri : Cert.quiescent_Reference6Ideal (hReference6Ideal := Cert.Reference6Ideal.Gen.facts) :=
  fun m ρ _ => (θ_run Cert.Reference6Ideal.defs _ _).mono (fun r h => ⟨fun c => (h c).2, sem_eq_zero_of_no_sems (by decide) r.2⟩)
    (Cert.Reference6Ideal.Value.run (F := Ideal) m ρ)

/-- Nothing was rewritten. -/
theorem preserves : Cert.preserves_Kernel6_Kernel6Ideal := trivial

/-- The kernel computes the reference's result. -/
theorem algebraic : Cert.algebraic_Kernel6Ideal_Reference6Ideal (hKernel6Ideal := Cert.Kernel6Ideal.Gen.facts)
    (hReference6Ideal := Cert.Reference6Ideal.Gen.facts) := fun m g m' g' _ hagree => by
  refine ⟨fun c => (Cert.Kernel6Ideal.Gen.dats m 0 c).arrAt 3 Cert.Kernel6Ideal.cfg0.N,
    Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  have hm := hagree c
  rw [Cert.Reference6Ideal.Read.val_main_v14_eq, hm.1, hm.2.1, hm.2.2]
  exact (arr_eq m c).symm

end Cert.KeySample
-- ==== Proof.ValSample.lean ====
/- The sample batch's value projection: the kernel's result, element by element, and its equation with the reference's. -/
module

public import proofs.«01_k».proof.Proof.KeySample
public import proofs.«01_k».proof.Proof.Gen.Kernel9Ideal.Value
public import proofs.«01_k».proof.Proof.Gen.Reference9Ideal.Read

@[expose] public section

noncomputable section

namespace Cert.ValSample

open Cert.Kernel9Ideal Cert.Kernel9Ideal.Gen Cert.Kernel9Ideal.Value Idealize.ShloMosaic Idealize.ShloMosaic.TcCoe Idealize.ShloMosaic.ValueIdx
open NormMm (proj)

/-- What a grid point leaves in its block of the result, at one element: as for the keys. -/
theorem out_apply (x0 : FVec Ideal S64x2048 .f32) (x1 : FVec Ideal S1x2048 .f32) (x2 : FVec Ideal S2048x512 .f32) (r : Fin 64) (j : Fin 512) :
    out0_3 (F := Ideal) x0 x1 x2 (ix2 r j) = proj x0 (fun k => x1 (ix2 0 k)) x2 r j :=
  (congrFun (KeySample.out_eq x0 x1 x2) (ix2 r j)).trans (KeySample.pay1_apply x0 x1 x2 r j)

/-! ## The blocks -/

variable (m : (ℓ : Loc nD τ sig) → Buf (Elt Ideal) ℓ) (c : Dev nD)

/-- Which block of each array a grid point uses. -/
theorem pt_idx : ∀ t : Fin grid0.N, win0_0.index t 0 = 0 ∧ win0_0.index t 1 = 0 ∧ win0_1.index t 0 = 0 ∧ win0_1.index t 1 = 0
    ∧ win0_2.index t 0 = 0 ∧ win0_2.index t 1 = 4 + t.val ∧ win0_3.index t 0 = 0 ∧ win0_3.index t 1 = t.val ∧ win0_3.flush t = true := by
  decide +kernel

/-- Column `j` of tile `t`. -/
def col (t : Fin cfg0.N) (j : Fin 512) : Fin 2048 := ⟨512 * t.val + j.val, by
  have h : t.val < 4 := t.isLt
  have := j.isLt; omega⟩

/-- A column of the result in the whole weight. -/
def wcol (j : Fin 2048) : Fin 4096 := ⟨2048 + j.val, by have := j.isLt; omega⟩

theorem x_blk (t : Fin cfg0.N) (r : Fin 64) (k : Fin 2048) : iblk m c 0 t (ix2 r k) = m ((c : Thread nD τ).loc main_arg0) (ix2 r k) := by
  obtain ⟨h0, h1, -⟩ := pt_idx t
  unfold iblk
  refine (congrFun (V_main_arg0 m c) _).trans (congrArg _ ?_)
  funext a
  match a with
  | ⟨0, _⟩ => exact Fin.ext (by show win0_0.index t 0 * 64 + 1 * r.val = r.val; rw [h0]; omega)
  | ⟨1, _⟩ => exact Fin.ext (by show win0_0.index t 1 * 2048 + 1 * k.val = k.val; rw [h1]; omega)

/-- The gain as a row is the gain. -/
theorem gain_row (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := rfl
  rw [h]
  exact shapeCast_a_1a_apply _ _ _ _

theorem g_blk (t : Fin cfg0.N) (k : Fin 2048) : iblk m c 1 t (ix2 0 k) = m ((c : Thread nD τ).loc main_arg1) (ix1 k) := by
  obtain ⟨-, -, h0, h1, -⟩ := pt_idx t
  refine Eq.trans ?_ (gain_row m c k)
  unfold iblk
  refine congrArg (V m c main_v0) ?_
  funext a
  match a with
  | ⟨0, _⟩ => exact Fin.ext (by show win0_1.index t 0 * 1 + 1 * 0 = 0; rw [h0])
  | ⟨1, _⟩ => exact Fin.ext (by show win0_1.index t 1 * 2048 + 1 * k.val = k.val; rw [h1]; omega)

theorem w_blk (t : Fin cfg0.N) (q : Fin 2048) (j : Fin 512) :
    iblk m c 2 t (ix2 q j) = m ((c : Thread nD τ).loc main_arg2) (ix2 q (wcol (col t j))) := by
  obtain ⟨-, -, -, -, h0, h1, -⟩ := pt_idx t
  unfold iblk
  refine (congrFun (V_main_arg2 m c) _).trans (congrArg _ ?_)
  funext a
  match a with
  | ⟨0, _⟩ => exact Fin.ext (by show win0_2.index t 0 * 2048 + 1 * q.val = q.val; rw [h0]; omega)
  | ⟨1, _⟩ => exact Fin.ext (by show win0_2.index t 1 * 512 + 1 * j.val = 2048 + (512 * t.val + j.val); rw [h1]; omega)

/-- The kernel's result at one element. -/
theorem arr_apply (t : Fin cfg0.N) (r : Fin 64) (j : Fin 512) : (dats m 0 c).arrAt 3 cfg0.N (ix2 r (col t j))
    = proj (m ((c : Thread nD τ).loc main_arg0)) (fun k => m ((c : Thread nD τ).loc main_arg1) (ix1 k))
        (m ((c : Thread nD τ).loc main_arg2)) r (wcol (col t j)) := by
  obtain ⟨-, -, -, -, -, -, h0, h1, hf⟩ := pt_idx t
  have hb := congrFun ((blocks3 m c t hf).trans (flushed3 m c t)) (ix2 r j)
  refine (congrArg _ ?_).trans (hb.trans ((out_apply (iblk m c 0 t) (iblk m c 1 t) (iblk m c 2 t) r j).trans ?_))
  · funext a
    match a with
    | ⟨0, _⟩ => exact Fin.ext (by show r.val = win0_3.index t 0 * 64 + 1 * r.val; rw [h0]; omega)
    | ⟨1, _⟩ => exact Fin.ext (by show 512 * t.val + j.val = win0_3.index t 1 * 512 + 1 * j.val; rw [h1]; omega)
  · unfold proj
    refine Finset.sum_congr rfl fun q _ => congrArg₂ (fun a b : EReal => a * b) ?_ (w_blk m c t q j)
    exact congrArg₂ (Rms.norm · · q) (funext fun k => x_blk m c t r k) (funext fun k => g_blk m c t k)

/-- Every place of the result is in some tile. -/
theorem place (y : S64x2048.Idx) : ∃ (t : Fin cfg0.N) (r : Fin 64) (j : Fin 512), y = ix2 r (col t j) := by
  have hr : (y 1).val < 2048 := (y 1).isLt
  have ht : (y 1).val / 512 < cfg0.N := by show _ < 4; omega
  refine ⟨⟨(y 1).val / 512, ht⟩, y 0, ⟨(y 1).val % 512, by omega⟩, ?_⟩
  funext a
  match a with
  | ⟨0, _⟩ => rfl
  | ⟨1, _⟩ => exact Fin.ext (by show (y 1).val = 512 * ((y 1).val / 512) + (y 1).val % 512; omega)

/-! ## The reference -/

open Cert.Reference9Ideal.Read in
/-- The reference's result at one element. -/
theorem ref_apply (x0 : FVec Ideal S64x2048 .f32) (x1 : FVec Ideal S2048 .f32) (x2 : FVec Ideal S2048x4096 .f32) (i : Fin 64) (j : Fin 2048) :
    val_main_v15 (F := Ideal) x0 x1 x2 (ix2 i j) = proj x0 (fun k => x1 (ix1 k)) x2 i (wcol j) := by
  rw [val_main_v15_apply, val_main_v13_apply]
  refine Finset.sum_congr rfl fun q _ => congrArg₂ (fun a b : EReal => a * b) ((congrArg _ ?_).trans (KeySample.ref_norm x0 x1 i q)) (congrArg x2 ?_)
  · funext a; fin_cases a <;> rfl
  · funext a; fin_cases a <;> rfl

/-- The kernel's result is the reference's. -/
theorem arr_eq : (dats m 0 c).arrAt 3 cfg0.N = Cert.Reference9Ideal.Read.val_main_v15 (F := Ideal) (m ((c : Thread nD τ).loc main_arg0))
    (m ((c : Thread nD τ).loc main_arg1)) (m ((c : Thread nD τ).loc main_arg2)) := by
  funext y
  obtain ⟨t, r, j, rfl⟩ := place y
  exact (arr_apply m c t r j).trans (ref_apply _ _ _ _ _).symm

end Cert.ValSample
-- ==== Proof.ValSampleClaims.lean ====
/- The claims of the sample batch's value projection. -/
module

public import proofs.«01_k».proof.Defs
public import proofs.«01_k».proof.Proof.ValSample
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run

@[expose] public section

noncomputable section

namespace Cert.ValSample

open Idealize.ShloMosaic Idealize.ShloMosaic.TcCoe Idealize.SL.Sem

/-- The kernel runs and leaves its arguments and semaphores as they were. -/
theorem frame_p : Cert.quiescent_Kernel9 (hKernel9 := Cert.Kernel9.Gen.facts) := fun m ρ _ => Cert.Kernel9.Gen.frame m ρ

/-- So does the kernel over the extended reals. -/
theorem frame_pi : Cert.quiescent_Kernel9Ideal (hKernel9Ideal := Cert.Kernel9Ideal.Gen.facts) := fun m ρ _ => Cert.Kernel9Ideal.Gen.frame m ρ

/-- So does the reference. -/
theorem frame_ri : Cert.quiescent_Reference9Ideal (hReference9Ideal := Cert.Reference9Ideal.Gen.facts) :=
  fun m ρ _ => (θ_run Cert.Reference9Ideal.defs _ _).mono (fun r h => ⟨fun c => (h c).2, sem_eq_zero_of_no_sems (by decide) r.2⟩)
    (Cert.Reference9Ideal.Value.run (F := Ideal) m ρ)

/-- Nothing was rewritten. -/
theorem preserves : Cert.preserves_Kernel9_Kernel9Ideal := trivial

/-- The kernel computes the reference's result. -/
theorem algebraic : Cert.algebraic_Kernel9Ideal_Reference9Ideal (hKernel9Ideal := Cert.Kernel9Ideal.Gen.facts)
    (hReference9Ideal := Cert.Reference9Ideal.Gen.facts) := fun m g m' g' _ hagree => by
  refine ⟨fun c => (Cert.Kernel9Ideal.Gen.dats m 0 c).arrAt 3 Cert.Kernel9Ideal.cfg0.N,
    Cert.Kernel9Ideal.Value.run_blocks m g, ?_⟩
  refine (θ_run Cert.Reference9Ideal.defs _ _).mono (fun r h c => ⟨(h c).1.trans ?_, (h c).2⟩) (Cert.Reference9Ideal.Value.run (F := Ideal) m' g')
  have hm := hagree c
  rw [Cert.Reference9Ideal.Read.val_main_v15_eq, hm.1, hm.2.1, hm.2.2]
  exact (arr_eq m c).symm

end Cert.ValSample
-- ==== Proof.ProjRun.lean ====
/- The projection's body, run at each of the four kinds of grid point. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

/-- The resources of the program. -/
abbrev Res (F : FTy → Type) [FloatOps F] : Type := MT nD τ sig Unit (Elt F) ℕ (Pipeline.UD sig nD τ) ℕ

/-- The point is the first of the sixteen that use its weight. -/
abbrev isFirst (i : grid0.Coords) : Prop := k0_cond1 i = 1#1
/-- The point's weight is the first of the four. -/
abbrev isStart (i : grid0.Coords) : Prop := k0_cond2 i = 1#1
/-- There is a weight after the point's. -/
abbrev hasNext (i : grid0.Coords) : Prop := k0_cond3 i = 1#1
theorem isFirst_iff : ∀ t : Fin grid0.N, isFirst (grid0.coords t) ↔ t.val % 16 = 0 := by decide +kernel
theorem isStart_iff : ∀ t : Fin grid0.N, isStart (grid0.coords t) ↔ t.val < 16 := by decide +kernel
theorem hasNext_iff : ∀ t : Fin grid0.N, hasNext (grid0.coords t) ↔ t.val < 48 := by decide +kernel

/-- The weight in use, cast to bf16. -/
abbrev wbM : Memref sig .tc .vmem S2048x2048 .bf16 := Memref.whole cc0_scratch0
/-- The stage, where the copies land. -/
abbrev stM : Memref sig .tc .vmem S2048x2048 .f32 := Memref.whole cc0_scratch1
/-- The four weights in the main memory. -/
abbrev wM : Memref sig .tc .hbm S4x2048x2048 .f32 := Memref.whole main_arg3

theorem src_inb (b : Fin 4) : ∀ a, (![b.val, 0, 0] : Fin 3 → Nat) a + S1x2048x2048.size a ≤ S4x2048x2048.size a := by
  have := b.isLt; intro a; fin_cases a <;> simp <;> omega
/-- The `b`-th weight, as a copy reads it. -/
def src (b : Fin 4) : Memref sig .tc .hbm S2048x2048 .f32 :=
  (wM.slice (Rect.unit (s := S4x2048x2048) ![b.val, 0, 0] S1x2048x2048.size (src_inb b)) (fun _ => rfl)).squeeze S2048x2048 squeezes_S1x2048x2048_S2048x2048
/-- The copies' semaphore. -/
def cellA : DmaSems sig S_ := (cc0_scratch2.slice (Rect.unit (s := S1) ![0] S1.size inb_S1_S1_0)).squeeze S_ squeezes_S1_S_
abbrev cell : SemLoc sig := SemLoc.dma cellA.sem
theorem cell_eq : cell = SemLoc.dma 7 := by decide
@[sl_canon] theorem cell_canon : (cc0_scratch2.slice (Rect.unit (s := S1) ![0] S1.size inb_S1_S1_0)).squeeze S_ squeezes_S1_S_ = cellA := rfl

/-- The weight numbered `k`. -/
abbrev bk (k : ℕ) : Fin 4 := Ring.bk 4 k

/-- Which weight each of the body's three slices is. -/
theorem off1_eq : ∀ t : Fin grid0.N, isFirst (grid0.coords t) → isStart (grid0.coords t) → k0_off1 (grid0.coords t) = ![(bk (t.val / 16)).val, 0, 0] := by decide +kernel
@[sl_canon] theorem src1_canon (t : Fin grid0.N) (h0 : isFirst (grid0.coords t)) (h1 : isStart (grid0.coords t)) :
    (wM.slice (Rect.unit (s := S4x2048x2048) (k0_off1 (grid0.coords t)) S1x2048x2048.size (k0_off1_inb (grid0.coords t) h0 h1)) (fun _ => rfl)).squeeze S2048x2048 squeezes_S1x2048x2048_S2048x2048 = src (bk (t.val / 16)) :=
  congrArg (fun M : Memref sig .tc .hbm S1x2048x2048 .f32 => M.squeeze S2048x2048 squeezes_S1x2048x2048_S2048x2048) (Memref.slice_unit_congr _ (off1_eq t h0 h1) _ _ (fun _ => rfl) (fun _ => rfl))
theorem off2_eq : ∀ t : Fin grid0.N, isFirst (grid0.coords t) → k0_off2 (grid0.coords t) = ![(bk (t.val / 16)).val, 0, 0] := by decide +kernel
@[sl_canon] theorem src2_canon (t : Fin grid0.N) (h0 : isFirst (grid0.coords t)) :
    (wM.slice (Rect.unit (s := S4x2048x2048) (k0_off2 (grid0.coords t)) S1x2048x2048.size (k0_off2_inb (grid0.coords t) h0)) (fun _ => rfl)).squeeze S2048x2048 squeezes_S1x2048x2048_S2048x2048 = src (bk (t.val / 16)) :=
  congrArg (fun M : Memref sig .tc .hbm S1x2048x2048 .f32 => M.squeeze S2048x2048 squeezes_S1x2048x2048_S2048x2048) (Memref.slice_unit_congr _ (off2_eq t h0) _ _ (fun _ => rfl) (fun _ => rfl))
theorem off3_eq : ∀ t : Fin grid0.N, isFirst (grid0.coords t) → hasNext (grid0.coords t) → k0_off3 (grid0.coords t) = ![(bk (t.val / 16 + 1)).val, 0, 0] := by decide +kernel
@[sl_canon] theorem src3_canon (t : Fin grid0.N) (h0 : isFirst (grid0.coords t)) (h2 : hasNext (grid0.coords t)) :
    (wM.slice (Rect.unit (s := S4x2048x2048) (k0_off3 (grid0.coords t)) S1x2048x2048.size (k0_off3_inb (grid0.coords t) h0 h2)) (fun _ => rfl)).squeeze S2048x2048 squeezes_S1x2048x2048_S2048x2048 = src (bk (t.val / 16 + 1)) :=
  congrArg (fun M : Memref sig .tc .hbm S1x2048x2048 .f32 => M.squeeze S2048x2048 squeezes_S1x2048x2048_S2048x2048) (Memref.slice_unit_congr _ (off3_eq t h0 h2) _ _ (fun _ => rfl) (fun _ => rfl))

/-- Contents of the operand's buffer. -/
abbrev OpBuf (F : FTy → Type) [FloatOps F] (c : Dev nD) : Type := Buf (Elt F) (wM.view.loc (c : Thread nD τ))
/-- Contents of the stage. -/
abbrev StBuf (F : FTy → Type) [FloatOps F] (c : Dev nD) : Type := Buf (Elt F) (stM.view.loc (c : Thread nD τ))

section Pieces
variable (c : Dev nD) (w : OpBuf F c)

/-- The half of the share on the weights that the `k`-th copy reads with. -/
abbrev half (k : ℕ) : PosShare TreeShare := if k % 2 = 0 then fullShare.left else fullShare.right
/-- The stage, at hand. -/
abbrev stP (f : StBuf F c) : sProp (Res F) := stM.view.loc (c : Thread nD τ) ↦[stM.view.set]{fullShare} f
/-- The semaphore, at zero. -/
abbrev cellP : sProp (Res F) := semVal ((c : Thread nD τ), cell) 0
/-- A share of the `b`-th weight. -/
abbrev srcP (q : PosShare TreeShare) (b : Fin 4) : sProp (Res F) := (src b).view.loc (c : Thread nD τ) ↦[(src b).view.set]{q} w
/-- The same share of the other three weights. -/
def restP (q : PosShare TreeShare) (b : Fin 4) : sProp (Res F) := ((c : Thread nD τ).loc main_arg3) ↦[Finset.univ \ (src b).view.set]{q} w
/-- A share of all four weights. -/
abbrev opP (q : PosShare TreeShare) : sProp (Res F) := ((c : Thread nD τ).loc main_arg3) ↦[Finset.univ]{q} w
/-- The stage once the `b`-th weight has landed. -/
abbrev landed (b : Fin 4) (f : StBuf F c) : StBuf F c :=
  stM.view.writes (Elt F) f [⟨Rect.whole S2048x2048, ReadAs.same.apply ((src b).view.read (Elt F) w)⟩]
/-- The copy of the `b`-th weight, under way. -/
abbrev flightP (q : PosShare TreeShare) (b : Fin 4) (f : StBuf F c) : sProp (Res F) :=
  Transfers.Flight countersEmb (c : Thread nD τ) cell default (stM.view.amount cell)
    iprop(stP c (landed c w b f) ∗ srcP c w q b)
/-- A share of the weights is a share of one and of the others. -/
theorem op_split (q : PosShare TreeShare) (b : Fin 4) : opP c w q ⊣⊢ iprop(srcP c w q b ∗ restP c w q b) := by
  unfold restP; exact pointsTo_split_subset (Finset.subset_univ _)
end Pieces

/-- The weight block `b`, as the copy reads it. -/
abbrev blkOf (c : Dev nD) (w : OpBuf F c) (b : Fin 4) : Vec F S2048x2048 .f32 := (src b).view.read (Elt F) w
/-- The weight block `b` as it is kept. -/
abbrev wbOf (c : Dev nD) (w : OpBuf F c) (b : Fin 4) : Vec F S2048x2048 .bf16 := k0_pay1 (blkOf c w b)
/-- The tile a point writes. -/
def tile (i : grid0.Coords) (x0 x1 : Vec F S512x2048 .f32) (x2 : Vec F S6x2048 .f32) (wb : Vec F S2048x2048 .bf16) : Vec F S1x512x2048 .f32 :=
  k0_pay2 wb x0 x1 (View.ld x2 (Rect.unit (k0_off4 i) S1x2048.size (k0_off4_inb i)))

section Reads
variable {κ : Kind} {sp : Space} {S : Shape} {e : EltTy}
/-- A load of all of a whole buffer. -/
theorem load_all {M : Memref sig κ sp S e} (hM : M.IsWhole) (X : Vec F S e) {off : Fin S.rank → ℕ} (inb : ∀ a, off a + S.size a ≤ S.size a) :
    View.readAt (Elt F) M.view (Rect.unit off S.size inb).toLoadRect (hM.unread X) = X :=
  (View.readAt_full _ _ _).trans (hM.read_unread X)
end Reads

/-- What is read back of the result's block after the body's store. -/
theorem tile_eq (i : grid0.Coords) {arg2 : Memref sig .tc .vmem S512x2048 .f32} (harg2 : arg2.IsWhole) {arg3 : Memref sig .tc .vmem S512x2048 .f32} (harg3 : arg3.IsWhole)
    {arg4 : Memref sig .tc .vmem S6x2048 .f32} (harg4 : arg4.IsWhole) (arg6 : Memref sig .tc .vmem S1x512x2048 .f32)
    (f : arg6.view.ty.Contents (Elt F)) (x0 x1 : Vec F S512x2048 .f32) (x2 : Vec F S6x2048 .f32) (wb wb' : Vec F S2048x2048 .bf16) (hwb : wb = wb') :
    View.read (Elt F) arg6.view (arg6.view.writes (Elt F) f
      [⟨Rect.unit ![0, 0, 0] S1x512x2048.size inb_S1x512x2048_S1x512x2048_0_0_0,
          k0_pay2 wb
            (View.readAt (Elt F) arg2.view (Rect.unit ![0, 0] S512x2048.size inb_S512x2048_S512x2048_0_0).toLoadRect (harg2.unread x0))
            (View.readAt (Elt F) arg3.view (Rect.unit ![0, 0] S512x2048.size inb_S512x2048_S512x2048_0_0).toLoadRect (harg3.unread x1))
            (View.readAt (Elt F) arg4.view (Rect.unit (s := S6x2048) (k0_off4 i) S1x2048.size (k0_off4_inb i)).toLoadRect (harg4.unread x2))⟩])
      = tile i x0 x1 x2 wb' := by
  refine (View.read_writes_full _ _ _ _ _).trans ?_
  rw [load_all harg2, load_all harg3, View.readAt_eq_ld, harg4.read_unread, hwb]
  rfl

/-- What is kept of the block that landed. -/
theorem kept_now (c : Dev nD) (w : OpBuf F c) (b : Fin 4) (f4 : wbM.view.ty.Contents (Elt F)) (v : Vec F S2048x2048 .f32)
    (hv : v = stM.view.readCov [⟨Rect.whole S2048x2048, ReadAs.same.apply (blkOf c w b)⟩] (Rect.unit ![0, 0] S2048x2048.size inb_S2048x2048_S2048x2048_0_0).toLoadRect) :
    wbM.view.read (Elt F) (wbM.view.writes (Elt F) f4 [⟨Rect.unit ![0, 0] S2048x2048.size inb_S2048x2048_S2048x2048_0_0, k0_pay1 v⟩]) = wbOf c w b := by
  refine (View.read_writes_full _ _ _ _ _).trans (congrArg _ (hv.trans ?_))
  exact (View.readAt_full _ _ _).trans (View.read_writes_whole _ _ _)
/-- And what is read back of it. -/
theorem kept_back (c : Dev nD) (w : OpBuf F c) (b : Fin 4) (v : Vec F S2048x2048 .f32)
    (hv : v = stM.view.readCov [⟨Rect.whole S2048x2048, ReadAs.same.apply (blkOf c w b)⟩] (Rect.unit ![0, 0] S2048x2048.size inb_S2048x2048_S2048x2048_0_0).toLoadRect) :
    wbM.view.readCov [⟨Rect.unit ![0, 0] S2048x2048.size inb_S2048x2048_S2048x2048_0_0, k0_pay1 v⟩] (Rect.unit ![0, 0] S2048x2048.size inb_S2048x2048_S2048x2048_0_0).toLoadRect = wbOf c w b :=
  (View.readAt_full _ _ _).trans (kept_now c w b _ v hv)

/-- A transfer under way into a stage that still holds an earlier block. -/
theorem flight_next (c : Dev nD) (w : OpBuf F c) (q : PosShare TreeShare) (b : Fin 4) (f : StBuf F c) (p : View.Piece (Elt F) S2048x2048 .f32) :
    Transfers.Flight countersEmb (c : Thread nD τ) (SemLoc.dma 7 : SemLoc sig) default 524288
        iprop((stM.view.loc (c : Thread nD τ) ↦[stM.view.set]{fullShare} stM.view.writes (Elt F) f [⟨Rect.whole S2048x2048, ReadAs.same.apply (blkOf c w b)⟩, p]) ∗ srcP c w q b)
      ⊢ (flightP c w q b (stM.view.writes (Elt F) f [p]) : sProp (Res F)) := by
  have ha : stM.view.amount (SemLoc.dma 7) = 524288 := by decide
  have hw : stM.view.writes (Elt F) f [⟨Rect.whole S2048x2048, ReadAs.same.apply (blkOf c w b)⟩, p]
      = stM.view.writes (Elt F) (stM.view.writes (Elt F) f [p]) [⟨Rect.whole S2048x2048, ReadAs.same.apply (blkOf c w b)⟩] := rfl
  rw [hw]
  unfold flightP
  rw [cell_eq, ha]

set_option maxHeartbeats 1000000 in
/-- A point in the middle of its weight: it uses the weight that is kept. -/
theorem runB (c : Dev nD) (t : Fin cfg0.N) (arg2 : Memref sig .tc .vmem S512x2048 .f32) (harg2 : arg2.IsWhole) (arg3 : Memref sig .tc .vmem S512x2048 .f32) (harg3 : arg3.IsWhole)
    (arg4 : Memref sig .tc .vmem S6x2048 .f32) (harg4 : arg4.IsWhole) (arg6 : Memref sig .tc .vmem S1x512x2048 .f32) (harg6 : arg6.IsWhole)
    (hc0 : ¬isFirst (grid0.coords t)) (wb : Vec F S2048x2048 .bf16)
    (x0 x1 : Vec F S512x2048 .f32) (x2 : Vec F S6x2048 .f32) (w : OpBuf F c) (q q' : PosShare TreeShare) (W : Waits sig Unit) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg6 fullShare d)
        ∗ owns (c : Thread nD τ) wbM fullShare wb ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg6 fullShare (tile (grid0.coords t) x0 x1 x2 wb)
            ∗ owns (c : Thread nD τ) wbM fullShare wb ∗ (∃ W', owes (c : Thread nD τ) 0 W')) -∗ K ⟨⟩))
      ⊢ wp frame (wpE (defs₀ (F := F)) Variants.none c none) Set.univ (cc0_proj (grid0.coords t) arg2 harg2 arg3 harg3 arg4 harg4 (Memref.whole main_arg3) (Memref.isWhole_whole _) arg6 harg6 wbM (Memref.isWhole_whole _) stM (Memref.isWhole_whole _) cc0_scratch2) K := by
  haveI : Fact (¬isFirst (grid0.coords t)) := ⟨hc0⟩
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%f4, %hf4, H4⟩, HW, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact tile_eq (grid0.coords t) harg2 harg3 harg4 arg6 f3 x0 x1 x2 _ _ ((View.readAt_full _ _ _).trans hf4)
  isplitl [H4]
  · iexists _; isplitr
    swap; · iexact H4
    ipureintro; exact hf4
  iexists _; iexact HW

set_option maxHeartbeats 1000000 in
/-- The first point of a middle weight: the copy under way is awaited and kept, the next one started. -/
theorem runC (c : Dev nD) (t : Fin cfg0.N) (arg2 : Memref sig .tc .vmem S512x2048 .f32) (harg2 : arg2.IsWhole) (arg3 : Memref sig .tc .vmem S512x2048 .f32) (harg3 : arg3.IsWhole)
    (arg4 : Memref sig .tc .vmem S6x2048 .f32) (harg4 : arg4.IsWhole) (arg6 : Memref sig .tc .vmem S1x512x2048 .f32) (harg6 : arg6.IsWhole)
    (hc0 : isFirst (grid0.coords t)) (hc1 : ¬isStart (grid0.coords t)) (hc2 : hasNext (grid0.coords t))
    (x0 x1 : Vec F S512x2048 .f32) (x2 : Vec F S6x2048 .f32) (w : OpBuf F c) (q q' : PosShare TreeShare) (W : Waits sig Unit) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg6 fullShare d)
        ∗ (∃ d, owns (c : Thread nD τ) wbM fullShare d) ∗ (∃ f, flightP c w q (bk (t.val / 16)) f) ∗ srcP c w q' (bk (t.val / 16 + 1)) ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg6 fullShare (tile (grid0.coords t) x0 x1 x2 (wbOf c w (bk (t.val / 16))))
            ∗ owns (c : Thread nD τ) wbM fullShare (wbOf c w (bk (t.val / 16))) ∗ srcP c w q (bk (t.val / 16)) ∗ (∃ f, flightP c w q' (bk (t.val / 16 + 1)) f) ∗ (∃ W', owes (c : Thread nD τ) 0 W')) -∗ K ⟨⟩))
      ⊢ wp frame (wpE (defs₀ (F := F)) Variants.none c none) Set.univ (cc0_proj (grid0.coords t) arg2 harg2 arg3 harg3 arg4 harg4 (Memref.whole main_arg3) (Memref.isWhole_whole _) arg6 harg6 wbM (Memref.isWhole_whole _) stM (Memref.isWhole_whole _) cc0_scratch2) K := by
  haveI : Fact (isFirst (grid0.coords t)) := ⟨hc0⟩
  haveI : Fact (¬isStart (grid0.coords t)) := ⟨hc1⟩
  haveI : Fact (hasNext (grid0.coords t)) := ⟨hc2⟩
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, ⟨%f, Hfl⟩, Hs, HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine tile_eq (grid0.coords t) harg2 harg3 harg4 arg6 f3 x0 x1 x2 _ _ ?_
    exact kept_back c w (bk (t.val / 16)) _ rfl
  isplitl [H4]
  · iexists _; isplitr
    swap; · iexact H4
    ipureintro
    exact kept_now c w (bk (t.val / 16)) _ _ rfl
  isplitl [Hfl_src]; · iexact Hfl_src
  isplitl [Hfl]
  · iexists (landed c w (bk (t.val / 16)) f)
    iapply (flight_next c w q' (bk (t.val / 16 + 1)) f ⟨Rect.whole S2048x2048, ReadAs.same.apply (blkOf c w (bk (t.val / 16)))⟩)
    iexact Hfl
  iexists _; iexact HW

set_option maxHeartbeats 1000000 in
/-- The first point of the last weight: the copy under way is awaited and kept. -/
theorem runD (c : Dev nD) (t : Fin cfg0.N) (arg2 : Memref sig .tc .vmem S512x2048 .f32) (harg2 : arg2.IsWhole) (arg3 : Memref sig .tc .vmem S512x2048 .f32) (harg3 : arg3.IsWhole)
    (arg4 : Memref sig .tc .vmem S6x2048 .f32) (harg4 : arg4.IsWhole) (arg6 : Memref sig .tc .vmem S1x512x2048 .f32) (harg6 : arg6.IsWhole)
    (hc0 : isFirst (grid0.coords t)) (hc1 : ¬isStart (grid0.coords t)) (hc2 : ¬hasNext (grid0.coords t))
    (x0 x1 : Vec F S512x2048 .f32) (x2 : Vec F S6x2048 .f32) (w : OpBuf F c) (q q' : PosShare TreeShare) (W : Waits sig Unit) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg6 fullShare d)
        ∗ (∃ d, owns (c : Thread nD τ) wbM fullShare d) ∗ (∃ f, flightP c w q (bk (t.val / 16)) f) ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg6 fullShare (tile (grid0.coords t) x0 x1 x2 (wbOf c w (bk (t.val / 16))))
            ∗ owns (c : Thread nD τ) wbM fullShare (wbOf c w (bk (t.val / 16))) ∗ srcP c w q (bk (t.val / 16)) ∗ (∃ f, stP c f) ∗ cellP c ∗ (∃ W', owes (c : Thread nD τ) 0 W')) -∗ K ⟨⟩))
      ⊢ wp frame (wpE (defs₀ (F := F)) Variants.none c none) Set.univ (cc0_proj (grid0.coords t) arg2 harg2 arg3 harg3 arg4 harg4 (Memref.whole main_arg3) (Memref.isWhole_whole _) arg6 harg6 wbM (Memref.isWhole_whole _) stM (Memref.isWhole_whole _) cc0_scratch2) K := by
  haveI : Fact (isFirst (grid0.coords t)) := ⟨hc0⟩
  haveI : Fact (¬isStart (grid0.coords t)) := ⟨hc1⟩
  haveI : Fact (¬hasNext (grid0.coords t)) := ⟨hc2⟩
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, ⟨%f, Hfl⟩, HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine tile_eq (grid0.coords t) harg2 harg3 harg4 arg6 f3 x0 x1 x2 _ _ ?_
    exact kept_back c w (bk (t.val / 16)) _ rfl
  isplitl [H4]
  · iexists _; isplitr
    swap; · iexact H4
    ipureintro
    exact kept_now c w (bk (t.val / 16)) _ _ rfl
  isplitl [Hfl_src]; · iexact Hfl_src
  isplitl [Hfl_dst]; · iexists _; iexact Hfl_dst
  isplitl [Hfl]; · iexact Hfl
  iexists _; iexact HW

set_option maxHeartbeats 1000000 in
/-- The very first point: it starts the first copy, awaits and keeps it, and starts the second. -/
theorem runA (c : Dev nD) (t : Fin cfg0.N) (arg2 : Memref sig .tc .vmem S512x2048 .f32) (harg2 : arg2.IsWhole) (arg3 : Memref sig .tc .vmem S512x2048 .f32) (harg3 : arg3.IsWhole)
    (arg4 : Memref sig .tc .vmem S6x2048 .f32) (harg4 : arg4.IsWhole) (arg6 : Memref sig .tc .vmem S1x512x2048 .f32) (harg6 : arg6.IsWhole)
    (hc0 : isFirst (grid0.coords t)) (hc1 : isStart (grid0.coords t)) (hc2 : hasNext (grid0.coords t))
    (x0 x1 : Vec F S512x2048 .f32) (x2 : Vec F S6x2048 .f32) (w : OpBuf F c) (q q' : PosShare TreeShare) (W : Waits sig Unit) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg6 fullShare d)
        ∗ (∃ d, owns (c : Thread nD τ) wbM fullShare d) ∗ (∃ f, stP c f) ∗ cellP c ∗ srcP c w q (bk (t.val / 16)) ∗ srcP c w q' (bk (t.val / 16 + 1)) ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg6 fullShare (tile (grid0.coords t) x0 x1 x2 (wbOf c w (bk (t.val / 16))))
            ∗ owns (c : Thread nD τ) wbM fullShare (wbOf c w (bk (t.val / 16))) ∗ srcP c w q (bk (t.val / 16)) ∗ (∃ f, flightP c w q' (bk (t.val / 16 + 1)) f) ∗ (∃ W', owes (c : Thread nD τ) 0 W')) -∗ K ⟨⟩))
      ⊢ wp frame (wpE (defs₀ (F := F)) Variants.none c none) Set.univ (cc0_proj (grid0.coords t) arg2 harg2 arg3 harg3 arg4 harg4 (Memref.whole main_arg3) (Memref.isWhole_whole _) arg6 harg6 wbM (Memref.isWhole_whole _) stM (Memref.isWhole_whole _) cc0_scratch2) K := by
  haveI : Fact (isFirst (grid0.coords t)) := ⟨hc0⟩
  haveI : Fact (isStart (grid0.coords t)) := ⟨hc1⟩
  haveI : Fact (hasNext (grid0.coords t)) := ⟨hc2⟩
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, ⟨%f, Hst⟩, Hc, Hs, Hs', HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine tile_eq (grid0.coords t) harg2 harg3 harg4 arg6 f3 x0 x1 x2 _ _ ?_
    exact kept_back c w (bk (t.val / 16)) _ rfl
  isplitl [H4]
  · iexists _; isplitr
    swap; · iexact H4
    ipureintro
    exact kept_now c w (bk (t.val / 16)) _ _ rfl
  isplitl [Hs]; · iexact Hs
  isplitl [Hc]
  · iexists (landed c w (bk (t.val / 16)) f)
    iapply (flight_next c w q' (bk (t.val / 16 + 1)) f ⟨Rect.whole S2048x2048, ReadAs.same.apply (blkOf c w (bk (t.val / 16)))⟩)
    iexact Hc
  iexists _; iexact HW

end Cert.Kernel3Ideal.Proj

end
-- ==== Proof.ProjFrame.lean ====
module

public import proofs.«01_k».proof.Proof.ProjRun

/-! The projection's pipeline, point by point: what each core holds before a point, that the body keeps it, and the run of the whole program that follows. -/

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]
variable (m : (ℓ : Loc nD τ sig) → Buf (Elt F) ℓ) (ρ : Dev nD → PrngReg)

/-! ## The weights on the move -/

/-- Nothing under way: the stage is free, the cell is at zero and both halves of the weights are at hand. -/
def calm (c : Dev nD) (w : OpBuf F c) (s : ℕ) : sProp (Res F) :=
  iprop((∃ f, stP c f) ∗ cellP c ∗ opP c w (half s) ∗ opP c w (half (s + 1)))
/-- Block `s` under way: it is read from one half of the weights, whose rest is at hand with the other half. -/
def moving (c : Dev nD) (w : OpBuf F c) (s : ℕ) : sProp (Res F) :=
  iprop((∃ f, flightP c w (half s) (bk s) f) ∗ restP c w (half s) (bk s) ∗ opP c w (half (s + 1)))
/-- The weights after `s` of the four blocks have been taken in. -/
def ring (c : Dev nD) (w : OpBuf F c) (s : ℕ) : sProp (Res F) :=
  if s = 0 ∨ s = 4 then calm c w s else moving c w s

theorem half_add_two (k : ℕ) : half (k + 2) = half k := by unfold half; rw [Nat.add_mod_right]

/-- The parts of the two halves that no copy reads while block `p` is taken in. -/
def rests (c : Dev nD) (w : OpBuf F c) (p : ℕ) : sProp (Res F) :=
  iprop(restP c w (half p) (bk p) ∗ restP c w (half (p + 1)) (bk (p + 1)))

theorem ring_first (c : Dev nD) (w : OpBuf F c) :
    ring c w 0 ⊢ iprop((∃ f, stP c f) ∗ cellP c ∗ srcP c w (half 0) (bk 0) ∗ srcP c w (half (0 + 1)) (bk (0 + 1)) ∗ rests c w 0) := by
  unfold ring; rw [if_pos (Or.inl rfl)]; unfold calm rests
  iintro ⟨Hs, Hc, Ha, Hb⟩
  ihave Ha := (op_split c w (half 0) (bk 0)).1 $$ Ha
  ihave Hb := (op_split c w (half (0 + 1)) (bk (0 + 1))).1 $$ Hb
  icases Ha with ⟨Ha, Ha'⟩
  icases Hb with ⟨Hb, Hb'⟩
  isplitl [Hs]; · iexact Hs
  isplitl [Hc]; · iexact Hc
  isplitl [Ha]; · iexact Ha
  isplitl [Hb]; · iexact Hb
  isplitl [Ha']; · iexact Ha'
  iexact Hb'

theorem ring_open (c : Dev nD) (w : OpBuf F c) (p : ℕ) (h0 : 0 < p) (h4 : p < 4) :
    ring c w p ⊢ iprop((∃ f, flightP c w (half p) (bk p) f) ∗ srcP c w (half (p + 1)) (bk (p + 1)) ∗ rests c w p) := by
  unfold ring; rw [if_neg (by omega)]; unfold moving rests
  iintro ⟨Hf, Ha', Hb⟩
  ihave Hb := (op_split c w (half (p + 1)) (bk (p + 1))).1 $$ Hb
  icases Hb with ⟨Hb, Hb'⟩
  isplitl [Hf]; · iexact Hf
  isplitl [Hb]; · iexact Hb
  isplitl [Ha']; · iexact Ha'
  iexact Hb'

theorem ring_close (c : Dev nD) (w : OpBuf F c) (p : ℕ) (h4 : p + 1 < 4) :
    iprop(srcP c w (half p) (bk p) ∗ (∃ f, flightP c w (half (p + 1)) (bk (p + 1)) f) ∗ rests c w p) ⊢ ring c w (p + 1) := by
  unfold ring; rw [if_neg (by omega)]; unfold moving rests
  rw [show p + 1 + 1 = p + 2 from rfl, half_add_two]
  iintro ⟨Ha, Hf, Ha', Hb'⟩
  isplitl [Hf]; · iexact Hf
  isplitl [Hb']; · iexact Hb'
  iapply (op_split c w (half p) (bk p)).2
  isplitl [Ha]; · iexact Ha
  iexact Ha'

theorem ring_last (c : Dev nD) (w : OpBuf F c) :
    ring c w 3 ⊢ iprop((∃ f, flightP c w (half 3) (bk 3) f) ∗ restP c w (half 3) (bk 3) ∗ opP c w (half (3 + 1))) := by
  unfold ring; rw [if_neg (by omega)]; exact .rfl

theorem ring_done (c : Dev nD) (w : OpBuf F c) :
    iprop(srcP c w (half 3) (bk 3) ∗ (∃ f, stP c f) ∗ cellP c ∗ restP c w (half 3) (bk 3) ∗ opP c w (half (3 + 1))) ⊢ ring c w (3 + 1) := by
  unfold ring; rw [if_pos (Or.inr rfl)]; unfold calm
  rw [show 3 + 1 + 1 = 3 + 2 from rfl, half_add_two]
  iintro ⟨Ha, Hs, Hc, Ha', Hb⟩
  isplitl [Hs]; · iexact Hs
  isplitl [Hc]; · iexact Hc
  isplitl [Hb]; · iexact Hb
  iapply (op_split c w (half 3) (bk 3)).2
  isplitl [Ha]; · iexact Ha
  iexact Ha'

/-! ## What a core holds before a point -/

/-- The kept block before point `k`: anything at first, then the block of the last group of points. -/
def kept (c : Dev nD) (w : OpBuf F c) (k : ℕ) : sProp (Res F) :=
  if k = 0 then iprop(∃ d, owns (c : Thread nD τ) wbM fullShare d) else owns (c : Thread nD τ) wbM fullShare (wbOf c w (bk ((k - 1) / 16)))

/-- All a core holds before point `k` besides the windows. -/
def holds (c : Dev nD) (k : ℕ) : sProp (Res F) :=
  iprop((∃ r, prngReg c r) ∗ kept c (V m c main_arg3) k ∗ ring c (V m c main_arg3) ((k + 15) / 16))

theorem kept_some (c : Dev nD) (w : OpBuf F c) (k : ℕ) : kept c w k ⊢ (iprop(∃ d, owns (c : Thread nD τ) wbM fullShare d) : sProp (Res F)) := by
  unfold kept
  by_cases h : k = 0
  · rw [if_pos h]
  · rw [if_neg h]; iintro H; iexists _; iexact H

theorem kept_succ (c : Dev nD) (w : OpBuf F c) (k : ℕ) : (kept c w (k + 1) : sProp (Res F)) = owns (c : Thread nD τ) wbM fullShare (wbOf c w (bk (k / 16))) := by
  unfold kept; rw [if_neg (by omega), Nat.add_sub_cancel]
theorem kept_mid (c : Dev nD) (w : OpBuf F c) (k : ℕ) (h : ¬k % 16 = 0) : (kept c w k : sProp (Res F)) = owns (c : Thread nD τ) wbM fullShare (wbOf c w (bk (k / 16))) := by
  unfold kept; rw [if_neg (by omega), show (k - 1) / 16 = k / 16 by omega]

/-- The tile written at point `t`. -/
def outAt (c : Dev nD) (t : Fin cfg0.N) : Vec F S1x512x2048 .f32 :=
  tile (grid0.coords t) (iblk m c 0 t) (iblk m c 1 t) (iblk m c 2 t) (wbOf c (V m c main_arg3) (bk (t.val / 16)))

/-- The pipeline's data on one core. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := holds m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem holds_before (c : Dev nD) (t : Fin cfg0.N) : (dats m 0 c).Φ t.castSucc = holds m c t.val := by
  dsimp only [dats]; rw [Fin.val_castSucc]
theorem holds_after (c : Dev nD) (t : Fin cfg0.N) : (dats m 0 c).Φ t.succ = holds m c (t.val + 1) := by
  dsimp only [dats]; rw [Fin.val_succ]

/-- An input window finds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-! ## The body keeps it -/

abbrev st0 (t : Fin cfg0.N) : Memref sig .tc .vmem S512x2048 .f32 := win0_0.stage (cfg0.slots t 0)
abbrev st1 (t : Fin cfg0.N) : Memref sig .tc .vmem S512x2048 .f32 := win0_1.stage (cfg0.slots t 1)
abbrev st2 (t : Fin cfg0.N) : Memref sig .tc .vmem S6x2048 .f32 := win0_2.stage (cfg0.slots t 2)
abbrev st3 (t : Fin cfg0.N) : Memref sig .tc .vmem S1x512x2048 .f32 := win0_3.stage (cfg0.slots t 3)

/-- The inputs' stages at their blocks. -/
def ins (c : Dev nD) (t : Fin cfg0.N) : sProp (Res F) :=
  iprop(owns (c : Thread nD τ) (st0 t) fullShare (iblk m c 0 t) ∗ owns (c : Thread nD τ) (st1 t) fullShare (iblk m c 1 t) ∗ owns (c : Thread nD τ) (st2 t) fullShare (iblk m c 2 t))
/-- Before the body, -/
def pre (c : Dev nD) (t : Fin cfg0.N) : sProp (Res F) :=
  iprop(ins m c t ∗ (∃ d, owns (c : Thread nD τ) (st3 t) fullShare d) ∗ holds m c t.val ∗ (∃ W, owes (c : Thread nD τ) 0 W))
/-- and after it. -/
def post (c : Dev nD) (t : Fin cfg0.N) : sProp (Res F) :=
  iprop(ins m c t ∗ owns (c : Thread nD τ) (st3 t) fullShare (outAt m c t) ∗ holds m c (t.val + 1) ∗ (∃ W, owes (c : Thread nD τ) 0 W))

abbrev Runs (c : Dev nD) (t : Fin cfg0.N) : Prop :=
  pre m c t ⊢ wp frame (wpE (defs₀ (F := F)) Variants.none c none) Set.univ (bodyAt0 t) (fun _ => post m c t)

/-- A point that takes in no block. -/
theorem body_mid (c : Dev nD) (t : Fin cfg0.N) (h0 : ¬t.val % 16 = 0) : Runs m c t := by
  unfold Runs pre post ins holds
  rw [kept_succ, kept_mid c _ _ h0, show (t.val + 1 + 15) / 16 = (t.val + 15) / 16 by omega]
  iintro ⟨⟨H0, H1, H2⟩, H3, ⟨Hg, H4, Hr⟩, ⟨%W, HW⟩⟩
  unfold bodyAt0
  iapply (runB c t (st0 t) _ (st1 t) _ (st2 t) _ (st3 t) _ (fun h => h0 ((isFirst_iff t).mp h)) (wbOf c (V m c main_arg3) (bk (t.val / 16)))
    (iblk m c 0 t) (iblk m c 1 t) (iblk m c 2 t) (V m c main_arg3) fullShare fullShare W _)
  isplitl [H0]; · iexact H0
  isplitl [H1]; · iexact H1
  isplitl [H2]; · iexact H2
  isplitl [H3]; · iexact H3
  isplitl [H4]; · iexact H4
  isplitl [HW]; · iexact HW
  iintro ⟨H0, H1, H2, H3, H4, HW⟩
  isplitl [H0 H1 H2]
  · isplitl [H0]; · iexact H0
    isplitl [H1]; · iexact H1
    iexact H2
  isplitl [H3]; · iexact H3
  isplitl [Hg H4 Hr]
  · isplitl [Hg]; · iexact Hg
    isplitl [H4]; · iexact H4
    iexact Hr
  iexact HW

/-- The first point: block 0 is copied in and waited for at once. -/
theorem body_start (c : Dev nD) (t : Fin cfg0.N) (ht : t.val = 0) : Runs m c t := by
  have hc0 : isFirst (grid0.coords t) := (isFirst_iff t).mpr (by omega)
  have hc1 : isStart (grid0.coords t) := (isStart_iff t).mpr (by omega)
  have hc2 : hasNext (grid0.coords t) := (hasNext_iff t).mpr (by omega)
  have hp : t.val / 16 = 0 := by omega
  have run := fun W K => runA c t (st0 t) (hstage0_0 ((cfg0.slots t 0).cast nbuf0_0)) (st1 t) (hstage0_1 ((cfg0.slots t 1).cast nbuf0_1)) (st2 t) (hstage0_2 ((cfg0.slots t 2).cast nbuf0_2))
    (st3 t) (hstage0_3 ((cfg0.slots t 3).cast nbuf0_3)) hc0 hc1 hc2 (iblk m c 0 t) (iblk m c 1 t) (iblk m c 2 t) (V m c main_arg3) (half 0) (half (0 + 1)) W K
  unfold Runs pre post ins holds outAt
  rw [kept_succ, show (t.val + 1 + 15) / 16 = 0 + 1 by omega, show (t.val + 15) / 16 = 0 by omega]
  rw [hp] at run ⊢
  iintro ⟨⟨H0, H1, H2⟩, H3, ⟨Hg, H4, Hr⟩, ⟨%W, HW⟩⟩
  ihave Hr := (ring_first c (V m c main_arg3)) $$ Hr
  icases Hr with ⟨Hs, Hc, Ha, Hb, Hx⟩
  unfold bodyAt0
  iapply (run W _)
  isplitl [H0]; · iexact H0
  isplitl [H1]; · iexact H1
  isplitl [H2]; · iexact H2
  isplitl [H3]; · iexact H3
  isplitl [H4]; · iapply (kept_some c _ _); iexact H4
  isplitl [Hs]; · iexact Hs
  isplitl [Hc]; · iexact Hc
  isplitl [Ha]; · iexact Ha
  isplitl [Hb]; · iexact Hb
  isplitl [HW]; · iexact HW
  iintro ⟨H0, H1, H2, H3, H4, Ha, Hf, HW⟩
  isplitl [H0 H1 H2]
  · isplitl [H0]; · iexact H0
    isplitl [H1]; · iexact H1
    iexact H2
  isplitl [H3]; · iexact H3
  isplitl [Hg H4 Ha Hf Hx]
  · isplitl [Hg]; · iexact Hg
    isplitl [H4]; · iexact H4
    iapply (ring_close c (V m c main_arg3) 0 (by omega))
    isplitl [Ha]; · iexact Ha
    isplitl [Hf]; · iexact Hf
    iexact Hx
  iexact HW

/-- A point that takes in block `p` and starts the next. -/
theorem body_turn (c : Dev nD) (t : Fin cfg0.N) (p : ℕ) (ht : t.val = 16 * p) (hp0 : 0 < p) (hp3 : p < 3) : Runs m c t := by
  have hc0 : isFirst (grid0.coords t) := (isFirst_iff t).mpr (by omega)
  have hc1 : ¬isStart (grid0.coords t) := fun h => by have := (isStart_iff t).mp h; omega
  have hc2 : hasNext (grid0.coords t) := (hasNext_iff t).mpr (by omega)
  have hp : t.val / 16 = p := by omega
  have run := fun W K => runC c t (st0 t) (hstage0_0 ((cfg0.slots t 0).cast nbuf0_0)) (st1 t) (hstage0_1 ((cfg0.slots t 1).cast nbuf0_1)) (st2 t) (hstage0_2 ((cfg0.slots t 2).cast nbuf0_2))
    (st3 t) (hstage0_3 ((cfg0.slots t 3).cast nbuf0_3)) hc0 hc1 hc2 (iblk m c 0 t) (iblk m c 1 t) (iblk m c 2 t) (V m c main_arg3) (half p) (half (p + 1)) W K
  unfold Runs pre post ins holds outAt
  rw [kept_succ, show (t.val + 1 + 15) / 16 = p + 1 by omega, show (t.val + 15) / 16 = p by omega]
  rw [hp] at run ⊢
  iintro ⟨⟨H0, H1, H2⟩, H3, ⟨Hg, H4, Hr⟩, ⟨%W, HW⟩⟩
  ihave Hr := (ring_open c (V m c main_arg3) p hp0 (by omega)) $$ Hr
  icases Hr with ⟨Hf, Hb, Hx⟩
  unfold bodyAt0
  iapply (run W _)
  isplitl [H0]; · iexact H0
  isplitl [H1]; · iexact H1
  isplitl [H2]; · iexact H2
  isplitl [H3]; · iexact H3
  isplitl [H4]; · iapply (kept_some c _ _); iexact H4
  isplitl [Hf]; · iexact Hf
  isplitl [Hb]; · iexact Hb
  isplitl [HW]; · iexact HW
  iintro ⟨H0, H1, H2, H3, H4, Ha, Hf, HW⟩
  isplitl [H0 H1 H2]
  · isplitl [H0]; · iexact H0
    isplitl [H1]; · iexact H1
    iexact H2
  isplitl [H3]; · iexact H3
  isplitl [Hg H4 Ha Hf Hx]
  · isplitl [Hg]; · iexact Hg
    isplitl [H4]; · iexact H4
    iapply (ring_close c (V m c main_arg3) p (by omega))
    isplitl [Ha]; · iexact Ha
    isplitl [Hf]; · iexact Hf
    iexact Hx
  iexact HW

/-- The point that takes in the last block. -/
theorem body_last (c : Dev nD) (t : Fin cfg0.N) (ht : t.val = 48) : Runs m c t := by
  have hc0 : isFirst (grid0.coords t) := (isFirst_iff t).mpr (by omega)
  have hc1 : ¬isStart (grid0.coords t) := fun h => by have := (isStart_iff t).mp h; omega
  have hc2 : ¬hasNext (grid0.coords t) := fun h => by have := (hasNext_iff t).mp h; omega
  have hp : t.val / 16 = 3 := by omega
  have run := fun W K => runD c t (st0 t) (hstage0_0 ((cfg0.slots t 0).cast nbuf0_0)) (st1 t) (hstage0_1 ((cfg0.slots t 1).cast nbuf0_1)) (st2 t) (hstage0_2 ((cfg0.slots t 2).cast nbuf0_2))
    (st3 t) (hstage0_3 ((cfg0.slots t 3).cast nbuf0_3)) hc0 hc1 hc2 (iblk m c 0 t) (iblk m c 1 t) (iblk m c 2 t) (V m c main_arg3) (half 3) (half 3) W K
  unfold Runs pre post ins holds outAt
  rw [kept_succ, show (t.val + 1 + 15) / 16 = 3 + 1 by omega, show (t.val + 15) / 16 = 3 by omega]
  rw [hp] at run ⊢
  iintro ⟨⟨H0, H1, H2⟩, H3, ⟨Hg, H4, Hr⟩, ⟨%W, HW⟩⟩
  ihave Hr := (ring_last c (V m c main_arg3)) $$ Hr
  icases Hr with ⟨Hf, Hx, Hb⟩
  unfold bodyAt0
  iapply (run W _)
  isplitl [H0]; · iexact H0
  isplitl [H1]; · iexact H1
  isplitl [H2]; · iexact H2
  isplitl [H3]; · iexact H3
  isplitl [H4]; · iapply (kept_some c _ _); iexact H4
  isplitl [Hf]; · iexact Hf
  isplitl [HW]; · iexact HW
  iintro ⟨H0, H1, H2, H3, H4, Ha, Hs, Hc, HW⟩
  isplitl [H0 H1 H2]
  · isplitl [H0]; · iexact H0
    isplitl [H1]; · iexact H1
    iexact H2
  isplitl [H3]; · iexact H3
  isplitl [Hg H4 Ha Hs Hc Hx Hb]
  · isplitl [Hg]; · iexact Hg
    isplitl [H4]; · iexact H4
    iapply (ring_done c (V m c main_arg3))
    isplitl [Ha]; · iexact Ha
    isplitl [Hs]; · iexact Hs
    isplitl [Hc]; · iexact Hc
    isplitl [Hx]; · iexact Hx
    iexact Hb
  iexact HW

theorem body_runs (c : Dev nD) (t : Fin cfg0.N) : Runs m c t := by
  have hN : t.val < 64 := lt_of_lt_of_eq t.isLt (show cfg0.N = 64 from N_0)
  by_cases h0 : t.val % 16 = 0
  · rcases (show t.val = 0 ∨ (t.val = 16 * (t.val / 16) ∧ 0 < t.val / 16 ∧ t.val / 16 < 3) ∨ t.val = 48 by omega) with h | ⟨h, h1, h2⟩ | h
    · exact body_start m c t h
    · exact body_turn m c t _ h h1 h2
    · exact body_last m c t h
  · exact body_mid m c t h0

/-- The pipeline's own words for `pre`, -/
def bodyPre (c : Dev nD) (t : Fin cfg0.N) : sProp (Res F) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))
/-- and for `post`. -/
def bodyPost (c : Dev nD) (t : Fin cfg0.N) : sProp (Res F) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem pre_of (c : Dev nD) (t : Fin cfg0.N) : bodyPre m c t ⊢ pre m c t := by
  unfold bodyPre pre ins
  simp only [before_0, before_1, before_2]
  rw [holds_before]
  unfold Dat.owesAt Pipeline.owesWithin
  rw [show (dats m 0 c).owed t.castSucc = 0 from rfl]
  iintro ⟨HR, ⟨%W, -, HW⟩, ⟨%d0, H0⟩, ⟨%d1, H1⟩, ⟨%d2, H2⟩, ⟨%d3, H3⟩⟩
  isplitl [H0 H1 H2]
  · isplitl [H0]; · iexact H0
    isplitl [H1]; · iexact H1
    iexact H2
  isplitl [H3]; · iexists _; iexact H3
  isplitl [HR]; · iexact HR
  iexists W; iexact HW

theorem of_post (c : Dev nD) (t : Fin cfg0.N) : post m c t ⊢ bodyPost m c t := by
  unfold bodyPost post ins
  rw [after_0, after_1, after_2, after_3, holds_after]
  unfold Dat.owesAt Pipeline.owesWithin
  rw [show (dats m 0 c).owed t.succ = 0 from rfl]
  iintro ⟨⟨H0, H1, H2⟩, H3, HR, ⟨%W, HW⟩⟩
  isplitl [HR]; · iexact HR
  isplitl [HW]
  · iexists W; isplitr; · ipureintro; exact fun _ _ => Or.inl trivial
    iexact HW
  isplitl [H0]; · iexact H0
  isplitl [H1]; · iexact H1
  isplitl [H2]; · iexact H2
  iexact H3

theorem sound (c : Dev nD) (t : Fin cfg0.N) :
    bodyPre m c t ⊢ wp frame (wpE (defs₀ (F := F)) Variants.none c none) Set.univ (bodyAt0 t) (fun _ => bodyPost m c t) :=
  (pre_of m c t).trans ((body_runs m c t).trans (wp_mono _ _ _ fun _ => of_post m c t))

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## Into the region and out of it -/

/-- The one semaphore of the body's own, -/
abbrev ownCell : Fin 1 → SemLoc sig := fun _ => SemLoc.dma 7
theorem ownCell_facts : Pipeline.OwnSemFacts spec0 ownCell := by decide
theorem ownCell_eq (c : Dev nD) :
    (Pipeline.ownSems0 (Ix := Unit) (Name := ℕ) (U := Pipeline.UD sig nD τ) (Lvl := ℕ) (Val := Elt F) (τ := τ) ownCell c : sProp (Res F))
      = semVal ((c : Thread nD τ), SemLoc.dma 7) 0 := by
  rw [Pipeline.ownSems0_eq_of_list c ownCell [0] (by decide) (by decide)]; rfl
/-- and the one array no window stages. -/
def weights : Finset (Ref sig .tc) := {main_arg3}
theorem weights_sub : weights ⊆ Pipeline.restRefs sig spec0 := by decide
theorem weights_eq (c : Dev nD) :
    (bigSep weights (fun b => ((c : Thread nD τ).loc b) ↦{fullShare} V m c b) : sProp (Res F)) = (((c : Thread nD τ).loc main_arg3) ↦{fullShare} V m c main_arg3) := by
  rw [BI.bigSep_eq_bigSepL_of_eq [main_arg3] (by decide) (by decide)]; rfl

/-- What the region is entered with and left with. -/
def edge (c : Dev nD) : sProp (Res F) :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
    ∗ (∃ r, prngReg c r) ∗ semVal ((c : Thread nD τ), SemLoc.dma 7) 0 ∗ (((c : Thread nD τ).loc main_arg3) ↦{fullShare} V m c main_arg3))
theorem edge_eq (c : Dev nD) : (Pipeline.ΦD ownCell spec0 weights (V m) c : sProp (Res F)) = edge m c := by
  rw [Pipeline.ΦD_eq, scopedRest0_eq, ownCell_eq, weights_eq]; rfl

/-- The weights whole are their two halves. -/
theorem halves (c : Dev nD) (w : OpBuf F c) : ((((c : Thread nD τ).loc main_arg3) ↦{fullShare} w) : sProp (Res F)) ⊣⊢ iprop(opP c w fullShare.left ∗ opP c w fullShare.right) :=
  pointsTo_share (PosShare.mem_left_op_right fullShare)

theorem stage_whole (c : Dev nD) (f : StBuf F c) : (stP c f : sProp (Res F)) = (((c : Thread nD τ).loc cc0_scratch1) ↦{fullShare} f) := by
  unfold stP; rw [View.set_whole]

theorem cell_zero (c : Dev nD) : (cellP c : sProp (Res F)) = semVal ((c : Thread nD τ), SemLoc.dma 7) 0 := by
  unfold cellP; rw [cell_eq]

theorem enter (c : Dev nD) : Pipeline.ΦD ownCell spec0 weights (V m) c ⊢ (dats m 0 c).Φ 0 := by
  rw [edge_eq, show (dats m 0 c).Φ 0 = holds m c 0 from rfl]
  unfold edge holds kept ring calm
  rw [if_pos rfl, if_pos (Or.inl rfl)]
  simp only [owns_whole, stage_whole, cell_zero]
  iintro ⟨⟨H4, Hs⟩, Hg, Hc, Hw⟩
  ihave Hw := (halves c _).1 $$ Hw
  icases Hw with ⟨Ha, Hb⟩
  isplitl [Hg]; · iexact Hg
  isplitl [H4]; · iexact H4
  isplitl [Hs]; · iexact Hs
  isplitl [Hc]; · iexact Hc
  isplitl [Ha]; · iexact Ha
  iexact Hb

theorem kept_buf (c : Dev nD) (w : OpBuf F c) (k : ℕ) :
    kept c w k ⊢ (iprop(∃ f : Buf (Elt F) ((c : Thread nD τ).loc cc0_scratch0), ((c : Thread nD τ).loc cc0_scratch0) ↦{fullShare} f) : sProp (Res F)) := by
  refine (kept_some c w k).trans ?_
  simp only [owns_whole]; exact .rfl

theorem leave (c : Dev nD) : (dats m 0 c).Φ (Fin.last cfg0.N) ⊢ Pipeline.ΦD ownCell spec0 weights (V m) c := by
  rw [edge_eq, show (dats m 0 c).Φ (Fin.last cfg0.N) = holds m c grid0.N from rfl, N_0]
  unfold edge holds ring calm
  rw [if_pos (Or.inr rfl)]
  simp only [stage_whole, cell_zero]
  iintro ⟨Hg, H4, Hr⟩
  ihave H4 := (kept_buf c _ _) $$ H4
  icases Hr with ⟨Hs, Hc, Ha, Hb⟩
  isplitl [H4 Hs]
  · isplitl [H4]; · iexact H4
    iexact Hs
  isplitl [Hg]; · iexact Hg
  isplitl [Hc]; · iexact Hc
  iapply (halves c _).2
  isplitl [Ha]; · iexact Ha
  iexact Hb

/-! ## The run -/

theorem main_run : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- Every run ends, with the arrays as the data say and every semaphore at zero. -/
theorem runs : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCell defs₀ Variants.none ownCell_facts weights weights_sub m ρ main
    (hbody := fun c => (obligation m c).loose) (hshare := fun c => (dats m 0 c).share_full fun _ => rfl)
    (howed := fun _ _ => rfl) (V := V m) (hmain := main_run m) (hA := A_eq m)
    (hin := enter m) (hout := leave m)

/-- What a run leaves: the result as the data say, the arguments as they were, every semaphore at zero. -/
theorem ends : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      (h.1 c).2 main_arg3 (Pipeline.mem_restRefs_of main_arg3 (by decide) (by decide))⟩, h.2⟩) (runs m ρ)

theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (ends m ρ)

end Cert.Kernel3Ideal.Proj

end
-- ==== Proof.Proj.lean ====
/- The four projections of the mixed rows: the kernel's whole result, element by element, and its equation with the
   reference's. -/
module

public import proofs.«01_k».proof.Proof.ProjFrame
public import proofs.«01_k».proof.Proof.MmRes
public import proofs.«01_k».proof.Proof.Gen.Reference3Ideal.Read
public import Idealize.ShloMosaic.Lib.Pipeline.Value

@[expose] public section

noncomputable section

namespace Cert.Kernel3Ideal.Proj

open Cert.Kernel3Ideal.Gen Idealize.ShloMosaic Idealize.ShloMosaic.TcCoe Idealize.ShloMosaic.ValueIdx

/-- Row `i`, moved towards its neighbour by the `p`-th mix, times column `j` of the `p`-th weight. -/
def mix {n k : ℕ} (h dx : (⟨2, ![n, 2048]⟩ : Shape).Idx → EReal) (mu : (⟨2, ![k, 2048]⟩ : Shape).Idx → EReal)
    (w : (⟨2, ![2048, 2048]⟩ : Shape).Idx → EReal) (p : Fin k) (i : Fin n) (j : Fin 2048) : EReal :=
  ∑ q : Fin 2048, (h (ix2 i q) + dx (ix2 i q) * mu (ix2 p q)) * w (ix2 q j)

/-! ## One tile -/

/-- An element of the tile that a grid point writes, for one row of mixes. -/
theorem pay2_apply (wb : FVec Ideal S2048x2048 .bf16) (x0 x1 : FVec Ideal S512x2048 .f32) (v : FVec Ideal S1x2048 .f32)
    (r : Fin 512) (j : Fin 2048) : k0_pay2 (F := Ideal) wb x0 x1 v (ix3 0 r j) = mix x0 x1 v wb 0 r j := by
  unfold k0_pay2
  refine (shapeCast_ab_1ab_apply _ _ _ _ _).trans ((MmRes.mm_apply _ _ r j).trans (Finset.sum_congr rfl fun q _ => ?_))
  refine congrArg (fun a : EReal => (x0 (ix2 r q) + x1 (ix2 r q) * a) * wb (ix2 q j)) ?_
  exact broadcastTo_1b_ab_apply _ _ _ _

/-- The row of mixes that a grid point reads. -/
theorem mu_off : ∀ t : Fin grid0.N, k0_off4 (grid0.coords t) 0 = t.val / 16 ∧ k0_off4 (grid0.coords t) 1 = 0 := by decide +kernel

/-- The number of the weight that a grid point uses. -/
def blkNo (t : Fin cfg0.N) : Fin 4 := ⟨t.val / 16, by have h : t.val < 64 := t.isLt; omega⟩

theorem bk_eq (t : Fin cfg0.N) : bk (t.val / 16) = blkNo t := by
  have h : t.val < 64 := t.isLt
  exact Fin.ext (Nat.mod_eq_of_lt (by omega))

/-- The same number among the rows of mixes. -/
def muNo (p : Fin 4) : Fin 6 := ⟨p.val, by omega⟩

/-- An element of the tile that a grid point writes. -/
theorem tile_apply (t : Fin cfg0.N) (x0 x1 : FVec Ideal S512x2048 .f32) (x2 : FVec Ideal S6x2048 .f32) (wb : FVec Ideal S2048x2048 .bf16)
    (r : Fin 512) (j : Fin 2048) : tile (F := Ideal) (grid0.coords t) x0 x1 x2 wb (ix3 0 r j) = mix x0 x1 x2 wb (muNo (blkNo t)) r j := by
  obtain ⟨h0, h1⟩ := mu_off t
  unfold tile
  refine (pay2_apply _ _ _ _ r j).trans (Finset.sum_congr rfl fun q _ => ?_)
  refine congrArg (fun a : EReal => (x0 (ix2 r q) + x1 (ix2 r q) * a) * wb (ix2 q j)) (congrArg x2 ?_)
  funext a
  match a with
  | ⟨0, _⟩ => exact Fin.ext (by show k0_off4 (grid0.coords t) 0 + 1 * 0 = t.val / 16; rw [h0]; omega)
  | ⟨1, _⟩ => exact Fin.ext (by show k0_off4 (grid0.coords t) 1 + 1 * q.val = q.val; rw [h1]; omega)

/-- The weight that a grid point uses, element by element. -/
theorem wbOf_apply (c : Dev nD) (w : FVec Ideal S4x2048x2048 .f32) (b : Fin 4) (q j : Fin 2048) :
    wbOf (F := Ideal) c w b (ix2 q j) = w (ix3 b q j) := by
  unfold wbOf k0_pay1
  refine (congrFun (shapeCast_self _ _) _).trans ?_
  unfold blkOf src
  have hc : S1x2048x2048.ShapeCasts S2048x2048 := squeezes_S1x2048x2048_S2048x2048.numel_eq
  have e := Memref.read_squeeze_slice (Val := Elt Ideal) wM (Rect.unit (s := S4x2048x2048) ![b.val, 0, 0] S1x2048x2048.size (src_inb b))
    (fun _ => rfl) squeezes_S1x2048x2048_S2048x2048 hc w
  refine (congrFun e (ix2 q j)).trans ((shapeCast_1ab_ab_apply _ hc _ _).trans (congrArg w ?_))
  funext a
  match a with
  | ⟨0, _⟩ => exact Fin.ext (by show b.val + 1 * 0 = b.val; omega)
  | ⟨1, _⟩ => exact Fin.ext (by show 0 + 1 * q.val = q.val; omega)
  | ⟨2, _⟩ => exact Fin.ext (by show 0 + 1 * j.val = j.val; omega)

/-! ## The blocks -/

variable (m : (ℓ : Loc nD τ sig) → Buf (Elt Ideal) ℓ) (c : Dev nD)

/-- Which block of each array a grid point uses. -/
theorem pt_idx : ∀ t : Fin grid0.N, win0_0.index t 0 = t.val % 16 ∧ win0_0.index t 1 = 0 ∧ win0_1.index t 0 = t.val % 16 ∧ win0_1.index t 1 = 0
    ∧ win0_2.index t 0 = 0 ∧ win0_2.index t 1 = 0 ∧ win0_3.index t 0 = t.val / 16 ∧ win0_3.index t 1 = t.val % 16 ∧ win0_3.index t 2 = 0
    ∧ win0_3.flush t = true := by
  decide +kernel

/-- Row `r` of tile `t`. -/
def rowAt (t : Fin cfg0.N) (r : Fin 512) : Fin 8192 := ⟨512 * (t.val % 16) + r.val, by
  have := r.isLt; omega⟩

theorem h_blk (t : Fin cfg0.N) (r : Fin 512) (k : Fin 2048) :
    iblk m c 0 t (ix2 r k) = m ((c : Thread nD τ).loc main_arg0) (ix2 (rowAt t r) k) := by
  obtain ⟨h0, h1, -⟩ := pt_idx t
  unfold iblk
  refine (congrFun (V_main_arg0 m c) _).trans (congrArg _ ?_)
  funext a
  match a with
  | ⟨0, _⟩ => exact Fin.ext (by show win0_0.index t 0 * 512 + 1 * r.val = 512 * (t.val % 16) + r.val; rw [h0]; omega)
  | ⟨1, _⟩ => exact Fin.ext (by show win0_0.index t 1 * 2048 + 1 * k.val = k.val; rw [h1]; omega)

theorem dx_blk (t : Fin cfg0.N) (r : Fin 512) (k : Fin 2048) :
    iblk m c 1 t (ix2 r k) = m ((c : Thread nD τ).loc main_arg1) (ix2 (rowAt t r) k) := by
  obtain ⟨-, -, h0, h1, -⟩ := pt_idx t
  unfold iblk
  refine (congrFun (V_main_arg1 m c) _).trans (congrArg _ ?_)
  funext a
  match a with
  | ⟨0, _⟩ => exact Fin.ext (by show win0_1.index t 0 * 512 + 1 * r.val = 512 * (t.val % 16) + r.val; rw [h0]; omega)
  | ⟨1, _⟩ => exact Fin.ext (by show win0_1.index t 1 * 2048 + 1 * k.val = k.val; rw [h1]; omega)

theorem mu_blk (t : Fin cfg0.N) : iblk m c 2 t = m ((c : Thread nD τ).loc main_arg2) := by
  obtain ⟨-, -, -, -, h0, h1, -⟩ := pt_idx t
  funext y
  unfold iblk
  refine (congrFun (V_main_arg2 m c) _).trans (congrArg _ ?_)
  funext a
  match a with
  | ⟨0, _⟩ => exact Fin.ext (by show win0_2.index t 0 * 6 + 1 * (y 0).val = (y 0).val; rw [h0]; omega)
  | ⟨1, _⟩ => exact Fin.ext (by show win0_2.index t 1 * 2048 + 1 * (y 1).val = (y 1).val; rw [h1]; omega)

/-- No two grid points write the same block. -/
theorem idx_inj : ∀ t t' : Fin cfg0.N, win0_3.index t = win0_3.index t' → t = t' :=
  (by decide +kernel : ∀ t t' : Fin grid0.N, win0_3.index t = win0_3.index t' → t = t')

/-- A block of the result is what its grid point left. -/
theorem block (t : Fin cfg0.N) : ((cfg0.win 3).blk t).view.read (Elt Ideal) ((dats m 0 c).arrAt 3 cfg0.N)
    = (cfg0.win 3).cut (grid0.coords t) (outAt m c t) := by
  obtain ⟨-, -, -, -, -, -, -, -, -, hf⟩ := pt_idx t
  refine ((dats m 0 c).read_blk_arrAt_eq_flushed 3
    (fun t t' _ _ hne => (cfg0.win 3).disjoint_blk fun h => hne (idx_inj t t' h)) cfg0.N t t.isLt hf).trans ?_
  show (cfg0.win 3).cut (grid0.coords t) ((dats m 0 c).after 3 t) = _
  rw [after_3]

/-- The `p`-th weight. -/
def wt {n : ℕ} (w : (⟨3, ![n, 2048, 2048]⟩ : Shape).Idx → EReal) (p : Fin n) : (⟨2, ![2048, 2048]⟩ : Shape).Idx → EReal :=
  fun y => w (ix3 p (y 0) (y 1))

/-- The kernel's result at one element. -/
theorem arr_apply (t : Fin cfg0.N) (r : Fin 512) (j : Fin 2048) : (dats m 0 c).arrAt 3 cfg0.N (ix3 (blkNo t) (rowAt t r) j)
    = mix (m ((c : Thread nD τ).loc main_arg0)) (m ((c : Thread nD τ).loc main_arg1)) (m ((c : Thread nD τ).loc main_arg2))
      (wt (m ((c : Thread nD τ).loc main_arg3)) (blkNo t)) (muNo (blkNo t)) (rowAt t r) j := by
  obtain ⟨-, -, -, -, -, -, h0, h1, h2, -⟩ := pt_idx t
  have hb := congrFun (block m c t) (ix3 0 r j)
  refine (congrArg _ ?_).trans (hb.trans ?_)
  · funext a
    match a with
    | ⟨0, _⟩ => exact Fin.ext (by show t.val / 16 = win0_3.index t 0 * 1 + 1 * 0; rw [h0]; omega)
    | ⟨1, _⟩ => exact Fin.ext (by show 512 * (t.val % 16) + r.val = win0_3.index t 1 * 512 + 1 * r.val; rw [h1]; omega)
    | ⟨2, _⟩ => exact Fin.ext (by show j.val = win0_3.index t 2 * 2048 + 1 * j.val; rw [h2]; omega)
  show outAt m c t (ix3 0 r j) = _
  unfold outAt
  refine (tile_apply t _ _ _ _ r j).trans (Finset.sum_congr rfl fun q _ => ?_)
  refine congrArg₂ (fun a b : EReal => a * b) (congrArg₂ (fun a b : EReal => a + b) (h_blk m c t r q)
    (congrArg₂ (fun a b : EReal => a * b) (dx_blk m c t r q) (congrFun (mu_blk m c t) _))) ?_
  rw [bk_eq]
  exact wbOf_apply c _ _ q j

/-! ## The reference -/

open Cert.Reference3Ideal.Read in
/-- The reference's result at one element. -/
theorem ref_apply (x0 x1 : FVec Ideal S8192x2048 .f32) (x2 : FVec Ideal S6x2048 .f32) (x3 : FVec Ideal S4x2048x2048 .f32)
    (p : Fin 4) (i : Fin 8192) (j : Fin 2048) : val_main_v9 (F := Ideal) x0 x1 x2 x3 (ix3 p i j)
      = mix x0 x1 x2 (wt x3 p) (muNo p) i j := by
  rw [val_main_v9_apply]
  refine Finset.sum_congr rfl fun q _ => congrArg₂ (fun a b : EReal => a * b) ?_ (congrArg x3 (by funext a; fin_cases a <;> rfl))
  rw [val_main_v8_apply, val_main_v7_apply, val_main_v6_apply, val_main_v5_apply, val_main_v4_apply, val_main_v3_apply, val_main_v2_apply,
    val_main_v1_apply, val_main_v0_apply]
  refine congrArg₂ (fun a b : EReal => a + b) (congrArg x0 (by funext a; fin_cases a <;> rfl))
    (congrArg₂ (fun a b : EReal => a * b) (congrArg x1 (by funext a; fin_cases a <;> rfl)) (congrArg x2 (by funext a; fin_cases a <;> rfl)))

/-- The kernel's result is the reference's. -/
theorem arr_eq : (dats m 0 c).arrAt 3 cfg0.N = Cert.Reference3Ideal.Read.val_main_v9 (F := Ideal) (m ((c : Thread nD τ).loc main_arg0))
    (m ((c : Thread nD τ).loc main_arg1)) (m ((c : Thread nD τ).loc main_arg2)) (m ((c : Thread nD τ).loc main_arg3)) := by
  funext y
  have h0 : (y 0).val < 4 := (y 0).isLt
  have h1 : (y 1).val < 8192 := (y 1).isLt
  have ht : 16 * (y 0).val + (y 1).val / 512 < cfg0.N := by show _ < 64; omega
  have hy : y = ix3 (blkNo ⟨16 * (y 0).val + (y 1).val / 512, ht⟩)
      (rowAt ⟨16 * (y 0).val + (y 1).val / 512, ht⟩ ⟨(y 1).val % 512, by omega⟩) (y 2) := by
    funext a
    match a with
    | ⟨0, _⟩ => exact Fin.ext (by show (y 0).val = (16 * (y 0).val + (y 1).val / 512) / 16; omega)
    | ⟨1, _⟩ => exact Fin.ext (by
        show (y 1).val = 512 * ((16 * (y 0).val + (y 1).val / 512) % 16) + (y 1).val % 512; omega)
    | ⟨2, _⟩ => rfl
  rw [hy]
  exact (arr_apply m c _ _ _).trans (ref_apply _ _ _ _ _ _ _).symm

end Cert.Kernel3Ideal.Proj
-- ==== Proof.ProjClaims.lean ====
/- The claims of the four projections of the mixed rows. -/
module

public import proofs.«01_k».proof.Defs
public import proofs.«01_k».proof.Proof.Proj
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run

@[expose] public section

noncomputable section

namespace Cert.Proj

open Idealize.ShloMosaic Idealize.ShloMosaic.TcCoe Idealize.SL.Sem

attribute [local instance] Cert.Kernel3.Gen.facts Cert.Kernel3Ideal.Gen.facts

/-- The kernel's body is, as a table, the idealization's at the machine floats: nothing in it was rewritten. -/
theorem same_bodies : Cert.Kernel3.defs₀ (F := Bits) = Cert.Kernel3Ideal.defs₀ (F := Bits) := by
  refine congrArg (Defs.onTc (nD := Cert.Kernel3.nD) (τ := Cert.Kernel3.τ) (sig := Cert.Kernel3.sig) (Val := Elt Bits) (Λ := Cert.Kernel3.Λ₀)) ?_
  funext l a
  match l, a with
  | 0, (t, s) => rfl
  | ⟨_ + 1, h⟩, _ => exact absurd h (Nat.not_lt.2 (Nat.le_add_left _ _))

/-- So the two programs have the same pieces. -/
theorem same_defs : Cert.Kernel3.defs (F := Bits) = Cert.Kernel3Ideal.defs (F := Bits) :=
  congrArg (Pipeline.defs (Cert.Kernel3.pcfgs (F := Bits))) same_bodies

/-- The kernel runs and leaves its arguments and semaphores as they were. -/
theorem frame_p : Cert.quiescent_Kernel3 (hKernel3 := Cert.Kernel3.Gen.facts) := fun m ρ _ => by
  have h := Cert.Kernel3Ideal.Proj.framed (F := Bits) m ρ
  rw [← same_defs] at h
  exact h

/-- So does the kernel over the extended reals. -/
theorem frame_pi : Cert.quiescent_Kernel3Ideal (hKernel3Ideal := Cert.Kernel3Ideal.Gen.facts) :=
  fun m ρ _ => Cert.Kernel3Ideal.Proj.framed m ρ

/-- So does the reference. -/
theorem frame_ri : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩)
    (Cert.Reference3Ideal.Value.run (F := Ideal) m ρ)

/-- Nothing was rewritten. -/
theorem preserves : Cert.preserves_Kernel3_Kernel3Ideal := trivial

/-- The kernel computes the reference's result. -/
theorem algebraic : Cert.algebraic_Kernel3Ideal_Reference3Ideal (hKernel3Ideal := Cert.Kernel3Ideal.Gen.facts)
    (hReference3Ideal := Cert.Reference3Ideal.Gen.facts) := fun m g m' g' _ hagree => by
  refine ⟨fun c => (Cert.Kernel3Ideal.Proj.dats m 0 c).arrAt 3 Cert.Kernel3Ideal.cfg0.N,
    (θ_run _ _ _).mono (fun _ h => h.1) (Cert.Kernel3Ideal.Proj.ends m g), ?_⟩
  refine (θ_run Cert.Reference3Ideal.defs _ _).mono (fun r h c => ⟨(h c).1.trans ?_, (h c).2⟩) (Cert.Reference3Ideal.Value.run (F := Ideal) m' g')
  have hm := hagree c
  rw [Cert.Reference3Ideal.Read.val_main_v9_eq, hm.1, hm.2.1, hm.2.2.1, hm.2.2.2]
  exact (Cert.Kernel3Ideal.Proj.arr_eq m c).symm

end Cert.Proj
-- ==== Proof.ColsRun.lean ====
/- The sample's output projection: its body, which writes 512 columns of the one result block at each grid point and norms the
   block at the last, run from any contents of that block. -/
module

public import proofs.«01_k».proof.Proof.Gen.Kernel10Ideal.Frame
public import proofs.«01_k».proof.Proof.Gen.Kernel10Ideal.Skeleton
public import Idealize.ShloMosaic.Lib.VecWindow
public import Idealize.ShloMosaic.Lib.Pipeline.DatRel
public import Idealize.ShloMosaic.Lib.Pipeline.ArrRel

@[expose] public section

set_option maxRecDepth 16384

noncomputable section

namespace Cert.Kernel10Ideal.Cols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal.Gen

variable {F : FTy → Type} [FloatOps F]

/-- The resources of the program. -/
abbrev Res (F : FTy → Type) [FloatOps F] : Type := MT nD τ sig Unit (Elt F) ℕ (UR sig nD τ) ℕ

/-- The point is the last of the four. -/
abbrev isLast (i : grid0.Coords) : Prop :=
  Scalar.cmpi .ne (Scalar.extui (Scalar.cmpi .eq (BitVec.ofNat 32 (i 0).val) 3#32)) 0#32 = 1#1
theorem isLast_iff : ∀ t : Fin grid0.N, isLast (grid0.coords t) ↔ t.val = 3 := by decide +kernel

/-- A point's columns of an array of 64 rows. -/
def colsOf (i : grid0.Coords) (x : Vec F S64x2048 .f32) : Vec F S64x512 .f32 :=
  View.ld x (Rect.unit (s := S64x2048) (k0_off1 i) S64x512.size (k0_off1_inb i))

/-- The block after a point has written its columns. -/
def put (i : grid0.Coords) (y : Vec F S64x2048 .f32) (p : Vec F S64x512 .f32) : Vec F S64x2048 .f32 :=
  VecWindow.put y (k0_off1 i) S64x512.size p

/-- The block after the point's store of its sums. -/
def laid (i : grid0.Coords) (x0 : Vec F S64x2048 .f32) (x1 : Vec F S2048x512 .f32) (x2 y : Vec F S64x2048 .f32) : Vec F S64x2048 .f32 :=
  put i y (k0_pay1 (colsOf i x2) x0 x1)

section Runs

variable (c : Dev nD) (i : grid0.Coords) (arg1 : Memref sig .tc .vmem S64x2048 .f32) (harg1 : arg1.IsWhole)
  (arg2 : Memref sig .tc .vmem S2048x512 .f32) (harg2 : arg2.IsWhole) (arg3 : Memref sig .tc .vmem S64x2048 .f32) (harg3 : arg3.IsWhole)
  (arg4 : Memref sig .tc .vmem S1x2048 .f32) (harg4 : arg4.IsWhole) (arg5 : Memref sig .tc .vmem S64x2048 .f32) (harg5 : arg5.IsWhole)
  (x0 : Vec F S64x2048 .f32) (x1 : Vec F S2048x512 .f32) (x2 : Vec F S64x2048 .f32) (x3 : Vec F S1x2048 .f32) (y : Vec F S64x2048 .f32)
  (K : PUnit → sProp (Res F))

/-- What the body is given and gives back, the result block going from `y` to `z`. -/
def runs (z : Vec F S64x2048 .f32) : Prop :=
  iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare y
      ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare z) -∗ K ⟨⟩))
    ⊢ wp frame (wpE (defs₀ (F := F)) Variants.none c none) Set.univ (cc0_mm_res_cols i arg1 harg1 arg2 harg2 arg3 harg3 arg4 harg4 arg5 harg5) K

/-- The stored sums are those of the blocks. -/
theorem sums_eq : k0_pay1 (arg3.view.readAt (Elt F) (Rect.unit (s := S64x2048) (k0_off1 i) S64x512.size (k0_off1_inb i)).toLoadRect (harg3.unread x2))
      (arg1.view.readAt (Elt F) (Rect.unit (s := S64x2048) ![0, 0] S64x2048.size inb_S64x2048_S64x2048_0_0).toLoadRect (harg1.unread x0))
      (arg2.view.readAt (Elt F) (Rect.unit (s := S2048x512) ![0, 0] S2048x512.size inb_S2048x512_S2048x512_0_0).toLoadRect (harg2.unread x1))
    = k0_pay1 (colsOf i x2) x0 x1 := by
  unfold colsOf
  rw [View.readAt_full, View.readAt_full, View.readAt_eq_ld, harg1.read_unread, harg2.read_unread, harg3.read_unread]

set_option maxHeartbeats 1000000 in
/-- A point before the last lays its columns. -/
theorem run_lay (h : ¬isLast i) : runs c i arg1 harg1 arg2 harg2 arg3 harg3 arg4 harg4 arg5 harg5 x0 x1 x2 x3 y K (laid i x0 x1 x2 y) := by
  unfold runs
  haveI : Fact (¬isLast i) := ⟨h⟩
  simp only [cc0_mm_res_cols_eq_skeleton]; unfold cc0_mm_res_cols_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  unfold laid put
  rw [View.read_writes_cons_put _ _ _ _ _ rfl, View.writes_nil, harg5.read_unread, sums_eq]

set_option maxHeartbeats 1000000 in
/-- The last point lays its columns and norms the block. -/
theorem run_last (h : isLast i) : runs c i arg1 harg1 arg2 harg2 arg3 harg3 arg4 harg4 arg5 harg5 x0 x1 x2 x3 y K (k0_pay2 (laid i x0 x1 x2 y) x3) := by
  unfold runs
  haveI : Fact (isLast i) := ⟨h⟩
  simp only [cc0_mm_res_cols_eq_skeleton]; unfold cc0_mm_res_cols_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [View.read_writes_full]
  rw [View.readAt_full, View.readAt_full]
  unfold laid put run_last.sl.H4_1
  rw [View.read_writes_cons_put _ _ _ _ _ rfl, View.writes_nil, harg4.read_unread, harg5.read_unread, sums_eq]

end Runs

end Cert.Kernel10Ideal.Cols

end
-- ==== Proof.ColsFrame.lean ====
/- The sample's output projection, point by point: the columns of the result block that each point leaves right, whatever stood in
   the others, and the run of the whole program that follows. -/
module

public import proofs.«01_k».proof.Proof.ColsRun
public import Idealize.ShloMosaic.Lib.ValueIdx

@[expose] public section

set_option maxRecDepth 16384

noncomputable section

namespace Cert.Kernel10Ideal.Cols

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel10Ideal.Gen

variable {F : FTy → Type} [FloatOps F]
variable (m : (ℓ : Loc nD τ sig) → Buf (Elt F) ℓ) (ρ : Dev nD → PrngReg)

/-! ## The columns of a point -/

theorem off_eq (t : Fin cfg0.N) : k0_off1 (grid0.coords t) = ![0, 512 * t.val] := by
  revert t; decide +kernel

/-- The point that writes a column. -/
def pointOf (j : Fin 2048) : Fin cfg0.N := ⟨j.val / 512, by show _ < 4; have := j.isLt; omega⟩
/-- The column's place among the point's. -/
def place (j : Fin 2048) : Fin 512 := ⟨j.val % 512, Nat.mod_lt _ (by decide)⟩

/-- A put of a point's columns, at one of them, is what was put. -/
theorem put_in (t : Fin cfg0.N) (y : Vec F S64x2048 .f32) (p : Vec F S64x512 .f32) (r : Fin 64) (j : Fin 2048) (h : pointOf j = t) :
    put (grid0.coords t) y p (ix2 r j) = p (ix2 r (place j)) := by
  have hv : j.val / 512 = t.val := congrArg Fin.val h
  unfold put VecWindow.put
  rw [off_eq]
  have hin : ∀ a : Fin S64x2048.rank, (![0, 512 * t.val] : Fin 2 → ℕ) a ≤ ((ix2 r j : S64x2048.Idx) a).val
      ∧ ((ix2 r j : S64x2048.Idx) a).val < (![0, 512 * t.val] : Fin 2 → ℕ) a + S64x512.size a := fun a => by
    match a with
    | ⟨0, _⟩ => exact ⟨Nat.zero_le _, by show r.val < 0 + 64; have := r.isLt; omega⟩
    | ⟨1, _⟩ => exact ⟨by show 512 * t.val ≤ j.val; omega, by show j.val < 512 * t.val + 512; omega⟩
  refine (dif_pos hin).trans (congrArg p (funext fun a => Fin.ext ?_))
  match a with
  | ⟨0, _⟩ => exact Nat.sub_zero _
  | ⟨1, _⟩ => show j.val - 512 * t.val = j.val % 512; omega

/-- Elsewhere it is what stood there. -/
theorem put_out (t : Fin cfg0.N) (y : Vec F S64x2048 .f32) (p : Vec F S64x512 .f32) (r : Fin 64) (j : Fin 2048) (h : ¬pointOf j = t) :
    put (grid0.coords t) y p (ix2 r j) = y (ix2 r j) := by
  have hv : ¬j.val / 512 = t.val := fun e => h (Fin.ext e)
  unfold put VecWindow.put
  rw [off_eq]
  refine dif_neg fun hall => ?_
  have h1 := hall ⟨1, by decide⟩
  have h2 : 512 * t.val ≤ j.val := h1.1
  have h3 : j.val < 512 * t.val + 512 := h1.2
  omega

/-! ## What the block holds -/

/-- The residual plus the product, all 2048 columns, each from the blocks of its point. -/
def sums (c : Dev nD) : Vec F S64x2048 .f32 := fun y =>
  k0_pay1 (colsOf (grid0.coords (pointOf (y 1))) (iblk m c 2 (pointOf (y 1)))) (iblk m c 0 (pointOf (y 1))) (iblk m c 1 (pointOf (y 1))) (ix2 (y 0) (place (y 1)))

/-- The last point. -/
def lastPt : Fin cfg0.N := ⟨3, by show 3 < 4; omega⟩

/-- The sums normed. -/
def normed (c : Dev nD) : Vec F S64x2048 .f32 := k0_pay2 (sums m c) (iblk m c 3 lastPt)

/-- The block agrees with the sums on the columns of the first `n` points. -/
def agrees (c : Dev nD) (n : ℕ) (X : Vec F S64x2048 .f32) : Prop :=
  ∀ (r : Fin 64) (j : Fin 2048), j.val / 512 < n → X (ix2 r j) = sums m c (ix2 r j)

/-- A point's store extends the agreement by its columns. -/
theorem agrees_succ (c : Dev nD) (t : Fin cfg0.N) (y : Vec F S64x2048 .f32) (h : agrees m c t.val y) :
    agrees m c (t.val + 1) (laid (grid0.coords t) (iblk m c 0 t) (iblk m c 1 t) (iblk m c 2 t) y) := fun r j hj => by
  unfold laid
  by_cases e : pointOf j = t
  · refine (put_in t _ _ r j e).trans ?_
    subst e
    rfl
  · refine (put_out t _ _ r j e).trans (h r j ?_)
    have : ¬j.val / 512 = t.val := fun e' => e (Fin.ext e')
    omega

/-- After the last point's store the block is the sums. -/
theorem agrees_all (c : Dev nD) (X : Vec F S64x2048 .f32) (h : agrees m c 4 X) : X = sums m c := funext fun y => by
  rw [show y = ix2 (y 0) (y 1) from by funext a; fin_cases a <;> rfl]
  exact h _ _ (by have : (y 1).val < 2048 := (y 1).isLt; omega)

/-! ## The data -/

/-- The inputs' blocks stay; of the result's buffer see `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => normed m c
  Φ _ := Pipeline.ΦA spec0 c
  q _ := fullShare
  owed _ := 0

/-- The result's window is the one of which only a property is kept: -/
def loosely (w : Fin cfg0.W) : Bool := match w with
  | ⟨0, _⟩ => false
  | ⟨1, _⟩ => false
  | ⟨2, _⟩ => false
  | ⟨3, _⟩ => false
  | ⟨4, _⟩ => true

/-- before the last point it agrees with the sums on the columns so far, after it it is the sums normed. -/
def left (c : Dev nD) (t : Fin cfg0.N) (X : Vec F S64x2048 .f32) : Prop :=
  (t.val < 3 → agrees m c (t.val + 1) X) ∧ (t.val = 3 → X = normed m c)

def leftAll (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, X => left m c t X

/-- The data with the result's window so kept. -/
abbrev rdats (c : Dev nD) : RDat τ (Elt F) Unit ℕ (UR sig nD τ) ℕ cfg0 c := (dats m 0 c).toRRel loosely (leftAll m c)

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

theorem no_fetch : ∀ t : Fin cfg0.N, (cfg0.win 4).fetch t = false := by decide +kernel

/-- What a point finds in the result's buffer agrees with the sums on the columns of the points before it. -/
theorem found (c : Dev nD) (t : Fin cfg0.N) (Y : Vec F S64x2048 .f32) (h : (rdats m c).Finds 4 t Y) : agrees m c t.val Y := by
  by_cases h0 : t.val = 0
  · intro r j hj; omega
  have h4 : t.val < 4 := t.isLt
  have hp := ((rdats m c).finds_of_pos (no_fetch t) h0 Y).mp h
  rcases hp with hp | hp
  · have := (flush0_4 _).mp hp
    have e : (t.val - 1) % 4 = 3 := this
    omega
  · have hl : left m c ⟨t.val - 1, _⟩ Y := (dats m 0 c).toRRel_leaves (fgt := loosely) (Rl := leftAll m c) (w := 4) rfl hp
    have := hl.1 (by show t.val - 1 < 3; omega)
    have e : (⟨t.val - 1, Nat.lt_of_le_of_lt (Nat.sub_le _ _) t.isLt⟩ : Fin cfg0.N).val + 1 = t.val := by show t.val - 1 + 1 = t.val; omega
    rwa [e] at this

/-! ## The body at a point -/

/-- What the body is given, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdats m c).Finds 4 t Y⌝ ∗ owns (c : Thread nD τ) (st0_4 t) fullShare Y))

/-- and what it gives back. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜leftAll m c 4 t X⌝ ∗ owns (c : Thread nD τ) (st0_4 t) fullShare X))

/-- A point leaves the block as said, from any block as found. -/
theorem leaves_of (c : Dev nD) (t : Fin cfg0.N) (Y : Vec F S64x2048 .f32) (hY : agrees m c t.val Y) (K : PUnit → sProp (Res F)) :
    ∃ Z, left m c t Z ∧ runs c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (iblk m c 1 t) (iblk m c 2 t) (iblk m c 3 t) Y K Z := by
  have hs := agrees_succ m c t Y hY
  by_cases h : t.val = 3
  · refine ⟨_, ⟨fun h' => absurd h' (by omega), fun _ => ?_⟩, run_last (F := F) c _ _ _ _ _ _ _ _ _ _ _ _ _ _ _ _ _ ((isLast_iff t).mpr h)⟩
    have e : t = lastPt := Fin.ext h
    subst e
    unfold normed
    exact congrArg (k0_pay2 · _) (agrees_all m c _ hs)
  · exact ⟨_, ⟨fun _ => hs, fun h' => absurd h' h⟩, run_lay (F := F) c _ _ _ _ _ _ _ _ _ _ _ _ _ _ _ _ _ (fun h' => h ((isLast_iff t).mp h'))⟩

theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.succ = (dats m 0 c).Φ t.castSucc from rfl, after0, after1, after2, after3]
  iintro ⟨HΦ, Ho, ⟨%d0, H0⟩, ⟨%d1, H1⟩, ⟨%d2, H2⟩, ⟨%d3, H3⟩, ⟨%Y, %hY, H4⟩⟩
  obtain ⟨Z, hZ, hrun⟩ := leaves_of m c t Y (found m c t Y hY) (fun _ => bodyPost m c t)
  unfold runs at hrun
  unfold bodyPost at hrun
  rw [show (dats m 0 c).owesAt () t.succ = (dats m 0 c).owesAt () t.castSucc from rfl,
    show (dats m 0 c).Φ t.succ = (dats m 0 c).Φ t.castSucc from rfl, after0, after1, after2, after3] at hrun
  iapply hrun
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists Z; isplitr
  · ipureintro; exact hZ
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligationRel (dats (F := F) m 0 c) (defs₀ (F := F)) Variants.none () Set.univ loosely (leftAll m c) := fun t => by
  rw [bigSep_W0, bigSep_W0, row]
  exact triple_restated (sound m c t) rfl .rfl fun _ => .rfl

/-! ## The run -/

set_option backward.isDefEq.respectTransparency.types false in
/-- Every run ends, with the arrays as the data say and every semaphore at zero. -/
theorem runs_all : θ_run defs (onTc (τ := τ) (main (F := F))) (s₀ m ρ) (fun r => RDat.FramePost cfg0 (rdats m) (V m) r ∧ r.2.sem = fun _ => 0) :=
  RDat.θ_run_frame (Q' := _) cfgs (0 : Fin 1) launch0 defs₀ Variants.none (rdats m) m ρ main
    (hbody := fun c => (obligation m c).toRRel) (hshare := fun c => (dats m 0 c).share_full fun _ => rfl)
    (howed := fun _ _ => rfl) (V := V m) (hmain := hmain m Variants.none) (hA := A_eq m) (hΦ := fun _ _ => rfl)

theorem whole_at : (cfg0.win 4).WholeAt lastPt := by decide +kernel

/-- The result array at the end. -/
theorem result (c : Dev nD) (G : Buf (Elt F) ((cfg0.spec 4).arr.view.loc (c.tc : Thread nD τ))) (h : (rdats m c).ArrAt 4 cfg0.N G) : G = normed m c := by
  obtain ⟨X, hX, hG⟩ := h.emb_eq_of_wholeAt whole_at
  have hl : left m c lastPt X := (dats m 0 c).toRRel_leaves (fgt := loosely) (Rl := leftAll m c) (w := 4) rfl hX
  rw [← hl.2 rfl]
  funext y
  have e := hG y
  have hy : (cfg0.win 4).arr.view.emb y = y := rfl
  rw [hy] at e
  exact e

/-- What a run leaves: the sums normed, the arguments as they were, every semaphore at zero. -/
theorem ends : θ_run defs (onTc (τ := τ) (main (F := F))) ⟨m, fun _ => 0, ρ⟩ (fun r => (∀ c : Dev nD,
      r.2.mem ((c.tc : Thread nD τ).loc main_v1) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨result m c _ ((h.1 c).1 4),
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c)⟩, h.2⟩) (runs_all m ρ)

theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (ends m ρ)

end Cert.Kernel10Ideal.Cols

end
-- ==== Proof.Cols.lean ====
/- The sample's output projection, its residual and the closing norm: the kernel's whole result, element by element, and its
   equation with the reference's. -/
module

public import proofs.«01_k».proof.Proof.MmRes
public import proofs.«01_k».proof.Proof.ColsFrame
public import proofs.«01_k».proof.Proof.Gen.Reference10Ideal.Read

@[expose] public section

noncomputable section

namespace Cert.Cols

open Cert.Kernel10Ideal Cert.Kernel10Ideal.Gen Cert.Kernel10Ideal.Cols Idealize.ShloMosaic Idealize.ShloMosaic.TcCoe Idealize.ShloMosaic.ValueIdx

/-! ## One tile of columns -/

/-- An element of the product of the rows with a tile of the weight's columns. -/
theorem mm_apply (x : FVec Ideal S64x2048 .bf16) (w : FVec Ideal S2048x512 .bf16) (r : Fin 64) (j : Fin 512) :
    matmul dot_S64x2048_S2048x512_S64x512_1_0_0_1_n_n none x w (constant S64x512 .f32 0x00000000#32) (ix2 r j)
      = ∑ q : Fin 2048, (x (ix2 r q) : EReal) * w (ix2 q j) := by
  refine (Ideal.matmul_constant_zero_apply _ none _ _ _).trans ?_
  refine Fintype.sum_equiv (contrEquiv1 dot_S64x2048_S2048x512_S64x512_1_0_0_1_n_n 2048 rfl rfl) _ _ fun q => ?_
  refine congrArg₂ (· * ·) (congrArg x ?_) (congrArg w ?_) <;> (funext a; fin_cases a <;> rfl)

/-- An element of the sums a point stores. -/
theorem pay1_apply (h : FVec Ideal S64x512 .f32) (x : FVec Ideal S64x2048 .f32) (w : FVec Ideal S2048x512 .f32) (r : Fin 64) (j : Fin 512) :
    k0_pay1 (F := Ideal) h x w (ix2 r j) = (h (ix2 r j) : EReal) + ∑ q : Fin 2048, (x (ix2 r q) : EReal) * w (ix2 q j) := by
  unfold k0_pay1
  exact congrArg (h (ix2 r j) + ·) (mm_apply _ _ r j)

/-- An element of the normed block. -/
theorem pay2_apply (y : FVec Ideal S64x2048 .f32) (g : FVec Ideal S1x2048 .f32) (r : Fin 64) (j : Fin 2048) :
    k0_pay2 (F := Ideal) y g (ix2 r j) = Rms.norm (fun k => y (ix2 r k)) (fun k => g (ix2 0 k)) j := by
  unfold k0_pay2
  refine (Rms.tile_apply _ _ _ _ _ _ _ r j).trans ?_
  rw [shapeCast_self]

/-! ## The blocks -/

variable (m : (ℓ : Loc nD τ sig) → Buf (Elt Ideal) ℓ) (c : Dev nD)

/-- Which block of each array a grid point uses. -/
theorem pt_idx : ∀ t : Fin grid0.N, win0_0.index t 0 = 0 ∧ win0_0.index t 1 = 0 ∧ win0_1.index t 0 = 0 ∧ win0_1.index t 1 = t.val
    ∧ win0_2.index t 0 = 0 ∧ win0_2.index t 1 = 0 ∧ win0_3.index t 0 = 0 ∧ win0_3.index t 1 = 0 := by
  decide +kernel

theorem x_blk (t : Fin cfg0.N) : iblk m c 0 t = m ((c : Thread nD τ).loc main_arg0) := by
  obtain ⟨h0, h1, -⟩ := pt_idx t
  funext y
  unfold iblk
  refine (congrFun (V_main_arg0 m c) _).trans (congrArg _ ?_)
  funext a
  match a with
  | ⟨0, _⟩ => exact Fin.ext (by show win0_0.index t 0 * 64 + 1 * (y 0).val = (y 0).val; rw [h0]; omega)
  | ⟨1, _⟩ => exact Fin.ext (by show win0_0.index t 1 * 2048 + 1 * (y 1).val = (y 1).val; rw [h1]; omega)

/-- A column of a point's tile of the weight is the weight's. -/
theorem w_blk (k : Fin 2048) (q : Fin 2048) : iblk m c 1 (pointOf k) (ix2 q (place k)) = m ((c : Thread nD τ).loc main_arg1) (ix2 q k) := by
  obtain ⟨-, -, h0, h1, -⟩ := pt_idx (pointOf k)
  unfold iblk
  refine (congrFun (V_main_arg1 m c) _).trans (congrArg _ ?_)
  funext a
  match a with
  | ⟨0, _⟩ => exact Fin.ext (by show win0_1.index (pointOf k) 0 * 2048 + 1 * q.val = q.val; rw [h0]; omega)
  | ⟨1, _⟩ => exact Fin.ext (by
      show win0_1.index (pointOf k) 1 * 512 + 1 * (k.val % 512) = k.val
      rw [h1]
      show k.val / 512 * 512 + 1 * (k.val % 512) = k.val
      omega)

theorem h_blk (t : Fin cfg0.N) : iblk m c 2 t = m ((c : Thread nD τ).loc main_arg2) := by
  obtain ⟨-, -, -, -, h0, h1, -⟩ := pt_idx t
  funext y
  unfold iblk
  refine (congrFun (V_main_arg2 m c) _).trans (congrArg _ ?_)
  funext a
  match a with
  | ⟨0, _⟩ => exact Fin.ext (by show win0_2.index t 0 * 64 + 1 * (y 0).val = (y 0).val; rw [h0]; omega)
  | ⟨1, _⟩ => exact Fin.ext (by show win0_2.index t 1 * 2048 + 1 * (y 1).val = (y 1).val; rw [h1]; omega)

/-- The gain as a row is the gain. -/
theorem gain_row (k : Fin 2048) : V m c main_v0 (ix2 0 k) = m ((c : Thread nD τ).loc main_arg3) (ix1 k) := by
  have h : V m c main_v0 = shapeCast S1x2048 (m ((c : Thread nD τ).loc main_arg3)) shapeCasts_S2048_S1x2048 := rfl
  rw [h]
  exact shapeCast_a_1a_apply _ _ _ _

theorem g_blk (t : Fin cfg0.N) (k : Fin 2048) : iblk m c 3 t (ix2 0 k) = m ((c : Thread nD τ).loc main_arg3) (ix1 k) := by
  obtain ⟨-, -, -, -, -, -, h0, h1⟩ := pt_idx t
  refine Eq.trans ?_ (gain_row m c k)
  unfold iblk
  refine congrArg (V m c main_v0) ?_
  funext a
  match a with
  | ⟨0, _⟩ => exact Fin.ext (by show win0_3.index t 0 * 1 + 1 * 0 = 0; rw [h0])
  | ⟨1, _⟩ => exact Fin.ext (by show win0_3.index t 1 * 2048 + 1 * k.val = k.val; rw [h1]; omega)

/-- A point's columns of the residual, at one of them. -/
theorem cols_apply (h : FVec Ideal S64x2048 .f32) (r : Fin 64) (k : Fin 2048) :
    colsOf (F := Ideal) (grid0.coords (pointOf k)) h (ix2 r (place k)) = h (ix2 r k) := by
  have o := off_eq (pointOf k)
  refine congrArg h (funext fun a => Fin.ext ?_)
  match a with
  | ⟨0, _⟩ =>
    show k0_off1 (grid0.coords (pointOf k)) 0 + 1 * r.val = r.val
    rw [o]
    show 0 + 1 * r.val = r.val
    omega
  | ⟨1, _⟩ =>
    show k0_off1 (grid0.coords (pointOf k)) 1 + 1 * (k.val % 512) = k.val
    rw [o]
    show 512 * (k.val / 512) + 1 * (k.val % 512) = k.val
    omega

/-- The residual's element plus the row's product with the weight's column. -/
def summed (x : S64x2048.Idx → EReal) (w : S2048x2048.Idx → EReal) (h : S64x2048.Idx → EReal) (r : Fin 64) (k : Fin 2048) : EReal :=
  h (ix2 r k) + ∑ q : Fin 2048, x (ix2 r q) * w (ix2 q k)

/-- The sums at one element. -/
theorem sums_apply (r : Fin 64) (k : Fin 2048) : sums m c (ix2 r k)
    = summed (m ((c : Thread nD τ).loc main_arg0)) (m ((c : Thread nD τ).loc main_arg1)) (m ((c : Thread nD τ).loc main_arg2)) r k := by
  refine (pay1_apply (colsOf (grid0.coords (pointOf k)) (iblk m c 2 (pointOf k))) (iblk m c 0 (pointOf k)) (iblk m c 1 (pointOf k)) r (place k)).trans ?_
  refine congrArg₂ (fun a b : EReal => a + b) ?_ (Finset.sum_congr rfl fun q _ => congrArg₂ (fun a b : EReal => a * b) ?_ (w_blk m c k q))
  · exact (cols_apply _ r k).trans (congrFun (h_blk m c _) _)
  · exact congrFun (x_blk m c _) _

/-- The kernel's result at one element. -/
theorem normed_apply (r : Fin 64) (j : Fin 2048) : normed m c (ix2 r j)
    = MmRes.out (m ((c : Thread nD τ).loc main_arg0)) (m ((c : Thread nD τ).loc main_arg1)) (m ((c : Thread nD τ).loc main_arg2))
      (fun k => m ((c : Thread nD τ).loc main_arg3) (ix1 k)) r j := by
  refine (pay2_apply (sums m c) (iblk m c 3 lastPt) r j).trans ?_
  unfold MmRes.out
  exact congrArg₂ (Rms.norm · · j) (funext fun k => sums_apply m c r k) (funext fun k => g_blk m c _ k)

/-! ## The reference -/

open Cert.Reference10Ideal.Read in
/-- The reference's result at one element. -/
theorem ref_apply (x0 : FVec Ideal S64x2048 .f32) (x1 : FVec Ideal S2048x2048 .f32) (x2 : FVec Ideal S64x2048 .f32) (x3 : FVec Ideal S2048 .f32)
    (i : Fin 64) (j : Fin 2048) : val_main_v14 (F := Ideal) x0 x1 x2 x3 (ix2 i j)
      = MmRes.out x0 x1 x2 (fun k => x3 (ix1 k)) i j := by
  have hres : ∀ (k : Fin 2048) (y : S64x2048.Idx), y = ix2 i k →
      val_main_v1 (F := Ideal) x0 x1 x2 y = (x2 (ix2 i k) : EReal) + ∑ q : Fin 2048, (x0 (ix2 i q) : EReal) * x1 (ix2 q k) := fun k y e => by
    rw [e, val_main_v1_apply, val_main_v0_apply]
    refine congrArg (x2 (ix2 i k) + ·) (Finset.sum_congr rfl fun q _ => congrArg₂ (· * ·) (congrArg x0 ?_) (congrArg x1 ?_)) <;>
      (funext a; fin_cases a <;> rfl)
  rw [val_main_v14_apply, val_main_v11_apply, val_main_v13_apply, val_main_v12_apply, val_main_v10_apply, val_main_v9_apply,
    val_main_v8_apply, val_main_v6_apply, val_main_v7_apply, val_main_v5_apply, val_main_v4_apply, val_main_v3_apply, hres j _ rfl]
  unfold MmRes.out Rms.norm Rms.rstd
  refine congrArg₂ (fun a b : EReal => a * b) (congrArg (HMul.hMul (x2 (ix2 i j) + ∑ q : Fin 2048, (x0 (ix2 i q) : EReal) * x1 (ix2 q j) : EReal)) ?_) (congrArg x3 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v2_apply, hres k _ (by funext a; fin_cases a <;> rfl)]
  rfl

/-- The kernel's result is the reference's. -/
theorem normed_eq : normed m c = Cert.Reference10Ideal.Read.val_main_v14 (F := Ideal) (m ((c : Thread nD τ).loc main_arg0))
    (m ((c : Thread nD τ).loc main_arg1)) (m ((c : Thread nD τ).loc main_arg2)) (m ((c : Thread nD τ).loc main_arg3)) := by
  funext y
  rw [show y = ix2 (y 0) (y 1) from by funext a; fin_cases a <;> rfl]
  exact (normed_apply m c _ _).trans (ref_apply _ _ _ _ _ _).symm

end Cert.Cols

end
-- ==== Proof.ColsClaims.lean ====
/- The claims of the sample's output projection with its residual and norm. -/
module

public import proofs.«01_k».proof.Defs
public import proofs.«01_k».proof.Proof.Cols
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run

@[expose] public section

noncomputable section

namespace Cert.Cols

open Idealize.ShloMosaic Idealize.ShloMosaic.TcCoe Idealize.SL.Sem

attribute [local instance] Cert.Kernel10.Gen.facts Cert.Kernel10Ideal.Gen.facts

/-- The kernel's body is, as a table, the idealization's at the machine floats: nothing in it was rewritten. -/
theorem same_bodies : Cert.Kernel10.defs₀ (F := Bits) = Cert.Kernel10Ideal.defs₀ (F := Bits) := by
  refine congrArg (Defs.onTc (nD := Cert.Kernel10.nD) (τ := Cert.Kernel10.τ) (sig := Cert.Kernel10.sig) (Val := Elt Bits) (Λ := Cert.Kernel10.Λ₀)) ?_
  funext l a
  match l, a with
  | 0, (t, s) => rfl
  | ⟨_ + 1, h⟩, _ => exact absurd h (Nat.not_lt.2 (Nat.le_add_left _ _))

/-- So the two programs have the same pieces. -/
theorem same_defs : Cert.Kernel10.defs (F := Bits) = Cert.Kernel10Ideal.defs (F := Bits) :=
  congrArg (Pipeline.defs (Cert.Kernel10.pcfgs (F := Bits))) same_bodies

/-- The kernel runs and leaves its arguments and semaphores as they were. -/
theorem frame_p : Cert.quiescent_Kernel10 (hKernel10 := Cert.Kernel10.Gen.facts) := fun m ρ _ => by
  have h := Cert.Kernel10Ideal.Cols.framed (F := Bits) m ρ
  rw [← same_defs] at h
  exact h

/-- So does the kernel over the extended reals. -/
theorem frame_pi : Cert.quiescent_Kernel10Ideal (hKernel10Ideal := Cert.Kernel10Ideal.Gen.facts) :=
  fun m ρ _ => Cert.Kernel10Ideal.Cols.framed m ρ

/-- So does the reference. -/
theorem frame_ri : Cert.quiescent_Reference10Ideal (hReference10Ideal := Cert.Reference10Ideal.Gen.facts) :=
  fun m ρ _ => (θ_run Cert.Reference10Ideal.defs _ _).mono (fun r h => ⟨fun c => (h c).2, sem_eq_zero_of_no_sems (by decide) r.2⟩)
    (Cert.Reference10Ideal.Value.run (F := Ideal) m ρ)

/-- Nothing was rewritten. -/
theorem preserves : Cert.preserves_Kernel10_Kernel10Ideal := trivial

/-- The kernel computes the reference's result. -/
theorem algebraic : Cert.algebraic_Kernel10Ideal_Reference10Ideal (hKernel10Ideal := Cert.Kernel10Ideal.Gen.facts)
    (hReference10Ideal := Cert.Reference10Ideal.Gen.facts) := fun m g m' g' _ hagree => by
  refine ⟨fun c => Cert.Kernel10Ideal.Cols.normed m c,
    (θ_run _ _ _).mono (fun _ h => h.1) (Cert.Kernel10Ideal.Cols.ends m g), ?_⟩
  refine (θ_run Cert.Reference10Ideal.defs _ _).mono (fun r h c => ⟨(h c).1.trans ?_, (h c).2⟩) (Cert.Reference10Ideal.Value.run (F := Ideal) m' g')
  have hm := hagree c
  rw [Cert.Reference10Ideal.Read.val_main_v14_eq, hm.1, hm.2.1, hm.2.2.1, hm.2.2.2]
  exact (normed_eq m c).symm

end Cert.Cols
-- ==== Proof.MmPlain.lean ====
/- The output projection with its residual and no norm after it, as the recurrent layer applies it: the kernel's whole result,
   element by element, and its equation with the reference's. -/
module

public import proofs.«01_k».proof.Proof.Rms
public import proofs.«01_k».proof.Proof.Gen.Kernel11Ideal.Value
public import proofs.«01_k».proof.Proof.Gen.Reference11Ideal.Read

@[expose] public section

noncomputable section

namespace Cert.MmPlain

open Cert.Kernel11Ideal Cert.Kernel11Ideal.Gen Cert.Kernel11Ideal.Value Idealize.ShloMosaic Idealize.ShloMosaic.TcCoe Idealize.ShloMosaic.ValueIdx

/-- Row `i`'s product with the weight, added to the residual's row, at column `j`. -/
def out {n : ℕ} (x : (⟨2, ![n, 2048]⟩ : Shape).Idx → EReal) (w : (⟨2, ![2048, 2048]⟩ : Shape).Idx → EReal)
    (h : (⟨2, ![n, 2048]⟩ : Shape).Idx → EReal) (i : Fin n) (j : Fin 2048) : EReal :=
  h (ix2 i j) + ∑ q : Fin 2048, x (ix2 i q) * w (ix2 q j)

/-! ## One tile -/

section Tile

variable (x0 : FVec Ideal S512x2048 .bf16) (x1 : FVec Ideal S2048x2048 .f32) (x2 : FVec Ideal S512x2048 .f32)

/-- An element of the product of a tile of rows with the weight. -/
theorem mm_apply (w : FVec Ideal S2048x2048 .bf16) (r : Fin 512) (j : Fin 2048) :
    matmul dot_S512x2048_S2048x2048_S512x2048_1_0_0_1_n_n none x0 w (constant S512x2048 .f32 0x00000000#32) (ix2 r j)
      = ∑ q : Fin 2048, (x0 (ix2 r q) : EReal) * w (ix2 q j) := by
  refine (Ideal.matmul_constant_zero_apply _ none _ _ _).trans ?_
  refine Fintype.sum_equiv (contrEquiv1 dot_S512x2048_S2048x2048_S512x2048_1_0_0_1_n_n 2048 rfl rfl) _ _ fun q => ?_
  refine congrArg₂ (· * ·) (congrArg x0 ?_) (congrArg w ?_) <;> (funext a; fin_cases a <;> rfl)

/-- The weight kept for the later grid points is the weight. -/
theorem pay1_apply (i : S2048x2048.Idx) : k0_pay1 (F := Ideal) x1 i = x1 i := by
  unfold k0_pay1
  exact congrFun (shapeCast_self _ _) i

/-- An element of the tile that a grid point writes. -/
theorem pay2_apply (r : Fin 512) (j : Fin 2048) :
    k0_pay2 (F := Ideal) x2 x0 (k0_pay1 (F := Ideal) x1) (ix2 r j) = out x0 x1 x2 r j := by
  unfold k0_pay2
  refine congrArg (x2 (ix2 r j) + ·) ((mm_apply x0 _ r j).trans (Finset.sum_congr rfl fun q _ => ?_))
  rw [pay1_apply]

end Tile

/-! ## What a grid point leaves -/

section Point

variable (c : Dev nD) (i : grid0.Coords) (arg1 : Memref sig .tc .vmem S512x2048 .bf16) (harg1 : arg1.IsWhole)
  (arg2 : Memref sig .tc .vmem S2048x2048 .f32) (harg2 : arg2.IsWhole) (arg3 : Memref sig .tc .vmem S512x2048 .f32) (harg3 : arg3.IsWhole)
  (arg4 : Memref sig .tc .vmem S1x2048 .f32) (harg4 : arg4.IsWhole) (arg5 : Memref sig .tc .vmem S512x2048 .f32) (harg5 : arg5.IsWhole)
  (arg6 : Memref sig .tc .vmem S2048x2048 .bf16) (harg6 : arg6.IsWhole)
  (x0 : Vec Ideal S512x2048 .bf16) (x1 : Vec Ideal S2048x2048 .f32) (x2 : Vec Ideal S512x2048 .f32) (x3 : Vec Ideal S1x2048 .f32)
  (xs0 : Vec Ideal S2048x2048 .bf16)

/-- The first point keeps the weight. -/
theorem scr_A (hc0 : cond0_0 i) :
    sout0_A_0 c i arg1 harg1 arg2 harg2 arg3 harg3 arg4 harg4 arg5 harg5 arg6 harg6 hc0 x0 x1 x2 x3 = k0_pay1 x1 := by
  unfold sout0_A_0
  refine (View.read_writes_junk_eq_canon _ _).trans ((View.canon_cons_unit_lit _ _ _ (by decide)).trans ?_)
  exact congrArg _ (Rms.load_whole harg2 x1 _ (by decide))

/-- A later point writes its tile, with the weight that was kept. -/
theorem out_B (hc0 : ¬cond0_0 i) :
    out0_B_4 c i arg1 harg1 arg2 harg2 arg3 harg3 arg4 harg4 arg5 harg5 arg6 harg6 hc0 x0 x1 x2 x3 xs0 = k0_pay2 x2 x0 xs0 := by
  unfold out0_B_4
  refine (View.read_writes_junk_eq_canon _ _).trans ((View.canon_cons_unit_lit _ _ _ (by decide)).trans ?_)
  rw [Rms.load_whole harg1 x0 _ (by decide), Rms.load_whole harg3 x2 _ (by decide),
    Rms.load_whole harg6 xs0 _ (by decide)]

/-- The first point writes its tile, with the weight it has just kept. -/
theorem out_A (hc0 : cond0_0 i) :
    out0_A_4 c i arg1 harg1 arg2 harg2 arg3 harg3 arg4 harg4 arg5 harg5 arg6 harg6 hc0 x0 x1 x2 x3 = k0_pay2 x2 x0 (k0_pay1 x1) := by
  unfold out0_A_4
  refine (View.read_writes_junk_eq_canon _ _).trans ((View.canon_cons_unit_lit _ _ _ (by decide)).trans ?_)
  rw [Rms.load_whole harg1 x0 _ (by decide), Rms.load_whole harg3 x2 _ (by decide)]
  refine congrArg (k0_pay2 x2 x0 ·) ?_
  unfold kernelRun0_A.sl.v5
  refine (View.readCov_unit_lit _ _ _ (by decide)).trans ?_
  exact congrArg _ (Rms.load_whole harg2 x1 _ (by decide))

end Point

/-! ## The blocks -/

variable (m : (ℓ : Loc nD τ sig) → Buf (Elt Ideal) ℓ) (c : Dev nD)

/-- Which block of each array a grid point uses. -/
theorem pt_idx : ∀ t : Fin grid0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_4.flush t = true := by
  decide +kernel

/-- Row `r` of tile `t`. -/
def row (t : Fin cfg0.N) (r : Fin 512) : Fin 8192 := ⟨512 * t.val + r.val, by
  have h : t.val < 16 := t.isLt
  have := r.isLt; omega⟩

theorem x_blk (t : Fin cfg0.N) (r : Fin 512) (k : Fin 2048) :
    iblk m c 0 t (ix2 r k) = m ((c : Thread nD τ).loc main_arg0) (ix2 (row t r) k) := by
  obtain ⟨h0, h1, -⟩ := pt_idx t
  unfold iblk
  refine (congrFun (V_main_arg0 m c) _).trans (congrArg _ ?_)
  funext a
  match a with
  | ⟨0, _⟩ => exact Fin.ext (by show win0_0.index t 0 * 512 + 1 * r.val = 512 * t.val + r.val; rw [h0]; omega)
  | ⟨1, _⟩ => exact Fin.ext (by show win0_0.index t 1 * 2048 + 1 * k.val = k.val; rw [h1]; omega)

theorem w_blk (t : Fin cfg0.N) : iblk m c 1 t = m ((c : Thread nD τ).loc main_arg1) := by
  obtain ⟨-, -, h0, h1, -⟩ := pt_idx t
  funext y
  unfold iblk
  refine (congrFun (V_main_arg1 m c) _).trans (congrArg _ ?_)
  funext a
  match a with
  | ⟨0, _⟩ => exact Fin.ext (by show win0_1.index t 0 * 2048 + 1 * (y 0).val = (y 0).val; rw [h0]; omega)
  | ⟨1, _⟩ => exact Fin.ext (by show win0_1.index t 1 * 2048 + 1 * (y 1).val = (y 1).val; rw [h1]; omega)

theorem h_blk (t : Fin cfg0.N) (r : Fin 512) (k : Fin 2048) :
    iblk m c 2 t (ix2 r k) = m ((c : Thread nD τ).loc main_arg2) (ix2 (row t r) k) := by
  obtain ⟨-, -, -, -, h0, h1, -⟩ := pt_idx t
  unfold iblk
  refine (congrFun (V_main_arg2 m c) _).trans (congrArg _ ?_)
  funext a
  match a with
  | ⟨0, _⟩ => exact Fin.ext (by show win0_2.index t 0 * 512 + 1 * r.val = 512 * t.val + r.val; rw [h0]; omega)
  | ⟨1, _⟩ => exact Fin.ext (by show win0_2.index t 1 * 2048 + 1 * k.val = k.val; rw [h1]; omega)

/-- The weight, as the window's block. -/
abbrev wt : FVec Ideal S2048x2048 .f32 := m ((c : Thread nD τ).loc main_arg1)

/-- The first point keeps the weight. -/
theorem kept_A (t : Fin cfg0.N) (h : t.val % 16 = 0) : (outsAt0 m c t.val t.isLt).2 = k0_pay1 (F := Ideal) (wt m c) := by
  rw [outsAt0_A m c t h]
  dsimp only
  refine (scr_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) ((hcond0_0 t).mpr h)).trans ?_
  exact congrArg (k0_pay1 (F := Ideal)) (w_blk m c t)

/-- The kept weight after every grid point: the weight. -/
theorem kept (n : ℕ) (hn : n < cfg0.N) : (outsAt0 m c n hn).2 = k0_pay1 (F := Ideal) (wt m c) := by
  induction n with
  | zero => exact kept_A m c ⟨0, hn⟩ (Nat.zero_mod _)
  | succ n ih =>
    have h16 : n + 1 < 16 := hn
    have h0 : ¬(n + 1) % 16 = 0 := by omega
    have e := outsAt0_B m c ⟨n + 1, hn⟩ h0
    rw [e]
    dsimp only
    unfold sout0_B_0
    simp only [Nat.add_sub_cancel]
    exact ih _

/-- What grid point `t` writes back. -/
theorem tile (t : Fin cfg0.N) : (outsAt0 m c t.val t.isLt).1
    = k0_pay2 (F := Ideal) (iblk m c 2 t) (iblk m c 0 t) (k0_pay1 (F := Ideal) (wt m c)) := by
  by_cases h : t.val % 16 = 0
  · rw [outsAt0_A m c t h]
    dsimp only
    refine (out_A c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) ((hcond0_0 t).mpr h)).trans ?_
    have hw : k0_pay1 (F := Ideal) (iblk m c 1 t) = k0_pay1 (F := Ideal) (wt m c) := congrArg (k0_pay1 (F := Ideal)) (w_blk m c t)
    rw [hw]
  · rw [outsAt0_B m c t h]
    dsimp only
    refine (out_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) _ (fun h' => h ((hcond0_0 t).mp h'))).trans ?_
    exact congrArg (fun w : FVec Ideal S2048x2048 .bf16 => k0_pay2 (F := Ideal) (iblk m c 2 t) (iblk m c 0 t) w)
      (kept m c _ _)

/-- The kernel's result at one element. -/
theorem arr_apply (t : Fin cfg0.N) (r : Fin 512) (j : Fin 2048) : (dats m 0 c).arrAt 4 cfg0.N (ix2 (row t r) j)
    = out (m ((c : Thread nD τ).loc main_arg0)) (m ((c : Thread nD τ).loc main_arg1)) (m ((c : Thread nD τ).loc main_arg2))
      (row t r) j := by
  obtain ⟨-, -, -, -, -, -, -, -, h0, h1, hf⟩ := pt_idx t
  have hb := congrFun ((blocks4 m c t hf).trans (flushed4 m c t)) (ix2 r j)
  refine (congrArg _ ?_).trans (hb.trans ?_)
  · funext a
    match a with
    | ⟨0, _⟩ => exact Fin.ext (by show 512 * t.val + r.val = win0_4.index t 0 * 512 + 1 * r.val; rw [h0]; omega)
    | ⟨1, _⟩ => exact Fin.ext (by show j.val = win0_4.index t 1 * 2048 + 1 * j.val; rw [h1]; omega)
  refine (congrFun (tile m c t) (ix2 r j)).trans ((pay2_apply _ _ _ r j).trans ?_)
  unfold out
  exact congrArg₂ (fun a b : EReal => a + b) (h_blk m c t r j) (Finset.sum_congr rfl fun q _ =>
    congrArg (fun a : EReal => a * _) (x_blk m c t r q))

/-! ## The reference -/

open Cert.Reference11Ideal.Read in
/-- The reference's result at one element. -/
theorem ref_apply (x0 : FVec Ideal S8192x2048 .bf16) (x1 : FVec Ideal S2048x2048 .f32) (x2 : FVec Ideal S8192x2048 .f32)
    (i : Fin 8192) (j : Fin 2048) : val_main_v2 (F := Ideal) x0 x1 x2 (ix2 i j) = out x0 x1 x2 i j := by
  rw [val_main_v2_apply, val_main_v1_apply]
  refine congrArg (x2 (ix2 i j) + ·) (Finset.sum_congr rfl fun q _ => congrArg₂ (· * ·) ?_ (congrArg x1 ?_))
  · rw [val_main_v0_apply]
    exact congrArg x0 (by funext a; fin_cases a <;> rfl)
  · funext a; fin_cases a <;> rfl

/-- The kernel's result is the reference's. -/
theorem arr_eq : (dats m 0 c).arrAt 4 cfg0.N = Cert.Reference11Ideal.Read.val_main_v2 (F := Ideal) (m ((c : Thread nD τ).loc main_arg0))
    (m ((c : Thread nD τ).loc main_arg1)) (m ((c : Thread nD τ).loc main_arg2)) := by
  funext y
  have hr : (y 0).val < 8192 := (y 0).isLt
  have ht : (y 0).val / 512 < cfg0.N := by show _ < 16; omega
  have hy : y = ix2 (row ⟨(y 0).val / 512, ht⟩ ⟨(y 0).val % 512, by omega⟩) (y 1) := by
    funext a
    match a with
    | ⟨0, _⟩ => exact Fin.ext (by show (y 0).val = 512 * ((y 0).val / 512) + (y 0).val % 512; omega)
    | ⟨1, _⟩ => rfl
  rw [hy]
  exact (arr_apply m c _ _ _).trans (ref_apply _ _ _ _ _).symm

end Cert.MmPlain
-- ==== Proof.MmPlainClaims.lean ====
/- The claims of the output projection with its residual, without a norm. -/
module

public import proofs.«01_k».proof.Defs
public import proofs.«01_k».proof.Proof.MmPlain
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run

@[expose] public section

noncomputable section

namespace Cert.MmPlain

open Idealize.ShloMosaic Idealize.ShloMosaic.TcCoe Idealize.SL.Sem

/-- The kernel runs and leaves its arguments and semaphores as they were. -/
theorem frame_p : Cert.quiescent_Kernel11 (hKernel11 := Cert.Kernel11.Gen.facts) := fun m ρ _ => Cert.Kernel11.Gen.frame m ρ

/-- So does the kernel over the extended reals. -/
theorem frame_pi : Cert.quiescent_Kernel11Ideal (hKernel11Ideal := Cert.Kernel11Ideal.Gen.facts) := fun m ρ _ => Cert.Kernel11Ideal.Gen.frame m ρ

/-- So does the reference. -/
theorem frame_ri : Cert.quiescent_Reference11Ideal (hReference11Ideal := Cert.Reference11Ideal.Gen.facts) :=
  fun m ρ _ => (θ_run Cert.Reference11Ideal.defs _ _).mono (fun r h => ⟨fun c => (h c).2, sem_eq_zero_of_no_sems (by decide) r.2⟩)
    (Cert.Reference11Ideal.Value.run (F := Ideal) m ρ)

/-- Nothing was rewritten. -/
theorem preserves : Cert.preserves_Kernel11_Kernel11Ideal := trivial

/-- The kernel computes the reference's result. -/
theorem algebraic : Cert.algebraic_Kernel11Ideal_Reference11Ideal (hKernel11Ideal := Cert.Kernel11Ideal.Gen.facts)
    (hReference11Ideal := Cert.Reference11Ideal.Gen.facts) := fun m g m' g' _ hagree => by
  refine ⟨fun c => (Cert.Kernel11Ideal.Gen.dats m 0 c).arrAt 4 Cert.Kernel11Ideal.cfg0.N,
    Cert.Kernel11Ideal.Value.run_blocks m g, ?_⟩
  refine (θ_run Cert.Reference11Ideal.defs _ _).mono (fun r h c => ⟨(h c).1.trans ?_, (h c).2⟩) (Cert.Reference11Ideal.Value.run (F := Ideal) m' g')
  have hm := hagree c
  rw [Cert.Reference11Ideal.Read.val_main_v2_eq, hm.1, hm.2.1, hm.2.2]
  exact (arr_eq m c).symm

end Cert.MmPlain
-- ==== Proof.Shift.lean ====
/- The token shift over the extended reals: normed rows, the difference of each row from the one before it, and the rate that two thin products make of them. -/
module

public import proofs.«01_k».proof.Proof.Rms
public import Idealize.ShloMosaic.Lib.KernelVsHost

@[expose] public section

noncomputable section

namespace Cert.Shift

open Idealize.ShloMosaic Idealize.ShloMosaic.TcCoe Idealize.ShloMosaic.ValueIdx

/-- One over one plus the exponential of the negative. -/
def gate (z : EReal) : EReal := Ideal.div (Ideal.ofBits .f32 0x3F800000#32) (Ideal.ofBits .f32 0x3F800000#32 + Ideal.exp (-z))

/-- A row times a thin matrix times a flat one. -/
def low {r : ℕ} (u : Fin 2048 → EReal) (a : Fin 2048 → Fin r → EReal) (b : Fin r → Fin 2048 → EReal) (j : Fin 2048) : EReal :=
  ∑ k, (∑ q, u q * a q k) * b k j

section Rows

variable {n b : ℕ} (s : ℕ) (hn : n = s * b) (x : Fin n → Fin 2048 → EReal) (sh : Fin b → Fin 2048 → EReal) (g : Fin 2048 → EReal)

/-- The row before: the sequence's carried row where a sequence of `s` rows starts, else the normed row above. -/
def prev (i : Fin n) (j : Fin 2048) : EReal :=
  if i.val % s = 0 then sh ⟨i.val / s, Nat.div_lt_of_lt_mul (hn ▸ i.isLt)⟩ j
  else Rms.norm (x ⟨i.val - 1, lt_of_le_of_lt (Nat.sub_le _ _) i.isLt⟩) g j

/-- The row before less the row. -/
def diff (i : Fin n) (j : Fin 2048) : EReal := prev s hn x sh g i j - Rms.norm (x i) g j

/-- Equal rows and gains have equal differences. -/
theorem diff_congr {x x' : Fin n → Fin 2048 → EReal} {g g' : Fin 2048 → EReal} (hx : ∀ i k, x i k = x' i k) (hg : ∀ k, g k = g' k)
    (i : Fin n) (j : Fin 2048) : diff s hn x sh g i j = diff s hn x' sh g' i j := by
  rw [funext fun i => funext (hx i), funext hg]

/-- The rate of a row: the gate of the thin products of the row moved towards the one before it, and an offset. -/
def rate {r : ℕ} (mu : Fin 2048 → EReal) (a : Fin 2048 → Fin r → EReal) (b : Fin r → Fin 2048 → EReal) (o : Fin 2048 → EReal)
    (i : Fin n) (j : Fin 2048) : EReal :=
  gate (low (fun k => Rms.norm (x i) g k + diff s hn x sh g i k * mu k) a b j + o j)

end Rows

/-- Columns and rows of zeros added to the two thin matrices change nothing. -/
theorem low_pad (u : Fin 2048 → EReal) (a : Fin 2048 → Fin 96 → EReal) (b : Fin 96 → Fin 2048 → EReal)
    (a' : Fin 2048 → Fin 128 → EReal) (b' : Fin 128 → Fin 2048 → EReal)
    (ha : ∀ q (k : Fin 96), a' q (Fin.castAdd 32 k) = a q k) (hb : ∀ (k : Fin 96) j, b' (Fin.castAdd 32 k) j = b k j)
    (h0 : ∀ (k : Fin 32) j, b' (Fin.natAdd 96 k) j = 0) (j : Fin 2048) : low u a' b' j = low u a b j := by
  unfold low
  refine (Fin.sum_univ_add (a := 96) (b := 32) _).trans ?_
  have hz : ∑ k : Fin 32, (∑ q, u q * a' q (Fin.natAdd 96 k)) * b' (Fin.natAdd 96 k) j = 0 :=
    Finset.sum_eq_zero fun k _ => by rw [h0, mul_zero]
  rw [hz, add_zero]
  exact Finset.sum_congr rfl fun k _ => by rw [hb]; exact congrArg (· * b k j) (Finset.sum_congr rfl fun q _ => by rw [ha])

/-- The thin matrix with columns of a fill added, read in a column of its own. -/
theorem pad_cols (x : FVec Ideal ⟨2, ![2048, 96]⟩ .f32) (v : FVec Ideal ⟨0, ![]⟩ .f32)
    (h : (⟨2, ![2048, 96]⟩ : Shape).Pads ![0, 0] ![0, 32] ![0, 0] ⟨2, ![2048, 128]⟩) (hu : 0 < (⟨0, ![]⟩ : Shape).numel)
    (q : Fin 2048) (k : Fin 96) :
    pad ⟨2, ![2048, 128]⟩ ![0, 0] ![0, 32] ![0, 0] x v h hu (ix2 q (Fin.castAdd 32 k)) = x (ix2 q k) :=
  pad_apply_of_inside _ _ _ x v h hu _ (ix2 q k) fun a => by
    match a with
    | ⟨0, _⟩ => show q.val = 0 + q.val * (0 + 1); omega
    | ⟨1, _⟩ => show k.val = 0 + k.val * (0 + 1); omega

/-- The flat matrix with rows of a fill added, read in a row of its own. -/
theorem pad_rows (x : FVec Ideal ⟨2, ![96, 2048]⟩ .f32) (v : FVec Ideal ⟨0, ![]⟩ .f32)
    (h : (⟨2, ![96, 2048]⟩ : Shape).Pads ![0, 0] ![32, 0] ![0, 0] ⟨2, ![128, 2048]⟩) (hu : 0 < (⟨0, ![]⟩ : Shape).numel)
    (k : Fin 96) (j : Fin 2048) :
    pad ⟨2, ![128, 2048]⟩ ![0, 0] ![32, 0] ![0, 0] x v h hu (ix2 (Fin.castAdd 32 k) j) = x (ix2 k j) :=
  pad_apply_of_inside _ _ _ x v h hu _ (ix2 k j) fun a => by
    match a with
    | ⟨0, _⟩ => show k.val = 0 + k.val * (0 + 1); omega
    | ⟨1, _⟩ => show j.val = 0 + j.val * (0 + 1); omega

/-- The flat matrix with rows of zeros added, read in one of those rows. -/
theorem pad_zero (x : FVec Ideal ⟨2, ![96, 2048]⟩ .f32)
    (h : (⟨2, ![96, 2048]⟩ : Shape).Pads ![0, 0] ![32, 0] ![0, 0] ⟨2, ![128, 2048]⟩) (hu : 0 < (⟨0, ![]⟩ : Shape).numel)
    (k : Fin 32) (j : Fin 2048) :
    (pad ⟨2, ![128, 2048]⟩ ![0, 0] ![32, 0] ![0, 0] x (sitofp (F := Ideal) .f32 (fun _ => 0#32)) h hu (ix2 (Fin.natAdd 96 k) j) : EReal) = 0 := by
  refine (pad_apply_of_not_inside _ _ _ x _ h hu _ 0 fun hin => ?_).trans ?_
  · have h2 : ((96 + k.val) - 0) / (0 + 1) < 96 := hin.2.2
    omega
  · show ((BitVec.toInt 0#32 : ℝ) : EReal) = 0
    simp

/-- The gate as a kernel writes it. -/
theorem gate_eq {S : Shape} (z : FVec Ideal S .f32) (i : S.Idx) :
    divf (broadcast S (Scalar.ofBits (F := Ideal) .f32 0x3F800000#32))
      (addf (broadcast S (Scalar.ofBits (F := Ideal) .f32 0x3F800000#32)) (exp (subf (broadcast S (Scalar.ofBits (F := Ideal) .f32 0x00000000#32)) z))) i
      = gate (z i) := by
  show Ideal.div _ (_ + Ideal.exp (Ideal.ofBits .f32 0x00000000#32 - z i)) = _
  have h0 : Ideal.ofBits .f32 0x00000000#32 = 0 := Ideal.ofBits_zero_f32
  rw [h0, zero_sub]
  rfl

/-- The move of a tile's rows by one, its last row coming first, read at an element. -/
theorem rotate_apply {n : ℕ} (x : FVec Ideal ⟨2, ![n, 2048]⟩ .f32) (h : (⟨2, ![n, 2048]⟩ : Shape).Rotates 0 none)
    (r k : Fin n) (hk : k.val + 1 = r.val) (j : Fin 2048) : dynamicRotate 0 1#32 none x h (ix2 r j) = x (ix2 k j) :=
  dynamicRotate_apply _ _ _ _ _ _ fun a => by
    have hr := r.isLt
    match a with
    | ⟨0, _⟩ =>
      show k.val = (r.val + n - 1 % n) % n
      rw [Nat.mod_eq_of_lt (show 1 < n by omega), show r.val + n - 1 = k.val + n by omega, Nat.add_mod_right, Nat.mod_eq_of_lt k.isLt]
    | ⟨1, _⟩ => rfl

end Cert.Shift

end
-- ==== Proof.ShiftPromptRef.lean ====
/- The prompt batch's token shift: the reference's three results, element by element. -/
module

public import proofs.«01_k».proof.Proof.Shift
public import proofs.«01_k».proof.Proof.Gen.Reference7Ideal.Read

@[expose] public section

noncomputable section

namespace Cert.ShiftPrompt

open Cert.Reference7Ideal Cert.Reference7Ideal.Gen Cert.Reference7Ideal.Read Idealize.ShloMosaic Idealize.ShloMosaic.TcCoe Idealize.ShloMosaic.ValueIdx
open Shift

variable (x0 : FVec Ideal S8192x2048 .f32) (x1 : FVec Ideal S4x2048 .f32) (x2 : FVec Ideal S2048 .f32) (x3 : FVec Ideal S6x2048 .f32)
  (x7 : FVec Ideal S2048 .f32) (x8 : FVec Ideal S2048x96 .f32) (x9 : FVec Ideal S96x2048 .f32)

/-- The normed rows. -/
theorem ref_h (i : Fin 8192) (q : Fin 2048) :
    val_main_v12 (F := Ideal) x0 x2 (ix2 i q) = Rms.norm (fun k => x0 (ix2 i k)) (fun k => x2 (ix1 k)) q := by
  rw [val_main_v12_apply, val_main_v9_apply, val_main_v11_apply, val_main_v10_apply, val_main_v8_apply, val_main_v7_apply,
    val_main_v6_apply, val_main_v4_apply, val_main_v5_apply, val_main_v3_apply, val_main_v2_apply, val_main_v1_apply]
  unfold Rms.norm Rms.rstd
  refine congrArg₂ (fun a b : EReal => a * b) (congrArg (HMul.hMul (x0 (ix2 i q) : EReal)) ?_) (congrArg x2 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v0_apply]
  refine congrArg₂ (fun a b : EReal => a * b) ?_ ?_ <;> exact congrArg x0 (by funext a; fin_cases a <;> rfl)

/-- The rows before: in each sequence the carried row, then all of its normed rows but the last. -/
theorem ref_prev (i : Fin 8192) (j : Fin 2048) : val_main_v17 (F := Ideal) x0 x1 x2 (ix2 i j)
    = prev (n := 8192) (b := 4) 2048 rfl (fun i k => x0 (ix2 i k)) (fun b k => x1 (ix2 b k)) (fun k => x2 (ix1 k)) i j := by
  have hi := i.isLt
  have hj := j.isLt
  rw [val_main_v17_apply]
  unfold val_main_v16 prev
  by_cases h : i.val % 2048 = 0
  · rw [if_pos h]
    refine (concatenate_pair_apply_left (t := S4x2048x2048) (s₁ := S4x1x2048) (s₂ := S4x2047x2048) 1 (val_main_v14 (F := Ideal) x1) (val_main_v15 (F := Ideal) x0 x2) _ _ rfl (ix3 ⟨i.val / 2048, by omega⟩ 0 j : S4x1x2048.Idx) fun a => ?_).trans ((val_main_v14_apply (F := Ideal) x1 _).trans (congrArg x1 ?_))
    · match a with
      | ⟨0, _⟩ => show i.val / 2048 = (i.val * 2048 + j.val) / 4194304; omega
      | ⟨1, _⟩ => show 0 = (i.val * 2048 + j.val) / 2048 % 2048; omega
      | ⟨2, _⟩ => show j.val = (i.val * 2048 + j.val) % 2048; omega
    · funext a; fin_cases a <;> rfl
  · rw [if_neg h]
    refine (concatenate_pair_apply_right (t := S4x2048x2048) (s₁ := S4x1x2048) (s₂ := S4x2047x2048) 1 (val_main_v14 (F := Ideal) x1) (val_main_v15 (F := Ideal) x0 x2) _ _ rfl rfl (ix3 ⟨i.val / 2048, by omega⟩ ⟨i.val % 2048 - 1, by omega⟩ j : S4x2047x2048.Idx) (fun a ha => ?_) ?_).trans ?_
    · match a with
      | ⟨0, _⟩ => show i.val / 2048 = (i.val * 2048 + j.val) / 4194304; omega
      | ⟨1, _⟩ => exact absurd rfl ha
      | ⟨2, _⟩ => show j.val = (i.val * 2048 + j.val) % 2048; omega
    · show i.val % 2048 - 1 + 1 = (i.val * 2048 + j.val) / 2048 % 2048; omega
    · rw [val_main_v15_apply, val_main_v13_apply]
      refine (congrArg _ ?_).trans (ref_h x0 x2 ⟨i.val - 1, by omega⟩ j)
      funext a
      match a with
      | ⟨0, _⟩ => exact Fin.ext (by show ((i.val / 2048 * 2048 + (i.val % 2048 - 1)) * 2048 + j.val) / 2048 = i.val - 1; omega)
      | ⟨1, _⟩ => exact Fin.ext (by show ((i.val / 2048 * 2048 + (i.val % 2048 - 1)) * 2048 + j.val) % 2048 = j.val; omega)

/-- The differences. -/
theorem ref_dx (i : Fin 8192) (j : Fin 2048) : val_main_v18 (F := Ideal) x0 x1 x2 (ix2 i j)
    = diff (n := 8192) (b := 4) 2048 rfl (fun i k => x0 (ix2 i k)) (fun b k => x1 (ix2 b k)) (fun k => x2 (ix1 k)) i j :=
  congrArg₂ (fun a b : EReal => a - b) (ref_prev x0 x1 x2 i j) (ref_h x0 x2 i j)

/-- A normed row moved towards the one before it. -/
theorem ref_mix (i : Fin 8192) (q : Fin 2048) : (val_main_v24 (F := Ideal) x0 x1 x2 x3 (ix2 i q) : EReal)
    = Rms.norm (fun k => x0 (ix2 i k)) (fun k => x2 (ix1 k)) q
      + diff (n := 8192) (b := 4) 2048 rfl (fun i k => x0 (ix2 i k)) (fun b k => x1 (ix2 b k)) (fun k => x2 (ix1 k)) i q * x3 (ix2 5 q) := by
  rw [val_main_v24_apply, val_main_v23_apply, val_main_v22_apply, val_main_v21_apply, val_main_v20_apply, val_main_v19_apply]
  refine congrArg₂ (fun a b : EReal => a + b) (ref_h x0 x2 i q) (congrArg₂ (fun a b : EReal => a * b) (ref_dx x0 x1 x2 i q) (congrArg x3 ?_))
  have hq := q.isLt
  funext a
  match a with
  | ⟨0, _⟩ => rfl
  | ⟨1, _⟩ => exact Fin.ext (by show q.val % 2048 = q.val; omega)

/-- The rates. -/
theorem ref_a (i : Fin 8192) (j : Fin 2048) : val_main_v35 (F := Ideal) x0 x1 x2 x3 x7 x8 x9 (ix2 i j)
    = rate (n := 8192) (b := 4) 2048 rfl (fun i k => x0 (ix2 i k)) (fun b k => x1 (ix2 b k)) (fun k => x2 (ix1 k)) (fun k => x3 (ix2 5 k))
        (fun q k => x8 (ix2 q k)) (fun k j => x9 (ix2 k j)) (fun k => x7 (ix1 k)) i j := by
  rw [val_main_v35_apply, val_main_v34_apply, val_main_v33_apply, val_main_v32_apply, val_main_v31_apply, val_main_v30_apply, val_main_v29_apply, val_main_v28_apply,
    val_main_v27_apply, val_main_v26_apply]
  unfold rate low
  refine congrArg gate ((add_comm _ _).trans (congrArg₂ (fun a b : EReal => a + b) (Finset.sum_congr rfl fun k _ => ?_) (congrArg x7 (by funext a; fin_cases a; rfl))))
  refine congrArg₂ (fun a b : EReal => a * b) ?_ (congrArg x9 (by funext a; fin_cases a <;> rfl))
  rw [val_main_v25_apply]
  refine Finset.sum_congr rfl fun q _ => congrArg₂ (fun a b : EReal => a * b) ((congrArg _ ?_).trans (ref_mix x0 x1 x2 x3 i q)) (congrArg x8 ?_)
  · funext a; fin_cases a <;> rfl
  · funext a; fin_cases a <;> rfl

end Cert.ShiftPrompt

end
-- ==== Proof.ShiftPrompt.lean ====
/- The prompt batch's token shift: what a tile of 512 rows stores in the kernel's three results, element by element. -/
module

public import proofs.«01_k».proof.Proof.ShiftPromptRef
public import proofs.«01_k».proof.Proof.Gen.Kernel7Ideal.Value

@[expose] public section

noncomputable section

namespace Cert.ShiftPrompt

open Cert.Kernel7Ideal Cert.Kernel7Ideal.Gen Cert.Kernel7Ideal.Value Idealize.ShloMosaic Idealize.ShloMosaic.TcCoe Idealize.ShloMosaic.ValueIdx
open Shift

variable (x0 : FVec Ideal S512x2048 .f32) (x1 : FVec Ideal S1x8x2048 .f32) (x2 : FVec Ideal S1x1x2048 .f32) (x3 : FVec Ideal S1x2048 .f32)
  (x4 : FVec Ideal S6x2048 .f32) (x5 : FVec Ideal S2048x128 .bf16) (x6 : FVec Ideal S128x2048 .bf16) (x7 : FVec Ideal S1x2048 .f32)
  (x8 : FVec Ideal S2048x128 .bf16) (x9 : FVec Ideal S128x2048 .bf16) (x10 : FVec Ideal S1x2048 .f32)

/-- Which row of a tile is its first. -/
theorem first : ∀ r : Fin 512, (cmpi .eq (iota .tc S512x1 32 [0] iota_S512x1_d0_w32) (broadcast S512x1 0#32) : IVec S512x1 1) (ix2 r 0)
    = if r.val = 0 then 1#1 else 0#1 := by
  decide +kernel

/-- The period that the tile's first row is taken modulo. -/
def per : BitVec 32 := Scalar.select (Scalar.cmpi .eq 2048#32 0#32) 1#32 2048#32

/-- The remainder of the tile's first row. -/
def rem (i : grid0.Coords) : BitVec 32 := Scalar.remsi (Scalar.muli (BitVec.ofNat 32 (i 0).val) 512#32) per

/-- Whether the tile starts a sequence, as the kernel reckons it. -/
def fresh (i : grid0.Coords) : BitVec 1 :=
  Scalar.cmpi .eq (Scalar.select (Scalar.andi (Scalar.xori (Scalar.cmpi .slt (rem i) 0#32) (Scalar.cmpi .slt per 0#32)) (Scalar.cmpi .ne (rem i) 0#32))
    (Scalar.addi (rem i) per) (rem i)) 0#32

/-- Every fourth tile starts a sequence. -/
theorem fresh_eq : ∀ t : Fin grid0.N, fresh (grid0.coords t) = if t.val % 4 = 0 then 1#1 else 0#1 := by
  decide +kernel

/-- The differences that a tile stores, of its blocks. -/
def dxTile (i : grid0.Coords) : FVec Ideal S512x2048 .f32 :=
  k0_pay7 (F := Ideal) (k0_pay4 x3 x0) (k0_pay5 x3 x0) (iota .tc S512x1 32 [0] iota_S512x1_d0_w32) (k0_pay6 x3 x1) per (rem i)
    (Scalar.cmpi .ne (rem i) 0#32) (Scalar.cmpi .slt (rem i) 0#32) (Scalar.cmpi .slt per 0#32) x2

theorem h_apply (r : Fin 512) (j : Fin 2048) : k0_pay4 (F := Ideal) x3 x0 (ix2 r j) = Rms.norm (fun k => x0 (ix2 r k)) (fun k => x3 (ix2 0 k)) j :=
  Rms.tile_apply x0 x3 _ _ _ _ shapeCasts_S1x2048_S1x2048 r j

/-- The normed rows above the tile. -/
theorem halo_apply (r : Fin 8) (j : Fin 2048) :
    k0_pay6 (F := Ideal) x3 x1 (ix2 r j) = Rms.norm (fun k => x1 (ix3 0 r k)) (fun k => x3 (ix2 0 k)) j := by
  refine (Rms.tile_apply (shapeCast S8x2048 x1 shapeCasts_S1x8x2048_S8x2048) x3 _ _ _ _ shapeCasts_S1x2048_S1x2048 r j).trans ?_
  refine congrArg (fun y => Rms.norm y _ j) (funext fun k => ?_)
  exact shapeCast_1ab_ab_apply _ _ _ _

/-- The last of eight rows cut out. -/
theorem last_apply (y : FVec Ideal S8x2048 .f32) (j : Fin 2048) :
    extractStridedSlice S1x2048 ![7, 0] y slices_S8x2048_o7_0_S1x2048 (ix2 (0 : Fin 1) j) = y (ix2 (7 : Fin 8) j) :=
  extractStridedSlice_apply ![7, 0] y slices_S8x2048_o7_0_S1x2048 _ _ fun a => match a with
    | ⟨0, _⟩ => rfl
    | ⟨1, _⟩ => by show j.val = 0 + j.val; omega

/-- The row that a tile's first row is differenced with: the carried one where the tile starts a sequence, else the normed row above the tile. -/
def above (i : grid0.Coords) (j : Fin 2048) : EReal :=
  if fresh i = 1#1 then x2 (ix3 0 0 j) else Rms.norm (fun k => x1 (ix3 0 7 k)) (fun k => x3 (ix2 0 k)) j

theorem dx_apply (i : grid0.Coords) (r : Fin 512) (j : Fin 2048) : dxTile x0 x1 x2 x3 i (ix2 r j)
    = (if r.val = 0 then above x1 x2 x3 i j
        else Rms.norm (fun k => x0 (ix2 (⟨r.val - 1, by have := r.isLt; omega⟩ : Fin 512) k)) (fun k => x3 (ix2 0 k)) j)
      - Rms.norm (fun k => x0 (ix2 r k)) (fun k => x3 (ix2 0 k)) j := by
  unfold dxTile k0_pay7
  refine congrArg₂ (fun a b : EReal => a - b) ?_ (h_apply x0 x3 r j)
  have hb : broadcastTo S512x2048 (shapeCast S512x1 (cmpi .eq (iota .tc S512x1 32 [0] iota_S512x1_d0_w32) (broadcast S512x1 0#32) : IVec S512x1 1)
      shapeCasts_S512x1_S512x1) broadcasts_S512x1_S512x2048 (ix2 r j) = if r.val = 0 then 1#1 else 0#1 := by
    rw [shapeCast_self]
    refine (broadcastTo_apply _ _ (ix2 r j) (ix2 r 0) fun a => ?_).trans (first r)
    match a with
    | ⟨0, _⟩ => rfl
    | ⟨1, _⟩ => rfl
  show Scalar.select (broadcastTo S512x2048 _ _ (ix2 r j)) (broadcastTo S512x2048 _ _ (ix2 r j)) (k0_pay5 (F := Ideal) x3 x0 (ix2 r j)) = _
  rw [hb]
  by_cases h : r.val = 0
  · rw [if_pos h, if_pos h]
    refine (if_pos rfl).trans ((broadcastTo_1b_ab_apply _ _ _ _).trans ?_)
    rw [shapeCast_self]
    show (if fresh i = 1#1 then shapeCast S1x2048 x2 shapeCasts_S1x1x2048_S1x2048
      else extractStridedSlice S1x2048 ![7, 0] (k0_pay6 (F := Ideal) x3 x1) slices_S8x2048_o7_0_S1x2048) (ix2 0 j) = _
    unfold above
    by_cases hf : fresh i = 1#1
    · rw [if_pos hf, if_pos hf]
      exact shapeCast_1ab_ab_apply _ _ _ _
    · rw [if_neg hf, if_neg hf]
      exact (last_apply _ j).trans (halo_apply x1 x3 7 j)
  · rw [if_neg h, if_neg h]
    refine (if_neg (by decide)).trans ((rotate_apply (k0_pay4 (F := Ideal) x3 x0) rotates_S512x2048_d0 r ⟨r.val - 1, by have := r.isLt; omega⟩ (by show r.val - 1 + 1 = r.val; omega) j).trans ?_)
    exact h_apply x0 x3 _ j

/-- An element of the thin product. -/
theorem mm1_apply (x : FVec Ideal S512x2048 .bf16) (w : FVec Ideal S2048x128 .bf16) (r : Fin 512) (j : Fin 128) :
    matmul dot_S512x2048_S2048x128_S512x128_1_0_0_1_n_n none x w (constant S512x128 .f32 0x00000000#32) (ix2 r j)
      = ∑ q : Fin 2048, (x (ix2 r q) : EReal) * w (ix2 q j) := by
  refine (Ideal.matmul_constant_zero_apply _ none _ _ _).trans ?_
  refine Fintype.sum_equiv (contrEquiv1 dot_S512x2048_S2048x128_S512x128_1_0_0_1_n_n 2048 rfl rfl) _ _ fun q => ?_
  refine congrArg₂ (fun a b : EReal => a * b) (congrArg x ?_) (congrArg w ?_) <;> (funext a; fin_cases a <;> rfl)

/-- An element of the flat product. -/
theorem mm2_apply (x : FVec Ideal S512x128 .bf16) (w : FVec Ideal S128x2048 .bf16) (r : Fin 512) (j : Fin 2048) :
    matmul dot_S512x128_S128x2048_S512x2048_1_0_0_1_n_n none x w (constant S512x2048 .f32 0x00000000#32) (ix2 r j)
      = ∑ q : Fin 128, (x (ix2 r q) : EReal) * w (ix2 q j) := by
  refine (Ideal.matmul_constant_zero_apply _ none _ _ _).trans ?_
  refine Fintype.sum_equiv (contrEquiv1 dot_S512x128_S128x2048_S512x2048_1_0_0_1_n_n 128 rfl rfl) _ _ fun q => ?_
  refine congrArg₂ (fun a b : EReal => a * b) (congrArg x ?_) (congrArg w ?_) <;> (funext a; fin_cases a <;> rfl)

/-- The rate that a tile stores, from the normed rows, the differences, a row of the mixing weights and the padded matrices. -/
theorem a_apply (h dx : FVec Ideal S512x2048 .f32) (mu : FVec Ideal S1x2048 .f32) (r : Fin 512) (j : Fin 2048) :
    k0_pay2 (F := Ideal) h dx mu x8 x9 x10 (ix2 r j)
      = gate (low (fun k => h (ix2 r k) + dx (ix2 r k) * mu (ix2 0 k)) (fun q k => x8 (ix2 q k)) (fun k j => x9 (ix2 k j)) j + x10 (ix2 0 j)) := by
  unfold k0_pay2
  refine (gate_eq _ _).trans (congrArg gate (congrArg₂ (fun a b : EReal => a + b) ?_ ?_))
  · refine (mm2_apply _ _ r j).trans (Finset.sum_congr rfl fun k _ => congrArg₂ (fun a b : EReal => a * b) ((mm1_apply _ _ r k).trans ?_) ?_)
    · refine Finset.sum_congr rfl fun q _ => congrArg₂ (fun a b : EReal => a * b) (congrArg (fun b : EReal => h (ix2 r q) + dx (ix2 r q) * b) ?_) ?_
      · exact broadcastTo_1b_ab_apply _ _ _ _
      · rw [shapeCast_self]
    · rw [shapeCast_self]
  · rw [shapeCast_self]
    exact broadcastTo_1b_ab_apply _ _ _ _

theorem ld_x : View.ld (Val := Elt Ideal) (e' := .f32) x0 r0_1 = x0 :=
  View.ld_unit_lit (S := S512x2048) (Val := Elt Ideal) (e := .f32) (off := ![0, 0]) inb_S512x2048_S512x2048_0_0 x0 (by decide)

theorem ld_row : View.ld (Val := Elt Ideal) (e' := .f32) x3 r0_0 = x3 :=
  View.ld_unit_lit (S := S1x2048) (Val := Elt Ideal) (e := .f32) (off := ![0, 0]) inb_S1x2048_S1x2048_0_0 x3 (by decide)

theorem ld_halo : View.ld (Val := Elt Ideal) (e' := .f32) x1 r0_2 = x1 :=
  View.ld_unit_lit (S := S1x8x2048) (Val := Elt Ideal) (e := .f32) (off := ![0, 0, 0]) inb_S1x8x2048_S1x8x2048_0_0_0 x1 (by decide)

theorem ld_sh : View.ld (Val := Elt Ideal) (e' := .f32) x2 r0_3 = x2 :=
  View.ld_unit_lit (S := S1x1x2048) (Val := Elt Ideal) (e := .f32) (off := ![0, 0, 0]) inb_S1x1x2048_S1x1x2048_0_0_0 x2 (by decide)

theorem out11_eq (i : grid0.Coords) : out0_11 (F := Ideal) i x0 x1 x2 x3 x4 x5 x6 x7 x8 x9 x10 = k0_pay4 (F := Ideal) x3 x0 := by
  unfold out0_11 k0_pay10
  refine (View.canon_cons_unit_lit _ _ _ (by decide)).trans ?_
  rw [ld_x x0, ld_row x3]

theorem out12_eq (i : grid0.Coords) : out0_12 (F := Ideal) i x0 x1 x2 x3 x4 x5 x6 x7 x8 x9 x10 = dxTile x0 x1 x2 x3 i := by
  unfold out0_12 k0_pay12 k0_pay11 k0_pay10 k0_pay9
  refine (View.canon_cons_unit_lit _ _ _ (by decide)).trans ?_
  rw [ld_x x0, ld_row x3, ld_halo x1, ld_sh x2]
  rfl

theorem out14_eq (i : grid0.Coords) : out0_14 (F := Ideal) i x0 x1 x2 x3 x4 x5 x6 x7 x8 x9 x10
    = k0_pay2 (F := Ideal) (k0_pay4 x3 x0) (dxTile x0 x1 x2 x3 i) (View.ld (Val := Elt Ideal) (e' := .f32) x4 r0_7) x8 x9 x10 := by
  unfold out0_14 k0_pay12 k0_pay11 k0_pay10 k0_pay9
  refine (View.canon_cons_unit_lit _ _ _ (by decide)).trans ?_
  have e8 := View.ld_unit_lit (S := S2048x128) (Val := Elt Ideal) (e := .bf16) (off := ![0, 0]) inb_S2048x128_S2048x128_0_0 x8 (by decide)
  have e9 := View.ld_unit_lit (S := S128x2048) (Val := Elt Ideal) (e := .bf16) (off := ![0, 0]) inb_S128x2048_S128x2048_0_0 x9 (by decide)
  rw [ld_x x0, ld_row x3, ld_halo x1, ld_sh x2, ld_row x10]
  exact congrArg₂ (fun a b => k0_pay2 (F := Ideal) (k0_pay4 x3 x0) (dxTile x0 x1 x2 x3 i) (View.ld (Val := Elt Ideal) (e' := .f32) x4 r0_7) a b x10) e8 e9

theorem mu_row (k : Fin 2048) : View.ld (Val := Elt Ideal) (e' := .f32) x4 r0_7 (ix2 0 k) = x4 (ix2 5 k) := by
  refine congrArg x4 ?_
  funext a
  match a with
  | ⟨0, _⟩ => rfl
  | ⟨1, _⟩ => exact Fin.ext (by show 0 + 1 * k.val = k.val; omega)

end Cert.ShiftPrompt

end
-- ==== Proof.ShiftPromptVal.lean ====
/- The prompt batch's token shift: the kernel's three results, element by element, and their equations with the reference's. -/
module

public import proofs.«01_k».proof.Proof.ShiftPrompt

@[expose] public section

noncomputable section

namespace Cert.ShiftPrompt

open Cert.Kernel7Ideal Cert.Kernel7Ideal.Gen Cert.Kernel7Ideal.Value Idealize.ShloMosaic Idealize.ShloMosaic.TcCoe Idealize.ShloMosaic.ValueIdx
open Shift

variable (m : (ℓ : Loc nD τ sig) → Buf (Elt Ideal) ℓ) (c : Dev nD)

/-- Which tile of the rows, which rows above it and which carried row a grid point uses, and the tile of each result. -/
theorem pt_rows : ∀ t : Fin grid0.N, win0_0.index t 0 = t.val ∧ win0_0.index t 1 = 0
    ∧ win0_1.index t 0 = 64 * t.val - 1 ∧ win0_1.index t 1 = 0 ∧ win0_1.index t 2 = 0
    ∧ win0_2.index t 0 = t.val / 4 ∧ win0_2.index t 1 = 0 ∧ win0_2.index t 2 = 0
    ∧ win0_11.index t 0 = t.val ∧ win0_11.index t 1 = 0 ∧ win0_11.flush t = true
    ∧ win0_12.index t 0 = t.val ∧ win0_12.index t 1 = 0 ∧ win0_12.flush t = true
    ∧ win0_14.index t 0 = t.val ∧ win0_14.index t 1 = 0 ∧ win0_14.flush t = true := by
  decide +kernel

/-- Every grid point uses the other arrays whole. -/
theorem pt_whole : ∀ t : Fin grid0.N, (∀ a, win0_3.index t a = 0) ∧ (∀ a, win0_4.index t a = 0) ∧ (∀ a, win0_8.index t a = 0)
    ∧ (∀ a, win0_9.index t a = 0) ∧ (∀ a, win0_10.index t a = 0) := by
  decide +kernel

/-- Row `r` of tile `t`. -/
def rowOf (t : Fin cfg0.N) (r : Fin 512) : Fin 8192 := ⟨512 * t.val + r.val, by
  have h : t.val < 16 := t.isLt
  have := r.isLt; omega⟩

theorem x_blk (t : Fin cfg0.N) (r : Fin 512) (k : Fin 2048) : iblk m c 0 t (ix2 r k) = m ((c : Thread nD τ).loc main_arg0) (ix2 (rowOf t r) k) := by
  obtain ⟨h0, h1, -⟩ := pt_rows t
  unfold iblk
  refine (congrFun (V_main_arg0 m c) _).trans (congrArg _ ?_)
  funext a
  match a with
  | ⟨0, _⟩ => exact Fin.ext (by show win0_0.index t 0 * 512 + 1 * r.val = 512 * t.val + r.val; rw [h0]; omega)
  | ⟨1, _⟩ => exact Fin.ext (by show win0_0.index t 1 * 2048 + 1 * k.val = k.val; rw [h1]; omega)

/-- The last of the eight rows above a tile that is not the first is the row above the tile. -/
theorem halo_blk (t : Fin cfg0.N) (ht : t.val ≠ 0) (k : Fin 2048) : iblk m c 1 t (ix3 0 7 k)
    = m ((c : Thread nD τ).loc main_arg0) (ix2 (⟨(rowOf t 0).val - 1, lt_of_le_of_lt (Nat.sub_le _ _) (rowOf t 0).isLt⟩ : Fin 8192) k) := by
  obtain ⟨-, -, h0, h1, h2, -⟩ := pt_rows t
  have hl : t.val < 16 := t.isLt
  have hv : V m c main_v9 = shapeCast S1024x8x2048 (m ((c : Thread nD τ).loc main_arg0)) shapeCasts_S8192x2048_S1024x8x2048 := rfl
  refine Eq.trans (b := V m c main_v9 (ix3 ⟨64 * t.val - 1, by omega⟩ 7 k : S1024x8x2048.Idx)) ?_ ?_
  · unfold iblk
    refine congrArg (V m c main_v9) ?_
    funext a
    match a with
    | ⟨0, _⟩ => exact Fin.ext (by show win0_1.index t 0 * 1 + 1 * 0 = 64 * t.val - 1; rw [h0]; omega)
    | ⟨1, _⟩ => exact Fin.ext (by show win0_1.index t 1 * 8 + 1 * 7 = 7; rw [h1])
    | ⟨2, _⟩ => exact Fin.ext (by show win0_1.index t 2 * 2048 + 1 * k.val = k.val; rw [h2]; omega)
  · rw [hv]
    refine shapeCast_apply _ shapeCasts_S8192x2048_S1024x8x2048 _ _ ?_
    rewrite [Shape.rowMajor_val_three, Shape.rowMajor_val_two]
    show (512 * t.val + 0 - 1) * 2048 + k.val = ((64 * t.val - 1) * 8 + 7) * 2048 + k.val
    omega

theorem sh_blk (t : Fin cfg0.N) (k : Fin 2048) : iblk m c 2 t (ix3 0 0 k)
    = m ((c : Thread nD τ).loc main_arg1) (ix2 (⟨t.val / 4, by have h : t.val < 16 := t.isLt; omega⟩ : Fin 4) k) := by
  obtain ⟨-, -, -, -, -, h0, h1, h2, -⟩ := pt_rows t
  have hl : t.val < 16 := t.isLt
  have hv : V m c main_v8 = shapeCast S4x1x2048 (m ((c : Thread nD τ).loc main_arg1)) shapeCasts_S4x2048_S4x1x2048 := rfl
  refine Eq.trans (b := V m c main_v8 (ix3 ⟨t.val / 4, by omega⟩ 0 k : S4x1x2048.Idx)) ?_ ?_
  · unfold iblk
    refine congrArg (V m c main_v8) ?_
    funext a
    match a with
    | ⟨0, _⟩ => exact Fin.ext (by show win0_2.index t 0 * 1 + 1 * 0 = t.val / 4; rw [h0]; omega)
    | ⟨1, _⟩ => exact Fin.ext (by show win0_2.index t 1 * 1 + 1 * 0 = 0; rw [h1])
    | ⟨2, _⟩ => exact Fin.ext (by show win0_2.index t 2 * 2048 + 1 * k.val = k.val; rw [h2]; omega)
  · rw [hv]
    refine shapeCast_apply _ shapeCasts_S4x2048_S4x1x2048 _ _ ?_
    rewrite [Shape.rowMajor_val_three, Shape.rowMajor_val_two]
    show t.val / 4 * 2048 + k.val = (t.val / 4 * 1 + 0) * 2048 + k.val
    omega

theorem g_blk (t : Fin cfg0.N) (k : Fin 2048) : iblk m c 3 t (ix2 0 k) = m ((c : Thread nD τ).loc main_arg2) (ix1 k) := by
  have h := (pt_whole t).1
  have hv : V m c main_v10 = shapeCast S1x2048 (m ((c : Thread nD τ).loc main_arg2)) shapeCasts_S2048_S1x2048 := rfl
  refine Eq.trans (b := V m c main_v10 (ix2 0 k)) ?_ (by rw [hv]; exact shapeCast_a_1a_apply _ _ _ _)
  unfold iblk
  refine congrArg (V m c main_v10) ?_
  funext a
  match a with
  | ⟨0, _⟩ => exact Fin.ext (by show win0_3.index t 0 * 1 + 1 * 0 = 0; rw [h])
  | ⟨1, _⟩ => exact Fin.ext (by show win0_3.index t 1 * 2048 + 1 * k.val = k.val; rw [h]; omega)

theorem mu_blk (t : Fin cfg0.N) (k : Fin 2048) : iblk m c 4 t (ix2 5 k) = m ((c : Thread nD τ).loc main_arg3) (ix2 5 k) := by
  have h := (pt_whole t).2.1
  unfold iblk
  refine (congrFun (V_main_arg3 m c) _).trans (congrArg _ ?_)
  funext a
  match a with
  | ⟨0, _⟩ => exact Fin.ext (by show win0_4.index t 0 * 6 + 1 * 5 = 5; rw [h])
  | ⟨1, _⟩ => exact Fin.ext (by show win0_4.index t 1 * 2048 + 1 * k.val = k.val; rw [h]; omega)

theorem a1_blk (t : Fin cfg0.N) (q : Fin 2048) (k : Fin 128) : (iblk m c 8 t (ix2 q k) : EReal)
    = pad S2048x128 ![0, 0] ![0, 32] ![0, 0] (m ((c : Thread nD τ).loc main_arg8)) (sitofp (F := Ideal) .f32 (fun _ => 0#32)) pads_S2048x96_S2048x128_000_0320 h_S_ (ix2 q k) := by
  have h := (pt_whole t).2.2.1
  unfold iblk
  refine Eq.trans (b := V m c main_v5 (ix2 q k)) (congrArg (V m c main_v5) ?_) rfl
  funext a
  match a with
  | ⟨0, _⟩ => exact Fin.ext (by show win0_8.index t 0 * 2048 + 1 * q.val = q.val; rw [h]; omega)
  | ⟨1, _⟩ => exact Fin.ext (by show win0_8.index t 1 * 128 + 1 * k.val = k.val; rw [h]; omega)

theorem a2_blk (t : Fin cfg0.N) (k : Fin 128) (j : Fin 2048) : (iblk m c 9 t (ix2 k j) : EReal)
    = pad S128x2048 ![0, 0] ![32, 0] ![0, 0] (m ((c : Thread nD τ).loc main_arg9)) (sitofp (F := Ideal) .f32 (fun _ => 0#32)) pads_S96x2048_S128x2048_0320_000 h_S_ (ix2 k j) := by
  have h := (pt_whole t).2.2.2.1
  unfold iblk
  refine Eq.trans (b := V m c main_v7 (ix2 k j)) (congrArg (V m c main_v7) ?_) rfl
  funext a
  match a with
  | ⟨0, _⟩ => exact Fin.ext (by show win0_9.index t 0 * 128 + 1 * k.val = k.val; rw [h]; omega)
  | ⟨1, _⟩ => exact Fin.ext (by show win0_9.index t 1 * 2048 + 1 * j.val = j.val; rw [h]; omega)

theorem a0_blk (t : Fin cfg0.N) (k : Fin 2048) : iblk m c 10 t (ix2 0 k) = m ((c : Thread nD τ).loc main_arg7) (ix1 k) := by
  have h := (pt_whole t).2.2.2.2
  have hv : V m c main_v12 = shapeCast S1x2048 (m ((c : Thread nD τ).loc main_arg7)) shapeCasts_S2048_S1x2048 := rfl
  refine Eq.trans (b := V m c main_v12 (ix2 0 k)) ?_ (by rw [hv]; exact shapeCast_a_1a_apply _ _ _ _)
  unfold iblk
  refine congrArg (V m c main_v12) ?_
  funext a
  match a with
  | ⟨0, _⟩ => exact Fin.ext (by show win0_10.index t 0 * 1 + 1 * 0 = 0; rw [h])
  | ⟨1, _⟩ => exact Fin.ext (by show win0_10.index t 1 * 2048 + 1 * k.val = k.val; rw [h]; omega)

/-! ## The results -/

/-- A normed row of the tile is the normed row. -/
theorem h_blk (t : Fin cfg0.N) (r : Fin 512) (j : Fin 2048) : Rms.norm (fun k => iblk m c 0 t (ix2 r k)) (fun k => iblk m c 3 t (ix2 0 k)) j
    = Rms.norm (fun k => m ((c : Thread nD τ).loc main_arg0) (ix2 (rowOf t r) k)) (fun k => m ((c : Thread nD τ).loc main_arg2) (ix1 k)) j :=
  congrArg₂ (Rms.norm · · j) (funext fun k => x_blk m c t r k) (funext fun k => g_blk m c t k)

/-- The row before a row of the tile is the row before it in its sequence. -/
theorem prev_blk (t : Fin cfg0.N) (r : Fin 512) (j : Fin 2048) :
    (if r.val = 0 then above (iblk m c 1 t) (iblk m c 2 t) (iblk m c 3 t) (grid0.coords t) j
      else Rms.norm (fun k => iblk m c 0 t (ix2 (⟨r.val - 1, by have := r.isLt; omega⟩ : Fin 512) k)) (fun k => iblk m c 3 t (ix2 0 k)) j)
    = prev (n := 8192) (b := 4) 2048 rfl (fun i k => m ((c : Thread nD τ).loc main_arg0) (ix2 i k)) (fun b k => m ((c : Thread nD τ).loc main_arg1) (ix2 b k))
        (fun k => m ((c : Thread nD τ).loc main_arg2) (ix1 k)) (rowOf t r) j := by
  have hr := r.isLt
  have hl : t.val < 16 := t.isLt
  unfold prev
  by_cases h : r.val = 0
  · rw [if_pos h]
    unfold above
    rw [fresh_eq t]
    by_cases h4 : t.val % 4 = 0
    · rw [if_pos h4, if_pos rfl, if_pos (show (rowOf t r).val % 2048 = 0 by show (512 * t.val + r.val) % 2048 = 0; omega)]
      refine (sh_blk m c t j).trans (congrArg (fun b => m ((c : Thread nD τ).loc main_arg1) (ix2 b j)) (Fin.ext ?_))
      show t.val / 4 = (512 * t.val + r.val) / 2048
      omega
    · rw [if_neg h4, if_neg (by decide), if_neg (show ¬(rowOf t r).val % 2048 = 0 by show ¬(512 * t.val + r.val) % 2048 = 0; omega)]
      refine congrArg₂ (Rms.norm · · j) (funext fun k => (halo_blk m c t (by omega) k).trans ?_) (funext fun k => g_blk m c t k)
      refine congrArg (fun i => m ((c : Thread nD τ).loc main_arg0) (ix2 i k)) (Fin.ext ?_)
      show 512 * t.val + 0 - 1 = 512 * t.val + r.val - 1
      omega
  · rw [if_neg h, if_neg (show ¬(rowOf t r).val % 2048 = 0 by show ¬(512 * t.val + r.val) % 2048 = 0; omega)]
    refine (h_blk m c t _ j).trans (congrArg (fun i => Rms.norm (fun k => m ((c : Thread nD τ).loc main_arg0) (ix2 i k)) _ j) (Fin.ext ?_))
    show 512 * t.val + (r.val - 1) = 512 * t.val + r.val - 1
    omega

theorem dx_blk (t : Fin cfg0.N) (r : Fin 512) (j : Fin 2048) :
    dxTile (iblk m c 0 t) (iblk m c 1 t) (iblk m c 2 t) (iblk m c 3 t) (grid0.coords t) (ix2 r j)
    = diff (n := 8192) (b := 4) 2048 rfl (fun i k => m ((c : Thread nD τ).loc main_arg0) (ix2 i k)) (fun b k => m ((c : Thread nD τ).loc main_arg1) (ix2 b k))
        (fun k => m ((c : Thread nD τ).loc main_arg2) (ix1 k)) (rowOf t r) j :=
  (dx_apply _ _ _ _ _ r j).trans (congrArg₂ (fun a b : EReal => a - b) (prev_blk m c t r j) (h_blk m c t r j))

theorem arr11_apply (t : Fin cfg0.N) (r : Fin 512) (j : Fin 2048) : (dats m 0 c).arrAt 11 cfg0.N (ix2 (rowOf t r) j)
    = Rms.norm (fun k => m ((c : Thread nD τ).loc main_arg0) (ix2 (rowOf t r) k)) (fun k => m ((c : Thread nD τ).loc main_arg2) (ix1 k)) j := by
  obtain ⟨-, -, -, -, -, -, -, -, h0, h1, hf, -⟩ := pt_rows t
  have hb := congrFun ((blocks11 m c t hf).trans (flushed11 m c t)) (ix2 r j)
  refine (congrArg _ ?_).trans (hb.trans ((congrFun (out11_eq _ _ _ _ _ _ _ _ _ _ _ _) (ix2 r j)).trans ((h_apply _ _ r j).trans (h_blk m c t r j))))
  funext a
  match a with
  | ⟨0, _⟩ => exact Fin.ext (by show 512 * t.val + r.val = win0_11.index t 0 * 512 + 1 * r.val; rw [h0]; omega)
  | ⟨1, _⟩ => exact Fin.ext (by show j.val = win0_11.index t 1 * 2048 + 1 * j.val; rw [h1]; omega)

theorem arr12_apply (t : Fin cfg0.N) (r : Fin 512) (j : Fin 2048) : (dats m 0 c).arrAt 12 cfg0.N (ix2 (rowOf t r) j)
    = diff (n := 8192) (b := 4) 2048 rfl (fun i k => m ((c : Thread nD τ).loc main_arg0) (ix2 i k)) (fun b k => m ((c : Thread nD τ).loc main_arg1) (ix2 b k))
        (fun k => m ((c : Thread nD τ).loc main_arg2) (ix1 k)) (rowOf t r) j := by
  obtain ⟨-, -, -, -, -, -, -, -, -, -, -, h0, h1, hf, -⟩ := pt_rows t
  have hb := congrFun ((blocks12 m c t hf).trans (flushed12 m c t)) (ix2 r j)
  refine (congrArg _ ?_).trans (hb.trans ((congrFun (out12_eq _ _ _ _ _ _ _ _ _ _ _ _) (ix2 r j)).trans (dx_blk m c t r j)))
  funext a
  match a with
  | ⟨0, _⟩ => exact Fin.ext (by show 512 * t.val + r.val = win0_12.index t 0 * 512 + 1 * r.val; rw [h0]; omega)
  | ⟨1, _⟩ => exact Fin.ext (by show j.val = win0_12.index t 1 * 2048 + 1 * j.val; rw [h1]; omega)

theorem arr14_apply (t : Fin cfg0.N) (r : Fin 512) (j : Fin 2048) : (dats m 0 c).arrAt 14 cfg0.N (ix2 (rowOf t r) j)
    = rate (n := 8192) (b := 4) 2048 rfl (fun i k => m ((c : Thread nD τ).loc main_arg0) (ix2 i k)) (fun b k => m ((c : Thread nD τ).loc main_arg1) (ix2 b k))
        (fun k => m ((c : Thread nD τ).loc main_arg2) (ix1 k)) (fun k => m ((c : Thread nD τ).loc main_arg3) (ix2 5 k))
        (fun q k => m ((c : Thread nD τ).loc main_arg8) (ix2 q k)) (fun k j => m ((c : Thread nD τ).loc main_arg9) (ix2 k j))
        (fun k => m ((c : Thread nD τ).loc main_arg7) (ix1 k)) (rowOf t r) j := by
  obtain ⟨-, -, -, -, -, -, -, -, -, -, -, -, -, -, h0, h1, hf⟩ := pt_rows t
  have hb := congrFun ((blocks14 m c t hf).trans (flushed14 m c t)) (ix2 r j)
  refine (congrArg _ ?_).trans (hb.trans ((congrFun (out14_eq _ _ _ _ _ _ _ _ _ _ _ _) (ix2 r j)).trans ((a_apply _ _ _ _ _ _ r j).trans ?_)))
  · funext a
    match a with
    | ⟨0, _⟩ => exact Fin.ext (by show 512 * t.val + r.val = win0_14.index t 0 * 512 + 1 * r.val; rw [h0]; omega)
    | ⟨1, _⟩ => exact Fin.ext (by show j.val = win0_14.index t 1 * 2048 + 1 * j.val; rw [h1]; omega)
  · unfold rate
    refine congrArg gate (congrArg₂ (fun a b : EReal => a + b) ?_ (a0_blk m c t j))
    refine (congrArg (fun u => low u _ _ j) (funext fun k => ?_)).trans (low_pad _ _ _ _ _
      (fun q k => (a1_blk m c t q _).trans (pad_cols _ _ _ _ q k)) (fun k j => (a2_blk m c t _ j).trans (pad_rows _ _ _ _ k j))
      (fun k j => (a2_blk m c t _ j).trans (pad_zero _ _ _ k j)) j)
    refine congrArg₂ (fun a b : EReal => a + b) ((h_apply _ _ r k).trans (h_blk m c t r k)) (congrArg₂ (fun a b : EReal => a * b) (dx_blk m c t r k) ?_)
    exact (mu_row _ k).trans (mu_blk m c t k)

/-- Every place of a result is in some tile. -/
theorem place (y : S8192x2048.Idx) : ∃ (t : Fin cfg0.N) (r : Fin 512) (j : Fin 2048), y = ix2 (rowOf t r) j := by
  have hr : (y 0).val < 8192 := (y 0).isLt
  have ht : (y 0).val / 512 < cfg0.N := by show _ < 16; omega
  refine ⟨⟨(y 0).val / 512, ht⟩, ⟨(y 0).val % 512, by omega⟩, y 1, ?_⟩
  funext a
  match a with
  | ⟨0, _⟩ => exact Fin.ext (by show (y 0).val = 512 * ((y 0).val / 512) + (y 0).val % 512; omega)
  | ⟨1, _⟩ => rfl

/-- The kernel's normed rows are the reference's. -/
theorem arr11_eq : (dats m 0 c).arrAt 11 cfg0.N = Cert.Reference7Ideal.Read.val_main_v12 (F := Ideal) (m ((c : Thread nD τ).loc main_arg0))
    (m ((c : Thread nD τ).loc main_arg2)) := by
  funext y
  obtain ⟨t, r, j, rfl⟩ := place y
  exact (arr11_apply m c t r j).trans (ref_h _ _ _ _).symm

/-- So are its differences. -/
theorem arr12_eq : (dats m 0 c).arrAt 12 cfg0.N = Cert.Reference7Ideal.Read.val_main_v18 (F := Ideal) (m ((c : Thread nD τ).loc main_arg0))
    (m ((c : Thread nD τ).loc main_arg1)) (m ((c : Thread nD τ).loc main_arg2)) := by
  funext y
  obtain ⟨t, r, j, rfl⟩ := place y
  exact (arr12_apply m c t r j).trans (ref_dx _ _ _ _ _).symm

/-- So are its rates. -/
theorem arr14_eq : (dats m 0 c).arrAt 14 cfg0.N = Cert.Reference7Ideal.Read.val_main_v35 (F := Ideal) (m ((c : Thread nD τ).loc main_arg0))
    (m ((c : Thread nD τ).loc main_arg1)) (m ((c : Thread nD τ).loc main_arg2)) (m ((c : Thread nD τ).loc main_arg3)) (m ((c : Thread nD τ).loc main_arg7))
    (m ((c : Thread nD τ).loc main_arg8)) (m ((c : Thread nD τ).loc main_arg9)) := by
  funext y
  obtain ⟨t, r, j, rfl⟩ := place y
  exact (arr14_apply m c t r j).trans (ref_a _ _ _ _ _ _ _ _ _).symm

end Cert.ShiftPrompt

end
-- ==== Proof.ShiftPromptClaims.lean ====
/- The claims of the prompt batch's token shift. -/
module

public import proofs.«01_k».proof.Defs
public import proofs.«01_k».proof.Proof.ShiftPromptVal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run

@[expose] public section

noncomputable section

namespace Cert.ShiftPrompt

open Idealize.ShloMosaic Idealize.ShloMosaic.TcCoe Idealize.SL.Sem

/-- The kernel runs and leaves its arguments and semaphores as they were. -/
theorem frame_p : Cert.quiescent_Kernel7 (hKernel7 := Cert.Kernel7.Gen.facts) := fun m ρ _ => Cert.Kernel7.Gen.frame m ρ

/-- So does the kernel over the extended reals. -/
theorem frame_pi : Cert.quiescent_Kernel7Ideal (hKernel7Ideal := Cert.Kernel7Ideal.Gen.facts) := fun m ρ _ => Cert.Kernel7Ideal.Gen.frame m ρ

/-- So does the reference. -/
theorem frame_ri : Cert.quiescent_Reference7Ideal (hReference7Ideal := Cert.Reference7Ideal.Gen.facts) :=
  fun m ρ _ => (θ_run Cert.Reference7Ideal.defs _ _).mono (fun r h => ⟨fun c => (h c).2.2.2, sem_eq_zero_of_no_sems (by decide) r.2⟩)
    (Cert.Reference7Ideal.Value.run (F := Ideal) m ρ)

/-- Nothing was rewritten. -/
theorem preserves : Cert.preserves_Kernel7_Kernel7Ideal := trivial

/-- The kernel computes the reference's three results. -/
theorem algebraic : Cert.algebraic_Kernel7Ideal_Reference7Ideal (hKernel7Ideal := Cert.Kernel7Ideal.Gen.facts)
    (hReference7Ideal := Cert.Reference7Ideal.Gen.facts) := fun m g m' g' _ hagree => by
  refine ⟨fun c => (Cert.Kernel7Ideal.Gen.dats m 0 c).arrAt 11 Cert.Kernel7Ideal.cfg0.N, fun c => (Cert.Kernel7Ideal.Gen.dats m 0 c).arrAt 12 Cert.Kernel7Ideal.cfg0.N,
    fun c => (Cert.Kernel7Ideal.Gen.dats m 0 c).arrAt 14 Cert.Kernel7Ideal.cfg0.N,
    (θ_run Cert.Kernel7Ideal.defs _ _).mono (fun r h c => ⟨(h c).1, (h c).2.1, (h c).2.2.2⟩) (Cert.Kernel7Ideal.Value.run_blocks m g), ?_⟩
  refine (θ_run Cert.Reference7Ideal.defs _ _).mono (fun r h c => ⟨(h c).1.trans ?_, (h c).2.1.trans ?_, (h c).2.2.1.trans ?_, (h c).2.2.2⟩)
    (Cert.Reference7Ideal.Value.run (F := Ideal) m' g')
  · obtain ⟨h0, -, h2, -⟩ := hagree c
    rw [Cert.Reference7Ideal.Read.val_main_v12_eq, h0, h2]
    exact (arr11_eq m c).symm
  · obtain ⟨h0, h1, h2, -⟩ := hagree c
    rw [Cert.Reference7Ideal.Read.val_main_v18_eq, h0, h1, h2]
    exact (arr12_eq m c).symm
  · obtain ⟨h0, h1, h2, h3, -, -, -, h7, h8, h9⟩ := hagree c
    rw [Cert.Reference7Ideal.Read.val_main_v35_eq, h0, h1, h2, h3, h7, h8, h9]
    exact (arr14_eq m c).symm

end Cert.ShiftPrompt

end
-- ==== Proof.ShiftSampleRef.lean ====
/- The sample batch's token shift: the reference's three results, element by element. -/
module

public import proofs.«01_k».proof.Proof.Shift
public import proofs.«01_k».proof.Proof.Gen.Reference8Ideal.Read

@[expose] public section

noncomputable section

namespace Cert.ShiftSample

open Cert.Reference8Ideal Cert.Reference8Ideal.Gen Cert.Reference8Ideal.Read Idealize.ShloMosaic Idealize.ShloMosaic.TcCoe Idealize.ShloMosaic.ValueIdx
open Shift

variable (x0 : FVec Ideal S64x2048 .f32) (x1 : FVec Ideal S8x2048 .f32) (x2 : FVec Ideal S2048 .f32) (x3 : FVec Ideal S6x2048 .f32)
  (x7 : FVec Ideal S2048 .f32) (x8 : FVec Ideal S2048x96 .f32) (x9 : FVec Ideal S96x2048 .f32)

/-- The normed rows. -/
theorem ref_h (i : Fin 64) (q : Fin 2048) :
    val_main_v12 (F := Ideal) x0 x2 (ix2 i q) = Rms.norm (fun k => x0 (ix2 i k)) (fun k => x2 (ix1 k)) q := by
  rw [val_main_v12_apply, val_main_v9_apply, val_main_v11_apply, val_main_v10_apply, val_main_v8_apply, val_main_v7_apply,
    val_main_v6_apply, val_main_v4_apply, val_main_v5_apply, val_main_v3_apply, val_main_v2_apply, val_main_v1_apply]
  unfold Rms.norm Rms.rstd
  refine congrArg₂ (fun a b : EReal => a * b) (congrArg (HMul.hMul (x0 (ix2 i q) : EReal)) ?_) (congrArg x2 (by funext a; fin_cases a; rfl))
  refine congrArg (fun s : EReal => Ideal.rsqrt (Ideal.div s _ + _)) ?_
  refine (congrArg (· + _) Ideal.ofBits_zero_f32).trans ((zero_add _).trans (Finset.sum_congr rfl fun k _ => ?_))
  rw [val_main_v0_apply]
  refine congrArg₂ (fun a b : EReal => a * b) ?_ ?_ <;> exact congrArg x0 (by funext a; fin_cases a <;> rfl)

/-- The rows before: in each sequence the carried row, then all of its normed rows but the last. -/
theorem ref_prev (i : Fin 64) (j : Fin 2048) : val_main_v17 (F := Ideal) x0 x1 x2 (ix2 i j)
    = prev 8 rfl (fun i k => x0 (ix2 i k)) (fun b k => x1 (ix2 b k)) (fun k => x2 (ix1 k)) i j := by
  have hi := i.isLt
  have hj := j.isLt
  rw [val_main_v17_apply]
  unfold val_main_v16 prev
  by_cases h : i.val % 8 = 0
  · rw [if_pos h]
    refine (concatenate_pair_apply_left (t := S8x8x2048) (s₁ := S8x1x2048) (s₂ := S8x7x2048) 1 (val_main_v14 (F := Ideal) x1) (val_main_v15 (F := Ideal) x0 x2) _ _ rfl (ix3 ⟨i.val / 8, by omega⟩ 0 j : S8x1x2048.Idx) fun a => ?_).trans ((val_main_v14_apply (F := Ideal) x1 _).trans (congrArg x1 ?_))
    · match a with
      | ⟨0, _⟩ => show i.val / 8 = (i.val * 2048 + j.val) / 16384; omega
      | ⟨1, _⟩ => show 0 = (i.val * 2048 + j.val) / 2048 % 8; omega
      | ⟨2, _⟩ => show j.val = (i.val * 2048 + j.val) % 2048; omega
    · funext a; fin_cases a <;> rfl
  · rw [if_neg h]
    refine (concatenate_pair_apply_right (t := S8x8x2048) (s₁ := S8x1x2048) (s₂ := S8x7x2048) 1 (val_main_v14 (F := Ideal) x1) (val_main_v15 (F := Ideal) x0 x2) _ _ rfl rfl (ix3 ⟨i.val / 8, by omega⟩ ⟨i.val % 8 - 1, by omega⟩ j : S8x7x2048.Idx) (fun a ha => ?_) ?_).trans ?_
    · match a with
      | ⟨0, _⟩ => show i.val / 8 = (i.val * 2048 + j.val) / 16384; omega
      | ⟨1, _⟩ => exact absurd rfl ha
      | ⟨2, _⟩ => show j.val = (i.val * 2048 + j.val) % 2048; omega
    · show i.val % 8 - 1 + 1 = (i.val * 2048 + j.val) / 2048 % 8; omega
    · rw [val_main_v15_apply, val_main_v13_apply]
      refine (congrArg _ ?_).trans (ref_h x0 x2 ⟨i.val - 1, by omega⟩ j)
      funext a
      match a with
      | ⟨0, _⟩ => exact Fin.ext (by show ((i.val / 8 * 8 + (i.val % 8 - 1)) * 2048 + j.val) / 2048 = i.val - 1; omega)
      | ⟨1, _⟩ => exact Fin.ext (by show ((i.val / 8 * 8 + (i.val % 8 - 1)) * 2048 + j.val) % 2048 = j.val; omega)

/-- The differences. -/
theorem ref_dx (i : Fin 64) (j : Fin 2048) : val_main_v18 (F := Ideal) x0 x1 x2 (ix2 i j)
    = diff 8 rfl (fun i k => x0 (ix2 i k)) (fun b k => x1 (ix2 b k)) (fun k => x2 (ix1 k)) i j :=
  congrArg₂ (fun a b : EReal => a - b) (ref_prev x0 x1 x2 i j) (ref_h x0 x2 i j)

/-- A normed row moved towards the one before it. -/
theorem ref_mix (i : Fin 64) (q : Fin 2048) : (val_main_v24 (F := Ideal) x0 x1 x2 x3 (ix2 i q) : EReal)
    = Rms.norm (fun k => x0 (ix2 i k)) (fun k => x2 (ix1 k)) q
      + diff 8 rfl (fun i k => x0 (ix2 i k)) (fun b k => x1 (ix2 b k)) (fun k => x2 (ix1 k)) i q * x3 (ix2 5 q) := by
  rw [val_main_v24_apply, val_main_v23_apply, val_main_v22_apply, val_main_v21_apply, val_main_v20_apply, val_main_v19_apply]
  refine congrArg₂ (fun a b : EReal => a + b) (ref_h x0 x2 i q) (congrArg₂ (fun a b : EReal => a * b) (ref_dx x0 x1 x2 i q) (congrArg x3 ?_))
  have hq := q.isLt
  funext a
  match a with
  | ⟨0, _⟩ => rfl
  | ⟨1, _⟩ => exact Fin.ext (by show q.val % 2048 = q.val; omega)

/-- The rates. -/
theorem ref_a (i : Fin 64) (j : Fin 2048) : val_main_v35 (F := Ideal) x0 x1 x2 x3 x7 x8 x9 (ix2 i j)
    = rate 8 rfl (fun i k => x0 (ix2 i k)) (fun b k => x1 (ix2 b k)) (fun k => x2 (ix1 k)) (fun k => x3 (ix2 5 k))
        (fun q k => x8 (ix2 q k)) (fun k j => x9 (ix2 k j)) (fun k => x7 (ix1 k)) i j := by
  rw [val_main_v35_apply, val_main_v34_apply, val_main_v33_apply, val_main_v32_apply, val_main_v31_apply, val_main_v30_apply, val_main_v29_apply, val_main_v28_apply,
    val_main_v27_apply, val_main_v26_apply]
  unfold rate low
  refine congrArg gate ((add_comm _ _).trans (congrArg₂ (fun a b : EReal => a + b) (Finset.sum_congr rfl fun k _ => ?_) (congrArg x7 (by funext a; fin_cases a; rfl))))
  refine congrArg₂ (fun a b : EReal => a * b) ?_ (congrArg x9 (by funext a; fin_cases a <;> rfl))
  rw [val_main_v25_apply]
  refine Finset.sum_congr rfl fun q _ => congrArg₂ (fun a b : EReal => a * b) ((congrArg _ ?_).trans (ref_mix x0 x1 x2 x3 i q)) (congrArg x8 ?_)
  · funext a; fin_cases a <;> rfl
  · funext a; fin_cases a <;> rfl

end Cert.ShiftSample

end
-- ==== Proof.ShiftSample.lean ====
/- The sample batch's token shift: the kernel's three results, element by element, and their equations with the reference's. -/
module

public import proofs.«01_k».proof.Proof.Gen.Kernel8Ideal.Value
public import proofs.«01_k».proof.Proof.ShiftSampleRef

@[expose] public section

noncomputable section

namespace Cert.ShiftSample

open Cert.Kernel8Ideal Cert.Kernel8Ideal.Gen Cert.Kernel8Ideal.Value Idealize.ShloMosaic Idealize.ShloMosaic.TcCoe Idealize.ShloMosaic.ValueIdx
open Shift

/-! ## The tile -/

section Tile

variable (x0 : FVec Ideal S64x2048 .f32) (x1 : FVec Ideal S1x8x2048 .f32) (x2 : FVec Ideal S64x2048 .f32) (x3 : FVec Ideal S1x2048 .f32)
  (x4 : FVec Ideal S6x2048 .f32) (x5 : FVec Ideal S2048x128 .bf16) (x6 : FVec Ideal S128x2048 .bf16) (x7 : FVec Ideal S1x2048 .f32)
  (x8 : FVec Ideal S2048x128 .bf16) (x9 : FVec Ideal S128x2048 .bf16) (x10 : FVec Ideal S1x2048 .f32)

/-- Which rows start a sequence. -/
theorem starts : ∀ r : Fin 64, (cmpi .eq (andi (iota .tc S64x1 32 [0] iota_S64x1_d0_w32) (broadcast S64x1 7#32)) (broadcast S64x1 0#32) : IVec S64x1 1) (ix2 r 0)
    = if r.val % 8 = 0 then 1#1 else 0#1 := by
  decide +kernel

theorem h_apply (r : Fin 64) (j : Fin 2048) : k0_pay2 (F := Ideal) x3 x0 (ix2 r j) = Rms.norm (fun k => x0 (ix2 r k)) (fun k => x3 (ix2 0 k)) j :=
  Rms.tile_apply x0 x3 _ _ _ _ _ r j

/-- The difference that the tile stores, the carried rows standing at the rows that start a sequence. -/
theorem dx_apply (sh : Fin 8 → Fin 2048 → EReal)
    (hsh : ∀ (r : Fin 64) (j : Fin 2048), r.val % 8 = 0 → x2 (ix2 r j) = sh ⟨r.val / 8, by have := r.isLt; omega⟩ j) (r : Fin 64) (j : Fin 2048) :
    k0_pay3 (F := Ideal) x3 x0 x2 (ix2 r j) = diff 8 rfl (fun i k => x0 (ix2 i k)) sh (fun k => x3 (ix2 0 k)) r j := by
  unfold k0_pay3 diff prev
  refine congrArg₂ (fun a b : EReal => a - b) ?_ (h_apply x0 x3 r j)
  have hb : broadcastTo S64x2048 (shapeCast S64x1 (cmpi .eq (andi (iota .tc S64x1 32 [0] iota_S64x1_d0_w32) (broadcast S64x1 7#32)) (broadcast S64x1 0#32) : IVec S64x1 1)
      shapeCasts_S64x1_S64x1) broadcasts_S64x1_S64x2048 (ix2 r j) = if r.val % 8 = 0 then 1#1 else 0#1 := by
    rw [shapeCast_self]
    refine (broadcastTo_apply _ _ (ix2 r j) (ix2 r 0) fun a => ?_).trans (starts r)
    match a with
    | ⟨0, _⟩ => rfl
    | ⟨1, _⟩ => rfl
  show Scalar.select (broadcastTo S64x2048 _ _ (ix2 r j)) (shapeCast S64x2048 x2 _ (ix2 r j)) (dynamicRotate 0 1#32 none _ _ (ix2 r j)) = _
  rw [hb, shapeCast_self]
  by_cases h : r.val % 8 = 0
  · rw [if_pos h, if_pos h]
    exact hsh r j h
  · rw [if_neg h, if_neg h]
    refine (if_neg (by decide)).trans ((rotate_apply _ _ r ⟨r.val - 1, by have := r.isLt; omega⟩ (by show r.val - 1 + 1 = r.val; omega) j).trans ?_)
    exact h_apply x0 x3 _ j

/-- An element of the thin product. -/
theorem mm1_apply (x : FVec Ideal S64x2048 .bf16) (w : FVec Ideal S2048x128 .bf16) (r : Fin 64) (j : Fin 128) :
    matmul dot_S64x2048_S2048x128_S64x128_1_0_0_1_n_n none x w (constant S64x128 .f32 0x00000000#32) (ix2 r j)
      = ∑ q : Fin 2048, (x (ix2 r q) : EReal) * w (ix2 q j) := by
  refine (Ideal.matmul_constant_zero_apply _ none _ _ _).trans ?_
  refine Fintype.sum_equiv (contrEquiv1 dot_S64x2048_S2048x128_S64x128_1_0_0_1_n_n 2048 rfl rfl) _ _ fun q => ?_
  refine congrArg₂ (fun a b : EReal => a * b) (congrArg x ?_) (congrArg w ?_) <;> (funext a; fin_cases a <;> rfl)

/-- An element of the flat product. -/
theorem mm2_apply (x : FVec Ideal S64x128 .bf16) (w : FVec Ideal S128x2048 .bf16) (r : Fin 64) (j : Fin 2048) :
    matmul dot_S64x128_S128x2048_S64x2048_1_0_0_1_n_n none x w (constant S64x2048 .f32 0x00000000#32) (ix2 r j)
      = ∑ q : Fin 128, (x (ix2 r q) : EReal) * w (ix2 q j) := by
  refine (Ideal.matmul_constant_zero_apply _ none _ _ _).trans ?_
  refine Fintype.sum_equiv (contrEquiv1 dot_S64x128_S128x2048_S64x2048_1_0_0_1_n_n 128 rfl rfl) _ _ fun q => ?_
  refine congrArg₂ (fun a b : EReal => a * b) (congrArg x ?_) (congrArg w ?_) <;> (funext a; fin_cases a <;> rfl)

/-- The rate that the tile stores, from the normed rows, the differences, a row of the mixing weights and the padded matrices. -/
theorem a_apply (h dx : FVec Ideal S64x2048 .f32) (mu : FVec Ideal S1x2048 .f32) (r : Fin 64) (j : Fin 2048) :
    k0_pay1 (F := Ideal) (k0_pay7 (F := Ideal) h dx mu x8 x9 x10) (Scalar.ofBits .f32 0x3F800000#32) (ix2 r j)
      = gate (low (fun k => h (ix2 r k) + dx (ix2 r k) * mu (ix2 0 k)) (fun q k => x8 (ix2 q k)) (fun k j => x9 (ix2 k j)) j + x10 (ix2 0 j)) := by
  unfold k0_pay1 k0_pay7
  refine (gate_eq _ _).trans (congrArg gate (congrArg₂ (fun a b : EReal => a + b) ?_ ?_))
  · refine (mm2_apply _ _ r j).trans (Finset.sum_congr rfl fun k _ => congrArg₂ (fun a b : EReal => a * b) ((mm1_apply _ _ r k).trans ?_) ?_)
    · refine Finset.sum_congr rfl fun q _ => congrArg₂ (fun a b : EReal => a * b) (congrArg (fun b : EReal => h (ix2 r q) + dx (ix2 r q) * b) ?_) ?_
      · exact broadcastTo_1b_ab_apply _ _ _ _
      · rw [shapeCast_self]
    · rw [shapeCast_self]
  · rw [shapeCast_self]
    exact broadcastTo_1b_ab_apply _ _ _ _

theorem ld_x : View.ld (Val := Elt Ideal) (e' := .f32) x0 r0_1 = x0 :=
  View.ld_unit_lit (S := S64x2048) (Val := Elt Ideal) (e := .f32) (off := ![0, 0]) inb_S64x2048_S64x2048_0_0 x0 (by decide)

theorem ld_row : View.ld (Val := Elt Ideal) (e' := .f32) x3 r0_0 = x3 :=
  View.ld_unit_lit (S := S1x2048) (Val := Elt Ideal) (e := .f32) (off := ![0, 0]) inb_S1x2048_S1x2048_0_0 x3 (by decide)

theorem out11_eq : out0_11 (F := Ideal) x0 x1 x2 x3 x4 x5 x6 x7 x8 x9 x10 = k0_pay2 (F := Ideal) x3 x0 := by
  unfold out0_11
  refine (View.canon_cons_unit_lit _ _ _ (by decide)).trans ?_
  rw [ld_x x0, ld_row x3]

theorem out12_eq : out0_12 (F := Ideal) x0 x1 x2 x3 x4 x5 x6 x7 x8 x9 x10 = k0_pay3 (F := Ideal) x3 x0 x2 := by
  unfold out0_12
  refine (View.canon_cons_unit_lit _ _ _ (by decide)).trans ?_
  rw [ld_x x0, ld_x x2, ld_row x3]

theorem out14_eq : out0_14 (F := Ideal) x0 x1 x2 x3 x4 x5 x6 x7 x8 x9 x10
    = k0_pay1 (F := Ideal) (k0_pay7 (F := Ideal) (k0_pay2 x3 x0) (k0_pay3 x3 x0 x2) (View.ld (Val := Elt Ideal) (e' := .f32) x4 r0_5) x8 x9 x10) (Scalar.ofBits .f32 0x3F800000#32) := by
  unfold out0_14
  refine (View.canon_cons_unit_lit _ _ _ (by decide)).trans ?_
  have e8 := View.ld_unit_lit (S := S2048x128) (Val := Elt Ideal) (e := .bf16) (off := ![0, 0]) inb_S2048x128_S2048x128_0_0 x8 (by decide)
  have e9 := View.ld_unit_lit (S := S128x2048) (Val := Elt Ideal) (e := .bf16) (off := ![0, 0]) inb_S128x2048_S128x2048_0_0 x9 (by decide)
  rw [ld_x x0, ld_x x2, ld_row x3, ld_row x10]
  exact congrArg₂ (fun a b => k0_pay1 (F := Ideal) (k0_pay7 (F := Ideal) (k0_pay2 x3 x0) (k0_pay3 x3 x0 x2) (View.ld (Val := Elt Ideal) (e' := .f32) x4 r0_5) a b x10) (Scalar.ofBits .f32 0x3F800000#32)) e8 e9

theorem mu_row (k : Fin 2048) : View.ld (Val := Elt Ideal) (e' := .f32) x4 r0_5 (ix2 0 k) = x4 (ix2 5 k) := by
  refine congrArg x4 ?_
  funext a
  match a with
  | ⟨0, _⟩ => rfl
  | ⟨1, _⟩ => exact Fin.ext (by show 0 + 1 * k.val = k.val; omega)

end Tile

/-! ## The blocks -/

variable (m : (ℓ : Loc nD τ sig) → Buf (Elt Ideal) ℓ) (c : Dev nD)

/-- The one grid point uses each array whole. -/
theorem pt_idx : ∀ t : Fin grid0.N, (∀ a, win0_0.index t a = 0) ∧ (∀ a, win0_2.index t a = 0) ∧ (∀ a, win0_3.index t a = 0)
    ∧ (∀ a, win0_4.index t a = 0) ∧ (∀ a, win0_8.index t a = 0) ∧ (∀ a, win0_9.index t a = 0) ∧ (∀ a, win0_10.index t a = 0)
    ∧ (∀ a, win0_11.index t a = 0) ∧ (∀ a, win0_12.index t a = 0) ∧ (∀ a, win0_14.index t a = 0)
    ∧ win0_11.flush t = true ∧ win0_12.flush t = true ∧ win0_14.flush t = true := by
  decide +kernel

theorem x_blk (t : Fin cfg0.N) (r : Fin 64) (k : Fin 2048) : iblk m c 0 t (ix2 r k) = m ((c : Thread nD τ).loc main_arg0) (ix2 r k) := by
  have h := (pt_idx t).1
  unfold iblk
  refine (congrFun (V_main_arg0 m c) _).trans (congrArg _ ?_)
  funext a
  match a with
  | ⟨0, _⟩ => exact Fin.ext (by show win0_0.index t 0 * 64 + 1 * r.val = r.val; rw [h]; omega)
  | ⟨1, _⟩ => exact Fin.ext (by show win0_0.index t 1 * 2048 + 1 * k.val = k.val; rw [h]; omega)

/-- The carried rows, each repeated over its sequence. -/
theorem carried (r : Fin 64) (k : Fin 2048) : V m c main_v9 (ix2 r k) = m ((c : Thread nD τ).loc main_arg1) (ix2 ⟨r.val / 8, by have := r.isLt; omega⟩ k) := by
  have h : V m c main_v9 = shapeCast S64x2048 (broadcastInDim S8x8x2048 ![0, 2] bcast_S8x2048_S8x8x2048_0_2 (m ((c : Thread nD τ).loc main_arg1))) shapeCasts_S8x8x2048_S64x2048 := rfl
  have hr := r.isLt
  have hk := k.isLt
  rw [h]
  refine (shapeCast_apply _ shapeCasts_S8x8x2048_S64x2048 (ix2 r k) (ix3 ⟨r.val / 8, by omega⟩ ⟨r.val % 8, by omega⟩ k : S8x8x2048.Idx) ?_).trans ?_
  · rewrite [Shape.rowMajor_val_three, Shape.rowMajor_val_two]
    show (r.val / 8 * 8 + r.val % 8) * 2048 + k.val = r.val * 2048 + k.val
    omega
  · exact broadcastInDim_apply _ bcast_S8x2048_S8x8x2048_0_2 _ _ _ fun a => match a with
      | ⟨0, _⟩ => rfl
      | ⟨1, _⟩ => rfl

theorem sh_blk (t : Fin cfg0.N) (r : Fin 64) (k : Fin 2048) :
    iblk m c 2 t (ix2 r k) = m ((c : Thread nD τ).loc main_arg1) (ix2 ⟨r.val / 8, by have := r.isLt; omega⟩ k) := by
  have h := (pt_idx t).2.1
  refine Eq.trans ?_ (carried m c r k)
  unfold iblk
  refine congrArg (V m c main_v9) ?_
  funext a
  match a with
  | ⟨0, _⟩ => exact Fin.ext (by show win0_2.index t 0 * 64 + 1 * r.val = r.val; rw [h]; omega)
  | ⟨1, _⟩ => exact Fin.ext (by show win0_2.index t 1 * 2048 + 1 * k.val = k.val; rw [h]; omega)

theorem g_blk (t : Fin cfg0.N) (k : Fin 2048) : iblk m c 3 t (ix2 0 k) = m ((c : Thread nD τ).loc main_arg2) (ix1 k) := by
  have h := (pt_idx t).2.2.1
  have hv : V m c main_v11 = shapeCast S1x2048 (m ((c : Thread nD τ).loc main_arg2)) shapeCasts_S2048_S1x2048 := rfl
  refine Eq.trans (b := V m c main_v11 (ix2 0 k)) ?_ (by rw [hv]; exact shapeCast_a_1a_apply _ _ _ _)
  unfold iblk
  refine congrArg (V m c main_v11) ?_
  funext a
  match a with
  | ⟨0, _⟩ => exact Fin.ext (by show win0_3.index t 0 * 1 + 1 * 0 = 0; rw [h])
  | ⟨1, _⟩ => exact Fin.ext (by show win0_3.index t 1 * 2048 + 1 * k.val = k.val; rw [h]; omega)

theorem mu_blk (t : Fin cfg0.N) (k : Fin 2048) : iblk m c 4 t (ix2 5 k) = m ((c : Thread nD τ).loc main_arg3) (ix2 5 k) := by
  have h := (pt_idx t).2.2.2.1
  unfold iblk
  refine (congrFun (V_main_arg3 m c) _).trans (congrArg _ ?_)
  funext a
  match a with
  | ⟨0, _⟩ => exact Fin.ext (by show win0_4.index t 0 * 6 + 1 * 5 = 5; rw [h])
  | ⟨1, _⟩ => exact Fin.ext (by show win0_4.index t 1 * 2048 + 1 * k.val = k.val; rw [h]; omega)

theorem a1_blk (t : Fin cfg0.N) (q : Fin 2048) (k : Fin 128) : (iblk m c 8 t (ix2 q k) : EReal)
    = pad S2048x128 ![0, 0] ![0, 32] ![0, 0] (m ((c : Thread nD τ).loc main_arg8)) (sitofp (F := Ideal) .f32 (fun _ => 0#32)) pads_S2048x96_S2048x128_000_0320 h_S_ (ix2 q k) := by
  have h := (pt_idx t).2.2.2.2.1
  unfold iblk
  refine Eq.trans (b := V m c main_v5 (ix2 q k)) (congrArg (V m c main_v5) ?_) rfl
  funext a
  match a with
  | ⟨0, _⟩ => exact Fin.ext (by show win0_8.index t 0 * 2048 + 1 * q.val = q.val; rw [h]; omega)
  | ⟨1, _⟩ => exact Fin.ext (by show win0_8.index t 1 * 128 + 1 * k.val = k.val; rw [h]; omega)

theorem a2_blk (t : Fin cfg0.N) (k : Fin 128) (j : Fin 2048) : (iblk m c 9 t (ix2 k j) : EReal)
    = pad S128x2048 ![0, 0] ![32, 0] ![0, 0] (m ((c : Thread nD τ).loc main_arg9)) (sitofp (F := Ideal) .f32 (fun _ => 0#32)) pads_S96x2048_S128x2048_0320_000 h_S_ (ix2 k j) := by
  have h := (pt_idx t).2.2.2.2.2.1
  unfold iblk
  refine Eq.trans (b := V m c main_v7 (ix2 k j)) (congrArg (V m c main_v7) ?_) rfl
  funext a
  match a with
  | ⟨0, _⟩ => exact Fin.ext (by show win0_9.index t 0 * 128 + 1 * k.val = k.val; rw [h]; omega)
  | ⟨1, _⟩ => exact Fin.ext (by show win0_9.index t 1 * 2048 + 1 * j.val = j.val; rw [h]; omega)

theorem a0_blk (t : Fin cfg0.N) (k : Fin 2048) : iblk m c 10 t (ix2 0 k) = m ((c : Thread nD τ).loc main_arg7) (ix1 k) := by
  have h := (pt_idx t).2.2.2.2.2.2.1
  have hv : V m c main_v13 = shapeCast S1x2048 (m ((c : Thread nD τ).loc main_arg7)) shapeCasts_S2048_S1x2048 := rfl
  refine Eq.trans (b := V m c main_v13 (ix2 0 k)) ?_ (by rw [hv]; exact shapeCast_a_1a_apply _ _ _ _)
  unfold iblk
  refine congrArg (V m c main_v13) ?_
  funext a
  match a with
  | ⟨0, _⟩ => exact Fin.ext (by show win0_10.index t 0 * 1 + 1 * 0 = 0; rw [h])
  | ⟨1, _⟩ => exact Fin.ext (by show win0_10.index t 1 * 2048 + 1 * k.val = k.val; rw [h]; omega)

/-! ## The results -/

/-- The one grid point. -/
def pt : Fin cfg0.N := ⟨0, by decide⟩

/-- The normed row in the blocks is the normed row. -/
theorem h_blk (r : Fin 64) (j : Fin 2048) : Rms.norm (fun k => iblk m c 0 pt (ix2 r k)) (fun k => iblk m c 3 pt (ix2 0 k)) j
    = Rms.norm (fun k => m ((c : Thread nD τ).loc main_arg0) (ix2 r k)) (fun k => m ((c : Thread nD τ).loc main_arg2) (ix1 k)) j :=
  congrArg₂ (Rms.norm · · j) (funext fun k => x_blk m c pt r k) (funext fun k => g_blk m c pt k)

theorem dx_blk (r : Fin 64) (j : Fin 2048) : k0_pay3 (F := Ideal) (iblk m c 3 pt) (iblk m c 0 pt) (iblk m c 2 pt) (ix2 r j)
    = diff 8 rfl (fun i k => m ((c : Thread nD τ).loc main_arg0) (ix2 i k)) (fun b k => m ((c : Thread nD τ).loc main_arg1) (ix2 b k))
        (fun k => m ((c : Thread nD τ).loc main_arg2) (ix1 k)) r j := by
  refine (dx_apply (iblk m c 0 pt) (iblk m c 2 pt) (iblk m c 3 pt) (fun b k => m ((c : Thread nD τ).loc main_arg1) (ix2 b k)) (fun r j _ => sh_blk m c pt r j) r j).trans ?_
  refine diff_congr (n := 64) (b := 8) 8 rfl _ ?_ ?_ r j
  · intro i k
    exact x_blk m c pt i k
  · intro k
    exact g_blk m c pt k

theorem arr11_apply (r : Fin 64) (j : Fin 2048) : (dats m 0 c).arrAt 11 cfg0.N (ix2 r j)
    = Rms.norm (fun k => m ((c : Thread nD τ).loc main_arg0) (ix2 r k)) (fun k => m ((c : Thread nD τ).loc main_arg2) (ix1 k)) j := by
  obtain ⟨-, -, -, -, -, -, -, h, -, -, hf, -, -⟩ := pt_idx pt
  have hb := congrFun ((blocks11 m c pt hf).trans (flushed11 m c pt)) (ix2 r j)
  refine (congrArg _ ?_).trans (hb.trans ((congrFun (out11_eq _ _ _ _ _ _ _ _ _ _ _) (ix2 r j)).trans ((h_apply _ _ r j).trans (h_blk m c r j))))
  funext a
  match a with
  | ⟨0, _⟩ => exact Fin.ext (by show r.val = win0_11.index pt 0 * 64 + 1 * r.val; rw [h]; omega)
  | ⟨1, _⟩ => exact Fin.ext (by show j.val = win0_11.index pt 1 * 2048 + 1 * j.val; rw [h]; omega)

theorem arr12_apply (r : Fin 64) (j : Fin 2048) : (dats m 0 c).arrAt 12 cfg0.N (ix2 r j)
    = diff 8 rfl (fun i k => m ((c : Thread nD τ).loc main_arg0) (ix2 i k)) (fun b k => m ((c : Thread nD τ).loc main_arg1) (ix2 b k))
        (fun k => m ((c : Thread nD τ).loc main_arg2) (ix1 k)) r j := by
  obtain ⟨-, -, -, -, -, -, -, -, h, -, -, hf, -⟩ := pt_idx pt
  have hb := congrFun ((blocks12 m c pt hf).trans (flushed12 m c pt)) (ix2 r j)
  refine (congrArg _ ?_).trans (hb.trans ((congrFun (out12_eq _ _ _ _ _ _ _ _ _ _ _) (ix2 r j)).trans (dx_blk m c r j)))
  funext a
  match a with
  | ⟨0, _⟩ => exact Fin.ext (by show r.val = win0_12.index pt 0 * 64 + 1 * r.val; rw [h]; omega)
  | ⟨1, _⟩ => exact Fin.ext (by show j.val = win0_12.index pt 1 * 2048 + 1 * j.val; rw [h]; omega)

theorem arr14_apply (r : Fin 64) (j : Fin 2048) : (dats m 0 c).arrAt 14 cfg0.N (ix2 r j)
    = rate 8 rfl (fun i k => m ((c : Thread nD τ).loc main_arg0) (ix2 i k)) (fun b k => m ((c : Thread nD τ).loc main_arg1) (ix2 b k))
        (fun k => m ((c : Thread nD τ).loc main_arg2) (ix1 k)) (fun k => m ((c : Thread nD τ).loc main_arg3) (ix2 5 k))
        (fun q k => m ((c : Thread nD τ).loc main_arg8) (ix2 q k)) (fun k j => m ((c : Thread nD τ).loc main_arg9) (ix2 k j))
        (fun k => m ((c : Thread nD τ).loc main_arg7) (ix1 k)) r j := by
  obtain ⟨-, -, -, -, -, -, -, -, -, h, -, -, hf⟩ := pt_idx pt
  have hb := congrFun ((blocks14 m c pt hf).trans (flushed14 m c pt)) (ix2 r j)
  refine (congrArg _ ?_).trans (hb.trans ((congrFun (out14_eq _ _ _ _ _ _ _ _ _ _ _) (ix2 r j)).trans ((a_apply _ _ _ _ _ _ r j).trans ?_)))
  · funext a
    match a with
    | ⟨0, _⟩ => exact Fin.ext (by show r.val = win0_14.index pt 0 * 64 + 1 * r.val; rw [h]; omega)
    | ⟨1, _⟩ => exact Fin.ext (by show j.val = win0_14.index pt 1 * 2048 + 1 * j.val; rw [h]; omega)
  · unfold rate
    refine congrArg gate (congrArg₂ (fun a b : EReal => a + b) ?_ (a0_blk m c pt j))
    refine (congrArg (fun u => low u _ _ j) (funext fun k => ?_)).trans (low_pad _ _ _ _ _
      (fun q k => (a1_blk m c pt q _).trans (pad_cols _ _ _ _ q k)) (fun k j => (a2_blk m c pt _ j).trans (pad_rows _ _ _ _ k j))
      (fun k j => (a2_blk m c pt _ j).trans (pad_zero _ _ _ k j)) j)
    refine congrArg₂ (fun a b : EReal => a + b) ((h_apply _ _ r k).trans (h_blk m c r k)) (congrArg₂ (fun a b : EReal => a * b) (dx_blk m c r k) ?_)
    exact (mu_row _ k).trans (mu_blk m c pt k)

/-- The kernel's normed rows are the reference's. -/
theorem arr11_eq : (dats m 0 c).arrAt 11 cfg0.N = Cert.Reference8Ideal.Read.val_main_v12 (F := Ideal) (m ((c : Thread nD τ).loc main_arg0))
    (m ((c : Thread nD τ).loc main_arg2)) := by
  funext (y : S64x2048.Idx)
  have hy : y = ix2 (y 0) (y 1) := by funext a; fin_cases a <;> rfl
  rw [hy]
  exact (arr11_apply m c _ _).trans (ref_h _ _ _ _).symm

/-- So are its differences. -/
theorem arr12_eq : (dats m 0 c).arrAt 12 cfg0.N = Cert.Reference8Ideal.Read.val_main_v18 (F := Ideal) (m ((c : Thread nD τ).loc main_arg0))
    (m ((c : Thread nD τ).loc main_arg1)) (m ((c : Thread nD τ).loc main_arg2)) := by
  funext (y : S64x2048.Idx)
  have hy : y = ix2 (y 0) (y 1) := by funext a; fin_cases a <;> rfl
  rw [hy]
  exact (arr12_apply m c _ _).trans (ref_dx _ _ _ _ _).symm

/-- So are its rates. -/
theorem arr14_eq : (dats m 0 c).arrAt 14 cfg0.N = Cert.Reference8Ideal.Read.val_main_v35 (F := Ideal) (m ((c : Thread nD τ).loc main_arg0))
    (m ((c : Thread nD τ).loc main_arg1)) (m ((c : Thread nD τ).loc main_arg2)) (m ((c : Thread nD τ).loc main_arg3)) (m ((c : Thread nD τ).loc main_arg7))
    (m ((c : Thread nD τ).loc main_arg8)) (m ((c : Thread nD τ).loc main_arg9)) := by
  funext (y : S64x2048.Idx)
  have hy : y = ix2 (y 0) (y 1) := by funext a; fin_cases a <;> rfl
  rw [hy]
  exact (arr14_apply m c _ _).trans (ref_a _ _ _ _ _ _ _ _ _).symm

end Cert.ShiftSample

end
-- ==== Proof.ShiftSampleClaims.lean ====
/- The claims of the sample batch's token shift. -/
module

public import proofs.«01_k».proof.Defs
public import proofs.«01_k».proof.Proof.ShiftSample
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run

@[expose] public section

noncomputable section

namespace Cert.ShiftSample

open Idealize.ShloMosaic Idealize.ShloMosaic.TcCoe Idealize.SL.Sem

/-- The kernel runs and leaves its arguments and semaphores as they were. -/
theorem frame_p : Cert.quiescent_Kernel8 (hKernel8 := Cert.Kernel8.Gen.facts) := fun m ρ _ => Cert.Kernel8.Gen.frame m ρ

/-- So does the kernel over the extended reals. -/
theorem frame_pi : Cert.quiescent_Kernel8Ideal (hKernel8Ideal := Cert.Kernel8Ideal.Gen.facts) := fun m ρ _ => Cert.Kernel8Ideal.Gen.frame m ρ

/-- So does the reference. -/
theorem frame_ri : Cert.quiescent_Reference8Ideal (hReference8Ideal := Cert.Reference8Ideal.Gen.facts) :=
  fun m ρ _ => (θ_run Cert.Reference8Ideal.defs _ _).mono (fun r h => ⟨fun c => (h c).2.2.2, sem_eq_zero_of_no_sems (by decide) r.2⟩)
    (Cert.Reference8Ideal.Value.run (F := Ideal) m ρ)

/-- Nothing was rewritten. -/
theorem preserves : Cert.preserves_Kernel8_Kernel8Ideal := trivial

/-- The kernel computes the reference's three results. -/
theorem algebraic : Cert.algebraic_Kernel8Ideal_Reference8Ideal (hKernel8Ideal := Cert.Kernel8Ideal.Gen.facts)
    (hReference8Ideal := Cert.Reference8Ideal.Gen.facts) := fun m g m' g' _ hagree => by
  refine ⟨fun c => (Cert.Kernel8Ideal.Gen.dats m 0 c).arrAt 11 Cert.Kernel8Ideal.cfg0.N, fun c => (Cert.Kernel8Ideal.Gen.dats m 0 c).arrAt 12 Cert.Kernel8Ideal.cfg0.N,
    fun c => (Cert.Kernel8Ideal.Gen.dats m 0 c).arrAt 14 Cert.Kernel8Ideal.cfg0.N,
    (θ_run Cert.Kernel8Ideal.defs _ _).mono (fun r h c => ⟨(h c).1, (h c).2.1, (h c).2.2.2⟩) (Cert.Kernel8Ideal.Value.run_blocks m g), ?_⟩
  refine (θ_run Cert.Reference8Ideal.defs _ _).mono (fun r h c => ⟨(h c).1.trans ?_, (h c).2.1.trans ?_, (h c).2.2.1.trans ?_, (h c).2.2.2⟩)
    (Cert.Reference8Ideal.Value.run (F := Ideal) m' g')
  · obtain ⟨h0, -, h2, -⟩ := hagree c
    rw [Cert.Reference8Ideal.Read.val_main_v12_eq, h0, h2]
    exact (arr11_eq m c).symm
  · obtain ⟨h0, h1, h2, -⟩ := hagree c
    rw [Cert.Reference8Ideal.Read.val_main_v18_eq, h0, h1, h2]
    exact (arr12_eq m c).symm
  · obtain ⟨h0, h1, h2, h3, -, -, -, h7, h8, h9⟩ := hagree c
    rw [Cert.Reference8Ideal.Read.val_main_v35_eq, h0, h1, h2, h3, h7, h8, h9]
    exact (arr14_eq m c).symm

end Cert.ShiftSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Attn
public import proofs.«01_k».proof.Proof.NormMmClaims
public import proofs.«01_k».proof.Proof.MmResClaims
public import proofs.«01_k».proof.Proof.ValMmClaims
public import proofs.«01_k».proof.Proof.KeySampleClaims
public import proofs.«01_k».proof.Proof.ValSampleClaims
public import proofs.«01_k».proof.Proof.ProjClaims
public import proofs.«01_k».proof.Proof.ColsClaims
public import proofs.«01_k».proof.Proof.MmPlainClaims
public import proofs.«01_k».proof.Proof.ShiftPromptClaims
public import proofs.«01_k».proof.Proof.ShiftSampleClaims
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3.Skeleton
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel10
public import proofs.«01_k».proof.Proof.Gen.Kernel10Ideal
public import proofs.«01_k».proof.Proof.Gen.Kernel10.Skeleton
public import proofs.«01_k».proof.Proof.Gen.Kernel10Ideal.Skeleton
public import proofs.«01_k».proof.Proof.Gen.Kernel10.Launch
public import proofs.«01_k».proof.Proof.Gen.Kernel10Ideal.Launch
public import proofs.«01_k».proof.Proof.Gen.Kernel10.Points
public import proofs.«01_k».proof.Proof.Gen.Kernel10Ideal.Points
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11.Skeleton
public import proofs.«01_k».proof.Proof.Gen.Kernel11Ideal.Skeleton
public import proofs.«01_k».proof.Proof.Gen.Kernel11.Launch
public import proofs.«01_k».proof.Proof.Gen.Kernel11Ideal.Launch
public import proofs.«01_k».proof.Proof.Gen.Kernel11.Points
public import proofs.«01_k».proof.Proof.Gen.Kernel11Ideal.Points
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem Cert.Kernel

/-- Everything that the statement claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel9.Gen.facts, Cert.Kernel9Ideal.Gen.facts, Cert.Reference9Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Attn.frame_p, Cert.Attn.frame_pi, Cert.Attn.frame_ri,
    Cert.NormMm.frame_p, Cert.NormMm.frame_pi, Cert.NormMm.frame_ri,
    Cert.Proj.frame_p, Cert.Proj.frame_pi, Cert.Proj.frame_ri,
    Cert.MmRes.frame_p, Cert.MmRes.frame_pi, Cert.MmRes.frame_ri,
    Cert.ValMm.frame_p, Cert.ValMm.frame_pi, Cert.ValMm.frame_ri,
    Cert.KeySample.frame_p, Cert.KeySample.frame_pi, Cert.KeySample.frame_ri,
    Cert.ValSample.frame_p, Cert.ValSample.frame_pi, Cert.ValSample.frame_ri,
    Cert.ShiftPrompt.frame_p, Cert.ShiftPrompt.frame_pi, Cert.ShiftPrompt.frame_ri,
    Cert.ShiftSample.frame_p, Cert.ShiftSample.frame_pi, Cert.ShiftSample.frame_ri,
    Cert.Cols.frame_p, Cert.Cols.frame_pi, Cert.Cols.frame_ri,
    Cert.MmPlain.frame_p, Cert.MmPlain.frame_pi, Cert.MmPlain.frame_ri,
    Cert.Attn.preserves, Cert.Attn.algebraic, Cert.NormMm.preserves, Cert.NormMm.algebraic,
    Cert.Proj.preserves, Cert.Proj.algebraic, Cert.MmRes.preserves, Cert.MmRes.algebraic,
    Cert.ValMm.preserves, Cert.ValMm.algebraic, Cert.KeySample.preserves, Cert.KeySample.algebraic, Cert.ValSample.preserves, Cert.ValSample.algebraic,
    Cert.ShiftPrompt.preserves, Cert.ShiftPrompt.algebraic, Cert.ShiftSample.preserves, Cert.ShiftSample.algebraic,
    Cert.Cols.preserves, Cert.Cols.algebraic, Cert.MmPlain.preserves, Cert.MmPlain.algebraic⟩

end Cert.Proof

end
